-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S96x512x512 : Shape := ⟨3, ![96, 512, 512]⟩
abbrev S32x16 : Shape := ⟨2, ![32, 16]⟩
abbrev S2x64x512 : Shape := ⟨3, ![2, 64, 512]⟩
abbrev S16 : Shape := ⟨1, ![16]⟩
abbrev S_ : Shape := ⟨0, ![]⟩
abbrev S1x64x512 : Shape := ⟨3, ![1, 64, 512]⟩
abbrev S64x512 : Shape := ⟨2, ![64, 512]⟩
abbrev S1x16 : Shape := ⟨2, ![1, 16]⟩
abbrev S32 : Shape := ⟨1, ![32]⟩
abbrev S32x1600 : Shape := ⟨2, ![32, 1600]⟩
abbrev S1600 : Shape := ⟨1, ![1600]⟩
abbrev S1x1600 : Shape := ⟨2, ![1, 1600]⟩
abbrev S32x100x16 : Shape := ⟨3, ![32, 100, 16]⟩
abbrev S100 : Shape := ⟨1, ![100]⟩

abbrev nBuf : Table → Nat
  | .hbm => 25
  | .local .scVector .vmem => 6
  | _ => 0

abbrev bufTy : (tb : Table) → Fin (nBuf tb) → BufTy
  | .hbm, ⟨0, _⟩ => ⟨S32x3x512x512, .f32⟩
  | .hbm, ⟨1, _⟩ => ⟨S32x3x512x512, .f32⟩
  | .hbm, ⟨2, _⟩ => ⟨S96x512x512, .f32⟩
  | .hbm, ⟨3, _⟩ => ⟨S96x512x512, .f32⟩
  | .hbm, ⟨4, _⟩ => ⟨S32x16, .f32⟩
  | .hbm, ⟨5, _⟩ => ⟨S32x16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S32, .f32⟩
  | .hbm, ⟨16, _⟩ => ⟨S32x1600, .f32⟩
  | .hbm, ⟨17, _⟩ => ⟨S32x100x16, .f32⟩
  | .hbm, ⟨18, _⟩ => ⟨S_, .f32⟩
  | .hbm, ⟨19, _⟩ => ⟨S100, .f32⟩
  | .hbm, ⟨20, _⟩ => ⟨S100, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local .scVector .vmem, ⟨0, _⟩ => ⟨S2x64x512, .f32⟩
  | .local .scVector .vmem, ⟨1, _⟩ => ⟨S16, .f32⟩
  | .local .scVector .vmem, ⟨2, _⟩ => ⟨S16, .f32⟩
  | .local .scVector .vmem, ⟨3, _⟩ => ⟨S2x64x512, .f32⟩
  | .local .scVector .vmem, ⟨4, _⟩ => ⟨S1600, .f32⟩
  | .local .scVector .vmem, ⟨5, _⟩ => ⟨S32, .f32⟩
  | _, _ => ⟨S32x3x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v0_scv : Ref sig .scVector := ⟨.hbm, 2, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev main_v9_scv : Ref sig .scVector := ⟨.hbm, 15, rfl⟩
abbrev main_v10_scv : Ref sig .scVector := ⟨.hbm, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c0_i32 : BitVec 32 := 0#32
  let v19 : BitVec 32 := Scalar.addi v2 c0_i32
  let c0_i32_18 : BitVec 32 := 0#32
  let c0_i32_19 : BitVec 32 := 0#32
  ![v19.toNat, 0, 0]
@[reducible] def k0_t1_loop : Scf.Loop 32 :=
  let c0_i32_24 : BitVec 32 := 0#32
  let c12_i32 : BitVec 32 := 12#32
  let v28 : BitVec 32 := Scalar.addi c0_i32_24 c12_i32
  let c1_i32 : BitVec 32 := 1#32
  ⟨c0_i32_24, v28, c1_i32⟩
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c2_i32_51 : BitVec 32 := 2#32
  let c0_i32_24 : BitVec 32 := 0#32
  let c1_i32 : BitVec 32 := 1#32
  let arg11 : BitVec 32 := Scf.iv c0_i32_24 c1_i32 k0_t1
  let v65 : BitVec 32 := Scalar.muli c2_i32_51 arg11
  let c1_i32_52 : BitVec 32 := 1#32
  let v66 : BitVec 32 := Scalar.addi v65 c1_i32_52
  let c3_i32_53 : BitVec 32 := 3#32
  let v67 : BitVec 32 := Scalar.shrsi v66 c3_i32_53
  let v68 : BitVec 32 := Scalar.addi v2 v67
  let c7_i32 : BitVec 32 := 7#32
  let v69 : BitVec 32 := Scalar.andi v66 c7_i32
  let c64_i32 : BitVec 32 := 64#32
  let v70 : BitVec 32 := Scalar.muli v69 c64_i32
  let c0_i32_57 : BitVec 32 := 0#32
  ![v68.toNat, v70.toNat, 0]
@[reducible] def k0_t2_loop : Scf.Loop 32 :=
  let c0_i32_62 : BitVec 32 := 0#32
  let c64_i32_63 : BitVec 32 := 64#32
  let v79 : BitVec 32 := Scalar.addi c0_i32_62 c64_i32_63
  let c1_i32_64 : BitVec 32 := 1#32
  ⟨c0_i32_62, v79, c1_i32_64⟩
def k0_off3 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v96 : Index := Scalar.indexCast arg28
  let c0_84 : Index := 0#32
  ![v96.toNat, 0]
def k0_off4 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v100 : Index := Scalar.indexCast arg28
  let c16 : Index := 16#32
  ![v100.toNat, 16]
def k0_off5 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v104 : Index := Scalar.indexCast arg28
  let c32 : Index := 32#32
  ![v104.toNat, 32]
def k0_off6 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v108 : Index := Scalar.indexCast arg28
  let c48 : Index := 48#32
  ![v108.toNat, 48]
def k0_off7 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v112 : Index := Scalar.indexCast arg28
  let c64 : Index := 64#32
  ![v112.toNat, 64]
def k0_off8 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v116 : Index := Scalar.indexCast arg28
  let c80 : Index := 80#32
  ![v116.toNat, 80]
def k0_off9 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v120 : Index := Scalar.indexCast arg28
  let c96 : Index := 96#32
  ![v120.toNat, 96]
def k0_off10 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v124 : Index := Scalar.indexCast arg28
  let c112 : Index := 112#32
  ![v124.toNat, 112]
def k0_off11 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v144 : Index := Scalar.indexCast arg28
  let c128 : Index := 128#32
  ![v144.toNat, 128]
def k0_off12 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v148 : Index := Scalar.indexCast arg28
  let c144 : Index := 144#32
  ![v148.toNat, 144]
def k0_off13 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v152 : Index := Scalar.indexCast arg28
  let c160 : Index := 160#32
  ![v152.toNat, 160]
def k0_off14 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v156 : Index := Scalar.indexCast arg28
  let c176 : Index := 176#32
  ![v156.toNat, 176]
def k0_off15 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v160 : Index := Scalar.indexCast arg28
  let c192 : Index := 192#32
  ![v160.toNat, 192]
def k0_off16 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v164 : Index := Scalar.indexCast arg28
  let c208 : Index := 208#32
  ![v164.toNat, 208]
def k0_off17 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v168 : Index := Scalar.indexCast arg28
  let c224 : Index := 224#32
  ![v168.toNat, 224]
def k0_off18 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v172 : Index := Scalar.indexCast arg28
  let c240 : Index := 240#32
  ![v172.toNat, 240]
def k0_off19 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v192 : Index := Scalar.indexCast arg28
  let c256 : Index := 256#32
  ![v192.toNat, 256]
def k0_off20 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v196 : Index := Scalar.indexCast arg28
  let c272 : Index := 272#32
  ![v196.toNat, 272]
def k0_off21 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v200 : Index := Scalar.indexCast arg28
  let c288 : Index := 288#32
  ![v200.toNat, 288]
def k0_off22 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v204 : Index := Scalar.indexCast arg28
  let c304 : Index := 304#32
  ![v204.toNat, 304]
def k0_off23 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v208 : Index := Scalar.indexCast arg28
  let c320 : Index := 320#32
  ![v208.toNat, 320]
def k0_off24 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v212 : Index := Scalar.indexCast arg28
  let c336 : Index := 336#32
  ![v212.toNat, 336]
def k0_off25 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v216 : Index := Scalar.indexCast arg28
  let c352 : Index := 352#32
  ![v216.toNat, 352]
def k0_off26 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v220 : Index := Scalar.indexCast arg28
  let c368 : Index := 368#32
  ![v220.toNat, 368]
def k0_off27 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v240 : Index := Scalar.indexCast arg28
  let c384 : Index := 384#32
  ![v240.toNat, 384]
def k0_off28 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v244 : Index := Scalar.indexCast arg28
  let c400 : Index := 400#32
  ![v244.toNat, 400]
def k0_off29 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v248 : Index := Scalar.indexCast arg28
  let c416 : Index := 416#32
  ![v248.toNat, 416]
def k0_off30 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v252 : Index := Scalar.indexCast arg28
  let c432 : Index := 432#32
  ![v252.toNat, 432]
def k0_off31 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v256 : Index := Scalar.indexCast arg28
  let c448 : Index := 448#32
  ![v256.toNat, 448]
def k0_off32 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v260 : Index := Scalar.indexCast arg28
  let c464 : Index := 464#32
  ![v260.toNat, 464]
def k0_off33 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v264 : Index := Scalar.indexCast arg28
  let c480 : Index := 480#32
  ![v264.toNat, 480]
def k0_off34 (k0_t2 : Fin k0_t2_loop.trips) : Fin 2 → Nat :=
  let c0_i32_62 : BitVec 32 := 0#32
  let c1_i32_64 : BitVec 32 := 1#32
  let arg28 : BitVec 32 := Scf.iv c0_i32_62 c1_i32_64 k0_t2
  let v268 : Index := Scalar.indexCast arg28
  let c496 : Index := 496#32
  ![v268.toNat, 496]
def k0_cond1 (k0_t1 : Fin k0_t1_loop.trips) : BitVec 1 :=
  let c0_i32_24 : BitVec 32 := 0#32
  let c1_i32 : BitVec 32 := 1#32
  let arg11 : BitVec 32 := Scf.iv c0_i32_24 c1_i32 k0_t1
  let c11_i32 : BitVec 32 := 11#32
  let v89 : BitVec 1 := Scalar.cmpi .slt arg11 c11_i32
  let v90 : BitVec 32 := Scalar.extui v89
  let c0_i32_76 : BitVec 32 := 0#32
  let v91 : BitVec 1 := Scalar.cmpi .ne v90 c0_i32_76
  v91

def k0_off35 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c2_i32_82 : BitVec 32 := 2#32
  let c0_i32_24 : BitVec 32 := 0#32
  let c1_i32 : BitVec 32 := 1#32
  let arg11 : BitVec 32 := Scf.iv c0_i32_24 c1_i32 k0_t1
  let v94 : BitVec 32 := Scalar.muli c2_i32_82 arg11
  let c2_i32_83 : BitVec 32 := 2#32
  let v95 : BitVec 32 := Scalar.addi v94 c2_i32_83
  let c3_i32_84 : BitVec 32 := 3#32
  let v96 : BitVec 32 := Scalar.shrsi v95 c3_i32_84
  let v97 : BitVec 32 := Scalar.addi v2 v96
  let c7_i32_85 : BitVec 32 := 7#32
  let v98 : BitVec 32 := Scalar.andi v95 c7_i32_85
  let c64_i32_86 : BitVec 32 := 64#32
  let v99 : BitVec 32 := Scalar.muli v98 c64_i32_86
  let c0_i32_90 : BitVec 32 := 0#32
  ![v97.toNat, v99.toNat, 0]
@[reducible] def k0_t3_loop : Scf.Loop 32 :=
  let c0_i32_78 : BitVec 32 := 0#32
  let c64_i32_79 : BitVec 32 := 64#32
  let v92 : BitVec 32 := Scalar.addi c0_i32_78 c64_i32_79
  let c1_i32_80 : BitVec 32 := 1#32
  ⟨c0_i32_78, v92, c1_i32_80⟩
def k0_off36 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v96 : Index := Scalar.indexCast arg28
  let c0_84 : Index := 0#32
  ![v96.toNat, 0]
def k0_off37 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v100 : Index := Scalar.indexCast arg28
  let c16 : Index := 16#32
  ![v100.toNat, 16]
def k0_off38 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v104 : Index := Scalar.indexCast arg28
  let c32 : Index := 32#32
  ![v104.toNat, 32]
def k0_off39 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v108 : Index := Scalar.indexCast arg28
  let c48 : Index := 48#32
  ![v108.toNat, 48]
def k0_off40 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v112 : Index := Scalar.indexCast arg28
  let c64 : Index := 64#32
  ![v112.toNat, 64]
def k0_off41 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v116 : Index := Scalar.indexCast arg28
  let c80 : Index := 80#32
  ![v116.toNat, 80]
def k0_off42 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v120 : Index := Scalar.indexCast arg28
  let c96 : Index := 96#32
  ![v120.toNat, 96]
def k0_off43 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v124 : Index := Scalar.indexCast arg28
  let c112 : Index := 112#32
  ![v124.toNat, 112]
def k0_off44 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v144 : Index := Scalar.indexCast arg28
  let c128 : Index := 128#32
  ![v144.toNat, 128]
def k0_off45 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v148 : Index := Scalar.indexCast arg28
  let c144 : Index := 144#32
  ![v148.toNat, 144]
def k0_off46 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v152 : Index := Scalar.indexCast arg28
  let c160 : Index := 160#32
  ![v152.toNat, 160]
def k0_off47 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v156 : Index := Scalar.indexCast arg28
  let c176 : Index := 176#32
  ![v156.toNat, 176]
def k0_off48 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v160 : Index := Scalar.indexCast arg28
  let c192 : Index := 192#32
  ![v160.toNat, 192]
def k0_off49 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v164 : Index := Scalar.indexCast arg28
  let c208 : Index := 208#32
  ![v164.toNat, 208]
def k0_off50 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v168 : Index := Scalar.indexCast arg28
  let c224 : Index := 224#32
  ![v168.toNat, 224]
def k0_off51 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v172 : Index := Scalar.indexCast arg28
  let c240 : Index := 240#32
  ![v172.toNat, 240]
def k0_off52 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v192 : Index := Scalar.indexCast arg28
  let c256 : Index := 256#32
  ![v192.toNat, 256]
def k0_off53 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v196 : Index := Scalar.indexCast arg28
  let c272 : Index := 272#32
  ![v196.toNat, 272]
def k0_off54 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v200 : Index := Scalar.indexCast arg28
  let c288 : Index := 288#32
  ![v200.toNat, 288]
def k0_off55 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v204 : Index := Scalar.indexCast arg28
  let c304 : Index := 304#32
  ![v204.toNat, 304]
def k0_off56 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v208 : Index := Scalar.indexCast arg28
  let c320 : Index := 320#32
  ![v208.toNat, 320]
def k0_off57 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v212 : Index := Scalar.indexCast arg28
  let c336 : Index := 336#32
  ![v212.toNat, 336]
def k0_off58 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v216 : Index := Scalar.indexCast arg28
  let c352 : Index := 352#32
  ![v216.toNat, 352]
def k0_off59 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v220 : Index := Scalar.indexCast arg28
  let c368 : Index := 368#32
  ![v220.toNat, 368]
def k0_off60 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v240 : Index := Scalar.indexCast arg28
  let c384 : Index := 384#32
  ![v240.toNat, 384]
def k0_off61 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v244 : Index := Scalar.indexCast arg28
  let c400 : Index := 400#32
  ![v244.toNat, 400]
def k0_off62 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v248 : Index := Scalar.indexCast arg28
  let c416 : Index := 416#32
  ![v248.toNat, 416]
def k0_off63 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v252 : Index := Scalar.indexCast arg28
  let c432 : Index := 432#32
  ![v252.toNat, 432]
def k0_off64 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v256 : Index := Scalar.indexCast arg28
  let c448 : Index := 448#32
  ![v256.toNat, 448]
def k0_off65 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v260 : Index := Scalar.indexCast arg28
  let c464 : Index := 464#32
  ![v260.toNat, 464]
def k0_off66 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v264 : Index := Scalar.indexCast arg28
  let c480 : Index := 480#32
  ![v264.toNat, 480]
def k0_off67 (k0_t3 : Fin k0_t3_loop.trips) : Fin 2 → Nat :=
  let c0_i32_78 : BitVec 32 := 0#32
  let c1_i32_80 : BitVec 32 := 1#32
  let arg28 : BitVec 32 := Scf.iv c0_i32_78 c1_i32_80 k0_t3
  let v268 : Index := Scalar.indexCast arg28
  let c496 : Index := 496#32
  ![v268.toNat, 496]
@[reducible] def k0_t4_loop : Scf.Loop 32 :=
  let c0_i32_36 : BitVec 32 := 0#32
  let c12_i32_37 : BitVec 32 := 12#32
  let v39 : BitVec 32 := Scalar.addi c0_i32_36 c12_i32_37
  let c1_i32_38 : BitVec 32 := 1#32
  ⟨c0_i32_36, v39, c1_i32_38⟩
def k0_off68 (i : grid0.Coords) (k0_t4 : Fin k0_t4_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c2_i32_51 : BitVec 32 := 2#32
  let c0_i32_36 : BitVec 32 := 0#32
  let c1_i32_38 : BitVec 32 := 1#32
  let arg11 : BitVec 32 := Scf.iv c0_i32_36 c1_i32_38 k0_t4
  let v65 : BitVec 32 := Scalar.muli c2_i32_51 arg11
  let c1_i32_52 : BitVec 32 := 1#32
  let v66 : BitVec 32 := Scalar.addi v65 c1_i32_52
  let c3_i32_53 : BitVec 32 := 3#32
  let v67 : BitVec 32 := Scalar.shrsi v66 c3_i32_53
  let v68 : BitVec 32 := Scalar.addi v2 v67
  let c7_i32 : BitVec 32 := 7#32
  let v69 : BitVec 32 := Scalar.andi v66 c7_i32
  let c64_i32 : BitVec 32 := 64#32
  let v70 : BitVec 32 := Scalar.muli v69 c64_i32
  let c0_i32_57 : BitVec 32 := 0#32
  ![v68.toNat, v70.toNat, 0]
@[reducible] def k0_t5_loop : Scf.Loop 32 :=
  let c0_i32_62 : BitVec 32 := 0#32
  let c64_i32_63 : BitVec 32 := 64#32
  let v79 : BitVec 32 := Scalar.addi c0_i32_62 c64_i32_63
  let c1_i32_64 : BitVec 32 := 1#32
  ⟨c0_i32_62, v79, c1_i32_64⟩
def k0_off69 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v96 : Index := Scalar.indexCast arg28
  let c0_84 : Index := 0#32
  ![v96.toNat, 0]
def k0_off70 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v100 : Index := Scalar.indexCast arg28
  let c16 : Index := 16#32
  ![v100.toNat, 16]
def k0_off71 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v104 : Index := Scalar.indexCast arg28
  let c32 : Index := 32#32
  ![v104.toNat, 32]
def k0_off72 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v108 : Index := Scalar.indexCast arg28
  let c48 : Index := 48#32
  ![v108.toNat, 48]
def k0_off73 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v112 : Index := Scalar.indexCast arg28
  let c64 : Index := 64#32
  ![v112.toNat, 64]
def k0_off74 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v116 : Index := Scalar.indexCast arg28
  let c80 : Index := 80#32
  ![v116.toNat, 80]
def k0_off75 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v120 : Index := Scalar.indexCast arg28
  let c96 : Index := 96#32
  ![v120.toNat, 96]
def k0_off76 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v124 : Index := Scalar.indexCast arg28
  let c112 : Index := 112#32
  ![v124.toNat, 112]
def k0_off77 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v144 : Index := Scalar.indexCast arg28
  let c128 : Index := 128#32
  ![v144.toNat, 128]
def k0_off78 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v148 : Index := Scalar.indexCast arg28
  let c144 : Index := 144#32
  ![v148.toNat, 144]
def k0_off79 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v152 : Index := Scalar.indexCast arg28
  let c160 : Index := 160#32
  ![v152.toNat, 160]
def k0_off80 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v156 : Index := Scalar.indexCast arg28
  let c176 : Index := 176#32
  ![v156.toNat, 176]
def k0_off81 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v160 : Index := Scalar.indexCast arg28
  let c192 : Index := 192#32
  ![v160.toNat, 192]
def k0_off82 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v164 : Index := Scalar.indexCast arg28
  let c208 : Index := 208#32
  ![v164.toNat, 208]
def k0_off83 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v168 : Index := Scalar.indexCast arg28
  let c224 : Index := 224#32
  ![v168.toNat, 224]
def k0_off84 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v172 : Index := Scalar.indexCast arg28
  let c240 : Index := 240#32
  ![v172.toNat, 240]
def k0_off85 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v192 : Index := Scalar.indexCast arg28
  let c256 : Index := 256#32
  ![v192.toNat, 256]
def k0_off86 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v196 : Index := Scalar.indexCast arg28
  let c272 : Index := 272#32
  ![v196.toNat, 272]
def k0_off87 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v200 : Index := Scalar.indexCast arg28
  let c288 : Index := 288#32
  ![v200.toNat, 288]
def k0_off88 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v204 : Index := Scalar.indexCast arg28
  let c304 : Index := 304#32
  ![v204.toNat, 304]
def k0_off89 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v208 : Index := Scalar.indexCast arg28
  let c320 : Index := 320#32
  ![v208.toNat, 320]
def k0_off90 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v212 : Index := Scalar.indexCast arg28
  let c336 : Index := 336#32
  ![v212.toNat, 336]
def k0_off91 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v216 : Index := Scalar.indexCast arg28
  let c352 : Index := 352#32
  ![v216.toNat, 352]
def k0_off92 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v220 : Index := Scalar.indexCast arg28
  let c368 : Index := 368#32
  ![v220.toNat, 368]
def k0_off93 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v240 : Index := Scalar.indexCast arg28
  let c384 : Index := 384#32
  ![v240.toNat, 384]
def k0_off94 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v244 : Index := Scalar.indexCast arg28
  let c400 : Index := 400#32
  ![v244.toNat, 400]
def k0_off95 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v248 : Index := Scalar.indexCast arg28
  let c416 : Index := 416#32
  ![v248.toNat, 416]
def k0_off96 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v252 : Index := Scalar.indexCast arg28
  let c432 : Index := 432#32
  ![v252.toNat, 432]
def k0_off97 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v256 : Index := Scalar.indexCast arg28
  let c448 : Index := 448#32
  ![v256.toNat, 448]
def k0_off98 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v260 : Index := Scalar.indexCast arg28
  let c464 : Index := 464#32
  ![v260.toNat, 464]
def k0_off99 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v264 : Index := Scalar.indexCast arg28
  let c480 : Index := 480#32
  ![v264.toNat, 480]
def k0_off100 (k0_t5 : Fin k0_t5_loop.trips) : Fin 2 → Nat :=
  let c0_i32_62 : BitVec 32 := 0#32
  let c1_i32_64 : BitVec 32 := 1#32
  let arg28 : BitVec 32 := Scf.iv c0_i32_62 c1_i32_64 k0_t5
  let v268 : Index := Scalar.indexCast arg28
  let c496 : Index := 496#32
  ![v268.toNat, 496]
def k0_cond2 (k0_t4 : Fin k0_t4_loop.trips) : BitVec 1 :=
  let c0_i32_36 : BitVec 32 := 0#32
  let c1_i32_38 : BitVec 32 := 1#32
  let arg11 : BitVec 32 := Scf.iv c0_i32_36 c1_i32_38 k0_t4
  let c11_i32 : BitVec 32 := 11#32
  let v89 : BitVec 1 := Scalar.cmpi .slt arg11 c11_i32
  let v90 : BitVec 32 := Scalar.extui v89
  let c0_i32_76 : BitVec 32 := 0#32
  let v91 : BitVec 1 := Scalar.cmpi .ne v90 c0_i32_76
  v91

def k0_off101 (i : grid0.Coords) (k0_t4 : Fin k0_t4_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c2_i32_82 : BitVec 32 := 2#32
  let c0_i32_36 : BitVec 32 := 0#32
  let c1_i32_38 : BitVec 32 := 1#32
  let arg11 : BitVec 32 := Scf.iv c0_i32_36 c1_i32_38 k0_t4
  let v94 : BitVec 32 := Scalar.muli c2_i32_82 arg11
  let c2_i32_83 : BitVec 32 := 2#32
  let v95 : BitVec 32 := Scalar.addi v94 c2_i32_83
  let c3_i32_84 : BitVec 32 := 3#32
  let v96 : BitVec 32 := Scalar.shrsi v95 c3_i32_84
  let v97 : BitVec 32 := Scalar.addi v2 v96
  let c7_i32_85 : BitVec 32 := 7#32
  let v98 : BitVec 32 := Scalar.andi v95 c7_i32_85
  let c64_i32_86 : BitVec 32 := 64#32
  let v99 : BitVec 32 := Scalar.muli v98 c64_i32_86
  let c0_i32_90 : BitVec 32 := 0#32
  ![v97.toNat, v99.toNat, 0]
@[reducible] def k0_t6_loop : Scf.Loop 32 :=
  let c0_i32_78 : BitVec 32 := 0#32
  let c64_i32_79 : BitVec 32 := 64#32
  let v92 : BitVec 32 := Scalar.addi c0_i32_78 c64_i32_79
  let c1_i32_80 : BitVec 32 := 1#32
  ⟨c0_i32_78, v92, c1_i32_80⟩
def k0_off102 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v96 : Index := Scalar.indexCast arg28
  let c0_84 : Index := 0#32
  ![v96.toNat, 0]
def k0_off103 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v100 : Index := Scalar.indexCast arg28
  let c16 : Index := 16#32
  ![v100.toNat, 16]
def k0_off104 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v104 : Index := Scalar.indexCast arg28
  let c32 : Index := 32#32
  ![v104.toNat, 32]
def k0_off105 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v108 : Index := Scalar.indexCast arg28
  let c48 : Index := 48#32
  ![v108.toNat, 48]
def k0_off106 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v112 : Index := Scalar.indexCast arg28
  let c64 : Index := 64#32
  ![v112.toNat, 64]
def k0_off107 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v116 : Index := Scalar.indexCast arg28
  let c80 : Index := 80#32
  ![v116.toNat, 80]
def k0_off108 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v120 : Index := Scalar.indexCast arg28
  let c96 : Index := 96#32
  ![v120.toNat, 96]
def k0_off109 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v124 : Index := Scalar.indexCast arg28
  let c112 : Index := 112#32
  ![v124.toNat, 112]
def k0_off110 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v144 : Index := Scalar.indexCast arg28
  let c128 : Index := 128#32
  ![v144.toNat, 128]
def k0_off111 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v148 : Index := Scalar.indexCast arg28
  let c144 : Index := 144#32
  ![v148.toNat, 144]
def k0_off112 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v152 : Index := Scalar.indexCast arg28
  let c160 : Index := 160#32
  ![v152.toNat, 160]
def k0_off113 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v156 : Index := Scalar.indexCast arg28
  let c176 : Index := 176#32
  ![v156.toNat, 176]
def k0_off114 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v160 : Index := Scalar.indexCast arg28
  let c192 : Index := 192#32
  ![v160.toNat, 192]
def k0_off115 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v164 : Index := Scalar.indexCast arg28
  let c208 : Index := 208#32
  ![v164.toNat, 208]
def k0_off116 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v168 : Index := Scalar.indexCast arg28
  let c224 : Index := 224#32
  ![v168.toNat, 224]
def k0_off117 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v172 : Index := Scalar.indexCast arg28
  let c240 : Index := 240#32
  ![v172.toNat, 240]
def k0_off118 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v192 : Index := Scalar.indexCast arg28
  let c256 : Index := 256#32
  ![v192.toNat, 256]
def k0_off119 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v196 : Index := Scalar.indexCast arg28
  let c272 : Index := 272#32
  ![v196.toNat, 272]
def k0_off120 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v200 : Index := Scalar.indexCast arg28
  let c288 : Index := 288#32
  ![v200.toNat, 288]
def k0_off121 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v204 : Index := Scalar.indexCast arg28
  let c304 : Index := 304#32
  ![v204.toNat, 304]
def k0_off122 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v208 : Index := Scalar.indexCast arg28
  let c320 : Index := 320#32
  ![v208.toNat, 320]
def k0_off123 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v212 : Index := Scalar.indexCast arg28
  let c336 : Index := 336#32
  ![v212.toNat, 336]
def k0_off124 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v216 : Index := Scalar.indexCast arg28
  let c352 : Index := 352#32
  ![v216.toNat, 352]
def k0_off125 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v220 : Index := Scalar.indexCast arg28
  let c368 : Index := 368#32
  ![v220.toNat, 368]
def k0_off126 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v240 : Index := Scalar.indexCast arg28
  let c384 : Index := 384#32
  ![v240.toNat, 384]
def k0_off127 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v244 : Index := Scalar.indexCast arg28
  let c400 : Index := 400#32
  ![v244.toNat, 400]
def k0_off128 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v248 : Index := Scalar.indexCast arg28
  let c416 : Index := 416#32
  ![v248.toNat, 416]
def k0_off129 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v252 : Index := Scalar.indexCast arg28
  let c432 : Index := 432#32
  ![v252.toNat, 432]
def k0_off130 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v256 : Index := Scalar.indexCast arg28
  let c448 : Index := 448#32
  ![v256.toNat, 448]
def k0_off131 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v260 : Index := Scalar.indexCast arg28
  let c464 : Index := 464#32
  ![v260.toNat, 464]
def k0_off132 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v264 : Index := Scalar.indexCast arg28
  let c480 : Index := 480#32
  ![v264.toNat, 480]
def k0_off133 (k0_t6 : Fin k0_t6_loop.trips) : Fin 2 → Nat :=
  let c0_i32_78 : BitVec 32 := 0#32
  let c1_i32_80 : BitVec 32 := 1#32
  let arg28 : BitVec 32 := Scf.iv c0_i32_78 c1_i32_80 k0_t6
  let v268 : Index := Scalar.indexCast arg28
  let c496 : Index := 496#32
  ![v268.toNat, 496]
def k0_off134 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_41_r0 : BitVec 32 := 0#32
  ![v1.toNat, 0]
abbrev grid1 : Pipeline.Grid := ⟨2, ![2, 16], ![false, false]⟩

@[reducible] def k1_t1_loop : Scf.Loop 32 :=
  let c0_i32_0 : BitVec 32 := 0#32
  let c100_i32 : BitVec 32 := 100#32
  let v6 : BitVec 32 := Scalar.addi c0_i32_0 c100_i32
  let c1_i32 : BitVec 32 := 1#32
  ⟨c0_i32_0, v6, c1_i32⟩
def k1_off1 (k1_t1 : Fin k1_t1_loop.trips) : Fin 1 → Nat :=
  let c0_i32_0 : BitVec 32 := 0#32
  let c1_i32 : BitVec 32 := 1#32
  let arg11 : BitVec 32 := Scf.iv c0_i32_0 c1_i32 k1_t1
  let c16_i32 : BitVec 32 := 16#32
  let v31 : BitVec 32 := Scalar.muli arg11 c16_i32
  let v32 : Index := Scalar.indexCast v31
  ![v32.toNat]
def k1_off2 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c0_i32_2 : BitVec 32 := 0#32
  let v9 : BitVec 32 := Scalar.addi v2 c0_i32_2
  let c0_i32_6 : BitVec 32 := 0#32
  let c0_i32_7 : BitVec 32 := 0#32
  ![v9.toNat, 0, 0]
@[reducible] def k1_t2_loop : Scf.Loop 32 :=
  let c0_i32_13 : BitVec 32 := 0#32
  let c12_i32 : BitVec 32 := 12#32
  let v18 : BitVec 32 := Scalar.addi c0_i32_13 c12_i32
  let c1_i32_14 : BitVec 32 := 1#32
  ⟨c0_i32_13, v18, c1_i32_14⟩
def k1_off3 (i : grid1.Coords) (k1_t2 : Fin k1_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c2_i32_42 : BitVec 32 := 2#32
  let c0_i32_13 : BitVec 32 := 0#32
  let c1_i32_14 : BitVec 32 := 1#32
  let arg11 : BitVec 32 := Scf.iv c0_i32_13 c1_i32_14 k1_t2
  let v38 : BitVec 32 := Scalar.muli c2_i32_42 arg11
  let c1_i32_43 : BitVec 32 := 1#32
  let v39 : BitVec 32 := Scalar.addi v38 c1_i32_43
  let c3_i32_44 : BitVec 32 := 3#32
  let v40 : BitVec 32 := Scalar.shrsi v39 c3_i32_44
  let v41 : BitVec 32 := Scalar.addi v2 v40
  let c7_i32 : BitVec 32 := 7#32
  let v42 : BitVec 32 := Scalar.andi v39 c7_i32
  let c64_i32 : BitVec 32 := 64#32
  let v43 : BitVec 32 := Scalar.muli v42 c64_i32
  let c0_i32_48 : BitVec 32 := 0#32
  ![v41.toNat, v43.toNat, 0]
@[reducible] def k1_t3_loop : Scf.Loop 32 :=
  let c0_i32_54 : BitVec 32 := 0#32
  let c64_i32_55 : BitVec 32 := 64#32
  let v52 : BitVec 32 := Scalar.addi c0_i32_54 c64_i32_55
  let c1_i32_56 : BitVec 32 := 1#32
  ⟨c0_i32_54, v52, c1_i32_56⟩
def k1_off4 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v69 : Index := Scalar.indexCast arg12
  let c0_77 : Index := 0#32
  ![v69.toNat, 0]
def k1_off5 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v73 : Index := Scalar.indexCast arg12
  let c16_80 : Index := 16#32
  ![v73.toNat, 16]
def k1_off6 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v77 : Index := Scalar.indexCast arg12
  let c32 : Index := 32#32
  ![v77.toNat, 32]
def k1_off7 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v81 : Index := Scalar.indexCast arg12
  let c48 : Index := 48#32
  ![v81.toNat, 48]
def k1_off8 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v85 : Index := Scalar.indexCast arg12
  let c64 : Index := 64#32
  ![v85.toNat, 64]
def k1_off9 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v89 : Index := Scalar.indexCast arg12
  let c80 : Index := 80#32
  ![v89.toNat, 80]
def k1_off10 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v93 : Index := Scalar.indexCast arg12
  let c96 : Index := 96#32
  ![v93.toNat, 96]
def k1_off11 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v97 : Index := Scalar.indexCast arg12
  let c112 : Index := 112#32
  ![v97.toNat, 112]

def k1_chk1 (v157 : IVec S16 32) : Prop :=
  (∀ a x, ((![v157] : Fin 1 → IVec S16 32) a x).toNat < S1600.size a)
theorem k1_idx1_inb : ∀ (v157 : IVec S16 32) (k1_hw1 : k1_chk1 v157), ∀ a x, ((![v157] : Fin 1 → IVec S16 32) a x).toNat < S1600.size a := fun v157 k1_hw1 => k1_hw1

def k1_chk2 (v160 : IVec S16 32) : Prop :=
  (∀ a x, ((![v160] : Fin 1 → IVec S16 32) a x).toNat < S1600.size a)
theorem k1_idx2_inb : ∀ (v160 : IVec S16 32) (k1_hw2 : k1_chk2 v160), ∀ a x, ((![v160] : Fin 1 → IVec S16 32) a x).toNat < S1600.size a := fun v160 k1_hw2 => k1_hw2

def k1_chk3 (v163 : IVec S16 32) : Prop :=
  (∀ a x, ((![v163] : Fin 1 → IVec S16 32) a x).toNat < S1600.size a)
theorem k1_idx3_inb : ∀ (v163 : IVec S16 32) (k1_hw3 : k1_chk3 v163), ∀ a x, ((![v163] : Fin 1 → IVec S16 32) a x).toNat < S1600.size a := fun v163 k1_hw3 => k1_hw3

def k1_chk4 (v166 : IVec S16 32) : Prop :=
  (∀ a x, ((![v166] : Fin 1 → IVec S16 32) a x).toNat < S1600.size a)
theorem k1_idx4_inb : ∀ (v166 : IVec S16 32) (k1_hw4 : k1_chk4 v166), ∀ a x, ((![v166] : Fin 1 → IVec S16 32) a x).toNat < S1600.size a := fun v166 k1_hw4 => k1_hw4

def k1_chk5 (v169 : IVec S16 32) : Prop :=
  (∀ a x, ((![v169] : Fin 1 → IVec S16 32) a x).toNat < S1600.size a)
theorem k1_idx5_inb : ∀ (v169 : IVec S16 32) (k1_hw5 : k1_chk5 v169), ∀ a x, ((![v169] : Fin 1 → IVec S16 32) a x).toNat < S1600.size a := fun v169 k1_hw5 => k1_hw5

def k1_chk6 (v172 : IVec S16 32) : Prop :=
  (∀ a x, ((![v172] : Fin 1 → IVec S16 32) a x).toNat < S1600.size a)
theorem k1_idx6_inb : ∀ (v172 : IVec S16 32) (k1_hw6 : k1_chk6 v172), ∀ a x, ((![v172] : Fin 1 → IVec S16 32) a x).toNat < S1600.size a := fun v172 k1_hw6 => k1_hw6

def k1_chk7 (v175 : IVec S16 32) : Prop :=
  (∀ a x, ((![v175] : Fin 1 → IVec S16 32) a x).toNat < S1600.size a)
theorem k1_idx7_inb : ∀ (v175 : IVec S16 32) (k1_hw7 : k1_chk7 v175), ∀ a x, ((![v175] : Fin 1 → IVec S16 32) a x).toNat < S1600.size a := fun v175 k1_hw7 => k1_hw7

def k1_chk8 (v178 : IVec S16 32) : Prop :=
  (∀ a x, ((![v178] : Fin 1 → IVec S16 32) a x).toNat < S1600.size a)
theorem k1_idx8_inb : ∀ (v178 : IVec S16 32) (k1_hw8 : k1_chk8 v178), ∀ a x, ((![v178] : Fin 1 → IVec S16 32) a x).toNat < S1600.size a := fun v178 k1_hw8 => k1_hw8
def k1_off12 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v189 : Index := Scalar.indexCast arg12
  let c128 : Index := 128#32
  ![v189.toNat, 128]
def k1_off13 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v193 : Index := Scalar.indexCast arg12
  let c144 : Index := 144#32
  ![v193.toNat, 144]
def k1_off14 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v197 : Index := Scalar.indexCast arg12
  let c160 : Index := 160#32
  ![v197.toNat, 160]
def k1_off15 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v201 : Index := Scalar.indexCast arg12
  let c176 : Index := 176#32
  ![v201.toNat, 176]
def k1_off16 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v205 : Index := Scalar.indexCast arg12
  let c192 : Index := 192#32
  ![v205.toNat, 192]
def k1_off17 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v209 : Index := Scalar.indexCast arg12
  let c208 : Index := 208#32
  ![v209.toNat, 208]
def k1_off18 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v213 : Index := Scalar.indexCast arg12
  let c224 : Index := 224#32
  ![v213.toNat, 224]
def k1_off19 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v217 : Index := Scalar.indexCast arg12
  let c240 : Index := 240#32
  ![v217.toNat, 240]

def k1_chk9 (v277 : IVec S16 32) : Prop :=
  (∀ a x, ((![v277] : Fin 1 → IVec S16 32) a x).toNat < S1600.size a)
theorem k1_idx9_inb : ∀ (v277 : IVec S16 32) (k1_hw9 : k1_chk9 v277), ∀ a x, ((![v277] : Fin 1 → IVec S16 32) a x).toNat < S1600.size a := fun v277 k1_hw9 => k1_hw9

def k1_chk10 (v280 : IVec S16 32) : Prop :=
  (∀ a x, ((![v280] : Fin 1 → IVec S16 32) a x).toNat < S1600.size a)
theorem k1_idx10_inb : ∀ (v280 : IVec S16 32) (k1_hw10 : k1_chk10 v280), ∀ a x, ((![v280] : Fin 1 → IVec S16 32) a x).toNat < S1600.size a := fun v280 k1_hw10 => k1_hw10

def k1_chk11 (v283 : IVec S16 32) : Prop :=
  (∀ a x, ((![v283] : Fin 1 → IVec S16 32) a x).toNat < S1600.size a)
theorem k1_idx11_inb : ∀ (v283 : IVec S16 32) (k1_hw11 : k1_chk11 v283), ∀ a x, ((![v283] : Fin 1 → IVec S16 32) a x).toNat < S1600.size a := fun v283 k1_hw11 => k1_hw11

def k1_chk12 (v286 : IVec S16 32) : Prop :=
  (∀ a x, ((![v286] : Fin 1 → IVec S16 32) a x).toNat < S1600.size a)
theorem k1_idx12_inb : ∀ (v286 : IVec S16 32) (k1_hw12 : k1_chk12 v286), ∀ a x, ((![v286] : Fin 1 → IVec S16 32) a x).toNat < S1600.size a := fun v286 k1_hw12 => k1_hw12

def k1_chk13 (v289 : IVec S16 32) : Prop :=
  (∀ a x, ((![v289] : Fin 1 → IVec S16 32) a x).toNat < S1600.size a)
theorem k1_idx13_inb : ∀ (v289 : IVec S16 32) (k1_hw13 : k1_chk13 v289), ∀ a x, ((![v289] : Fin 1 → IVec S16 32) a x).toNat < S1600.size a := fun v289 k1_hw13 => k1_hw13

def k1_chk14 (v292 : IVec S16 32) : Prop :=
  (∀ a x, ((![v292] : Fin 1 → IVec S16 32) a x).toNat < S1600.size a)
theorem k1_idx14_inb : ∀ (v292 : IVec S16 32) (k1_hw14 : k1_chk14 v292), ∀ a x, ((![v292] : Fin 1 → IVec S16 32) a x).toNat < S1600.size a := fun v292 k1_hw14 => k1_hw14

def k1_chk15 (v295 : IVec S16 32) : Prop :=
  (∀ a x, ((![v295] : Fin 1 → IVec S16 32) a x).toNat < S1600.size a)
theorem k1_idx15_inb : ∀ (v295 : IVec S16 32) (k1_hw15 : k1_chk15 v295), ∀ a x, ((![v295] : Fin 1 → IVec S16 32) a x).toNat < S1600.size a := fun v295 k1_hw15 => k1_hw15

def k1_chk16 (v298 : IVec S16 32) : Prop :=
  (∀ a x, ((![v298] : Fin 1 → IVec S16 32) a x).toNat < S1600.size a)
theorem k1_idx16_inb : ∀ (v298 : IVec S16 32) (k1_hw16 : k1_chk16 v298), ∀ a x, ((![v298] : Fin 1 → IVec S16 32) a x).toNat < S1600.size a := fun v298 k1_hw16 => k1_hw16
def k1_off20 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v309 : Index := Scalar.indexCast arg12
  let c256 : Index := 256#32
  ![v309.toNat, 256]
def k1_off21 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v313 : Index := Scalar.indexCast arg12
  let c272 : Index := 272#32
  ![v313.toNat, 272]
def k1_off22 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v317 : Index := Scalar.indexCast arg12
  let c288 : Index := 288#32
  ![v317.toNat, 288]
def k1_off23 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v321 : Index := Scalar.indexCast arg12
  let c304 : Index := 304#32
  ![v321.toNat, 304]
def k1_off24 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v325 : Index := Scalar.indexCast arg12
  let c320 : Index := 320#32
  ![v325.toNat, 320]
def k1_off25 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v329 : Index := Scalar.indexCast arg12
  let c336 : Index := 336#32
  ![v329.toNat, 336]
def k1_off26 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v333 : Index := Scalar.indexCast arg12
  let c352 : Index := 352#32
  ![v333.toNat, 352]
def k1_off27 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v337 : Index := Scalar.indexCast arg12
  let c368 : Index := 368#32
  ![v337.toNat, 368]

def k1_chk17 (v397 : IVec S16 32) : Prop :=
  (∀ a x, ((![v397] : Fin 1 → IVec S16 32) a x).toNat < S1600.size a)
theorem k1_idx17_inb : ∀ (v397 : IVec S16 32) (k1_hw17 : k1_chk17 v397), ∀ a x, ((![v397] : Fin 1 → IVec S16 32) a x).toNat < S1600.size a := fun v397 k1_hw17 => k1_hw17

def k1_chk18 (v400 : IVec S16 32) : Prop :=
  (∀ a x, ((![v400] : Fin 1 → IVec S16 32) a x).toNat < S1600.size a)
theorem k1_idx18_inb : ∀ (v400 : IVec S16 32) (k1_hw18 : k1_chk18 v400), ∀ a x, ((![v400] : Fin 1 → IVec S16 32) a x).toNat < S1600.size a := fun v400 k1_hw18 => k1_hw18

def k1_chk19 (v403 : IVec S16 32) : Prop :=
  (∀ a x, ((![v403] : Fin 1 → IVec S16 32) a x).toNat < S1600.size a)
theorem k1_idx19_inb : ∀ (v403 : IVec S16 32) (k1_hw19 : k1_chk19 v403), ∀ a x, ((![v403] : Fin 1 → IVec S16 32) a x).toNat < S1600.size a := fun v403 k1_hw19 => k1_hw19

def k1_chk20 (v406 : IVec S16 32) : Prop :=
  (∀ a x, ((![v406] : Fin 1 → IVec S16 32) a x).toNat < S1600.size a)
theorem k1_idx20_inb : ∀ (v406 : IVec S16 32) (k1_hw20 : k1_chk20 v406), ∀ a x, ((![v406] : Fin 1 → IVec S16 32) a x).toNat < S1600.size a := fun v406 k1_hw20 => k1_hw20

def k1_chk21 (v409 : IVec S16 32) : Prop :=
  (∀ a x, ((![v409] : Fin 1 → IVec S16 32) a x).toNat < S1600.size a)
theorem k1_idx21_inb : ∀ (v409 : IVec S16 32) (k1_hw21 : k1_chk21 v409), ∀ a x, ((![v409] : Fin 1 → IVec S16 32) a x).toNat < S1600.size a := fun v409 k1_hw21 => k1_hw21

def k1_chk22 (v412 : IVec S16 32) : Prop :=
  (∀ a x, ((![v412] : Fin 1 → IVec S16 32) a x).toNat < S1600.size a)
theorem k1_idx22_inb : ∀ (v412 : IVec S16 32) (k1_hw22 : k1_chk22 v412), ∀ a x, ((![v412] : Fin 1 → IVec S16 32) a x).toNat < S1600.size a := fun v412 k1_hw22 => k1_hw22

def k1_chk23 (v415 : IVec S16 32) : Prop :=
  (∀ a x, ((![v415] : Fin 1 → IVec S16 32) a x).toNat < S1600.size a)
theorem k1_idx23_inb : ∀ (v415 : IVec S16 32) (k1_hw23 : k1_chk23 v415), ∀ a x, ((![v415] : Fin 1 → IVec S16 32) a x).toNat < S1600.size a := fun v415 k1_hw23 => k1_hw23

def k1_chk24 (v418 : IVec S16 32) : Prop :=
  (∀ a x, ((![v418] : Fin 1 → IVec S16 32) a x).toNat < S1600.size a)
theorem k1_idx24_inb : ∀ (v418 : IVec S16 32) (k1_hw24 : k1_chk24 v418), ∀ a x, ((![v418] : Fin 1 → IVec S16 32) a x).toNat < S1600.size a := fun v418 k1_hw24 => k1_hw24
def k1_off28 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v429 : Index := Scalar.indexCast arg12
  let c384 : Index := 384#32
  ![v429.toNat, 384]
def k1_off29 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v433 : Index := Scalar.indexCast arg12
  let c400 : Index := 400#32
  ![v433.toNat, 400]
def k1_off30 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v437 : Index := Scalar.indexCast arg12
  let c416 : Index := 416#32
  ![v437.toNat, 416]
def k1_off31 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v441 : Index := Scalar.indexCast arg12
  let c432 : Index := 432#32
  ![v441.toNat, 432]
def k1_off32 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v445 : Index := Scalar.indexCast arg12
  let c448 : Index := 448#32
  ![v445.toNat, 448]
def k1_off33 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v449 : Index := Scalar.indexCast arg12
  let c464 : Index := 464#32
  ![v449.toNat, 464]
def k1_off34 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v453 : Index := Scalar.indexCast arg12
  let c480 : Index := 480#32
  ![v453.toNat, 480]
def k1_off35 (k1_t3 : Fin k1_t3_loop.trips) : Fin 2 → Nat :=
  let c0_i32_54 : BitVec 32 := 0#32
  let c1_i32_56 : BitVec 32 := 1#32
  let arg12 : BitVec 32 := Scf.iv c0_i32_54 c1_i32_56 k1_t3
  let v457 : Index := Scalar.indexCast arg12
  let c496 : Index := 496#32
  ![v457.toNat, 496]

def k1_chk25 (v517 : IVec S16 32) : Prop :=
  (∀ a x, ((![v517] : Fin 1 → IVec S16 32) a x).toNat < S1600.size a)
theorem k1_idx25_inb : ∀ (v517 : IVec S16 32) (k1_hw25 : k1_chk25 v517), ∀ a x, ((![v517] : Fin 1 → IVec S16 32) a x).toNat < S1600.size a := fun v517 k1_hw25 => k1_hw25

def k1_chk26 (v520 : IVec S16 32) : Prop :=
  (∀ a x, ((![v520] : Fin 1 → IVec S16 32) a x).toNat < S1600.size a)
theorem k1_idx26_inb : ∀ (v520 : IVec S16 32) (k1_hw26 : k1_chk26 v520), ∀ a x, ((![v520] : Fin 1 → IVec S16 32) a x).toNat < S1600.size a := fun v520 k1_hw26 => k1_hw26

def k1_chk27 (v523 : IVec S16 32) : Prop :=
  (∀ a x, ((![v523] : Fin 1 → IVec S16 32) a x).toNat < S1600.size a)
theorem k1_idx27_inb : ∀ (v523 : IVec S16 32) (k1_hw27 : k1_chk27 v523), ∀ a x, ((![v523] : Fin 1 → IVec S16 32) a x).toNat < S1600.size a := fun v523 k1_hw27 => k1_hw27

def k1_chk28 (v526 : IVec S16 32) : Prop :=
  (∀ a x, ((![v526] : Fin 1 → IVec S16 32) a x).toNat < S1600.size a)
theorem k1_idx28_inb : ∀ (v526 : IVec S16 32) (k1_hw28 : k1_chk28 v526), ∀ a x, ((![v526] : Fin 1 → IVec S16 32) a x).toNat < S1600.size a := fun v526 k1_hw28 => k1_hw28

def k1_chk29 (v529 : IVec S16 32) : Prop :=
  (∀ a x, ((![v529] : Fin 1 → IVec S16 32) a x).toNat < S1600.size a)
theorem k1_idx29_inb : ∀ (v529 : IVec S16 32) (k1_hw29 : k1_chk29 v529), ∀ a x, ((![v529] : Fin 1 → IVec S16 32) a x).toNat < S1600.size a := fun v529 k1_hw29 => k1_hw29

def k1_chk30 (v532 : IVec S16 32) : Prop :=
  (∀ a x, ((![v532] : Fin 1 → IVec S16 32) a x).toNat < S1600.size a)
theorem k1_idx30_inb : ∀ (v532 : IVec S16 32) (k1_hw30 : k1_chk30 v532), ∀ a x, ((![v532] : Fin 1 → IVec S16 32) a x).toNat < S1600.size a := fun v532 k1_hw30 => k1_hw30

def k1_chk31 (v535 : IVec S16 32) : Prop :=
  (∀ a x, ((![v535] : Fin 1 → IVec S16 32) a x).toNat < S1600.size a)
theorem k1_idx31_inb : ∀ (v535 : IVec S16 32) (k1_hw31 : k1_chk31 v535), ∀ a x, ((![v535] : Fin 1 → IVec S16 32) a x).toNat < S1600.size a := fun v535 k1_hw31 => k1_hw31

def k1_chk32 (v538 : IVec S16 32) : Prop :=
  (∀ a x, ((![v538] : Fin 1 → IVec S16 32) a x).toNat < S1600.size a)
theorem k1_idx32_inb : ∀ (v538 : IVec S16 32) (k1_hw32 : k1_chk32 v538), ∀ a x, ((![v538] : Fin 1 → IVec S16 32) a x).toNat < S1600.size a := fun v538 k1_hw32 => k1_hw32
def k1_cond1 (k1_t2 : Fin k1_t2_loop.trips) : BitVec 1 :=
  let c0_i32_13 : BitVec 32 := 0#32
  let c1_i32_14 : BitVec 32 := 1#32
  let arg11 : BitVec 32 := Scf.iv c0_i32_13 c1_i32_14 k1_t2
  let c11_i32 : BitVec 32 := 11#32
  let v62 : BitVec 1 := Scalar.cmpi .slt arg11 c11_i32
  let v63 : BitVec 32 := Scalar.extui v62
  let c0_i32_68 : BitVec 32 := 0#32
  let v64 : BitVec 1 := Scalar.cmpi .ne v63 c0_i32_68
  v64

def k1_off36 (i : grid1.Coords) (k1_t2 : Fin k1_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c2_i32_75 : BitVec 32 := 2#32
  let c0_i32_13 : BitVec 32 := 0#32
  let c1_i32_14 : BitVec 32 := 1#32
  let arg11 : BitVec 32 := Scf.iv c0_i32_13 c1_i32_14 k1_t2
  let v67 : BitVec 32 := Scalar.muli c2_i32_75 arg11
  let c2_i32_76 : BitVec 32 := 2#32
  let v68 : BitVec 32 := Scalar.addi v67 c2_i32_76
  let c3_i32_77 : BitVec 32 := 3#32
  let v69 : BitVec 32 := Scalar.shrsi v68 c3_i32_77
  let v70 : BitVec 32 := Scalar.addi v2 v69
  let c7_i32_78 : BitVec 32 := 7#32
  let v71 : BitVec 32 := Scalar.andi v68 c7_i32_78
  let c64_i32_79 : BitVec 32 := 64#32
  let v72 : BitVec 32 := Scalar.muli v71 c64_i32_79
  let c0_i32_83 : BitVec 32 := 0#32
  ![v70.toNat, v72.toNat, 0]
@[reducible] def k1_t4_loop : Scf.Loop 32 :=
  let c0_i32_71 : BitVec 32 := 0#32
  let c64_i32_72 : BitVec 32 := 64#32
  let v65 : BitVec 32 := Scalar.addi c0_i32_71 c64_i32_72
  let c1_i32_73 : BitVec 32 := 1#32
  ⟨c0_i32_71, v65, c1_i32_73⟩
def k1_off37 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v69 : Index := Scalar.indexCast arg12
  let c0_77 : Index := 0#32
  ![v69.toNat, 0]
def k1_off38 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v73 : Index := Scalar.indexCast arg12
  let c16_80 : Index := 16#32
  ![v73.toNat, 16]
def k1_off39 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v77 : Index := Scalar.indexCast arg12
  let c32 : Index := 32#32
  ![v77.toNat, 32]
def k1_off40 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v81 : Index := Scalar.indexCast arg12
  let c48 : Index := 48#32
  ![v81.toNat, 48]
def k1_off41 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v85 : Index := Scalar.indexCast arg12
  let c64 : Index := 64#32
  ![v85.toNat, 64]
def k1_off42 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v89 : Index := Scalar.indexCast arg12
  let c80 : Index := 80#32
  ![v89.toNat, 80]
def k1_off43 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v93 : Index := Scalar.indexCast arg12
  let c96 : Index := 96#32
  ![v93.toNat, 96]
def k1_off44 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v97 : Index := Scalar.indexCast arg12
  let c112 : Index := 112#32
  ![v97.toNat, 112]

def k1_chk33 (v157 : IVec S16 32) : Prop :=
  (∀ a x, ((![v157] : Fin 1 → IVec S16 32) a x).toNat < S1600.size a)
theorem k1_idx33_inb : ∀ (v157 : IVec S16 32) (k1_hw33 : k1_chk33 v157), ∀ a x, ((![v157] : Fin 1 → IVec S16 32) a x).toNat < S1600.size a := fun v157 k1_hw33 => k1_hw33

def k1_chk34 (v160 : IVec S16 32) : Prop :=
  (∀ a x, ((![v160] : Fin 1 → IVec S16 32) a x).toNat < S1600.size a)
theorem k1_idx34_inb : ∀ (v160 : IVec S16 32) (k1_hw34 : k1_chk34 v160), ∀ a x, ((![v160] : Fin 1 → IVec S16 32) a x).toNat < S1600.size a := fun v160 k1_hw34 => k1_hw34

def k1_chk35 (v163 : IVec S16 32) : Prop :=
  (∀ a x, ((![v163] : Fin 1 → IVec S16 32) a x).toNat < S1600.size a)
theorem k1_idx35_inb : ∀ (v163 : IVec S16 32) (k1_hw35 : k1_chk35 v163), ∀ a x, ((![v163] : Fin 1 → IVec S16 32) a x).toNat < S1600.size a := fun v163 k1_hw35 => k1_hw35

def k1_chk36 (v166 : IVec S16 32) : Prop :=
  (∀ a x, ((![v166] : Fin 1 → IVec S16 32) a x).toNat < S1600.size a)
theorem k1_idx36_inb : ∀ (v166 : IVec S16 32) (k1_hw36 : k1_chk36 v166), ∀ a x, ((![v166] : Fin 1 → IVec S16 32) a x).toNat < S1600.size a := fun v166 k1_hw36 => k1_hw36

def k1_chk37 (v169 : IVec S16 32) : Prop :=
  (∀ a x, ((![v169] : Fin 1 → IVec S16 32) a x).toNat < S1600.size a)
theorem k1_idx37_inb : ∀ (v169 : IVec S16 32) (k1_hw37 : k1_chk37 v169), ∀ a x, ((![v169] : Fin 1 → IVec S16 32) a x).toNat < S1600.size a := fun v169 k1_hw37 => k1_hw37

def k1_chk38 (v172 : IVec S16 32) : Prop :=
  (∀ a x, ((![v172] : Fin 1 → IVec S16 32) a x).toNat < S1600.size a)
theorem k1_idx38_inb : ∀ (v172 : IVec S16 32) (k1_hw38 : k1_chk38 v172), ∀ a x, ((![v172] : Fin 1 → IVec S16 32) a x).toNat < S1600.size a := fun v172 k1_hw38 => k1_hw38

def k1_chk39 (v175 : IVec S16 32) : Prop :=
  (∀ a x, ((![v175] : Fin 1 → IVec S16 32) a x).toNat < S1600.size a)
theorem k1_idx39_inb : ∀ (v175 : IVec S16 32) (k1_hw39 : k1_chk39 v175), ∀ a x, ((![v175] : Fin 1 → IVec S16 32) a x).toNat < S1600.size a := fun v175 k1_hw39 => k1_hw39

def k1_chk40 (v178 : IVec S16 32) : Prop :=
  (∀ a x, ((![v178] : Fin 1 → IVec S16 32) a x).toNat < S1600.size a)
theorem k1_idx40_inb : ∀ (v178 : IVec S16 32) (k1_hw40 : k1_chk40 v178), ∀ a x, ((![v178] : Fin 1 → IVec S16 32) a x).toNat < S1600.size a := fun v178 k1_hw40 => k1_hw40
def k1_off45 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v189 : Index := Scalar.indexCast arg12
  let c128 : Index := 128#32
  ![v189.toNat, 128]
def k1_off46 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v193 : Index := Scalar.indexCast arg12
  let c144 : Index := 144#32
  ![v193.toNat, 144]
def k1_off47 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v197 : Index := Scalar.indexCast arg12
  let c160 : Index := 160#32
  ![v197.toNat, 160]
def k1_off48 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v201 : Index := Scalar.indexCast arg12
  let c176 : Index := 176#32
  ![v201.toNat, 176]
def k1_off49 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v205 : Index := Scalar.indexCast arg12
  let c192 : Index := 192#32
  ![v205.toNat, 192]
def k1_off50 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v209 : Index := Scalar.indexCast arg12
  let c208 : Index := 208#32
  ![v209.toNat, 208]
def k1_off51 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v213 : Index := Scalar.indexCast arg12
  let c224 : Index := 224#32
  ![v213.toNat, 224]
def k1_off52 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v217 : Index := Scalar.indexCast arg12
  let c240 : Index := 240#32
  ![v217.toNat, 240]

def k1_chk41 (v277 : IVec S16 32) : Prop :=
  (∀ a x, ((![v277] : Fin 1 → IVec S16 32) a x).toNat < S1600.size a)
theorem k1_idx41_inb : ∀ (v277 : IVec S16 32) (k1_hw41 : k1_chk41 v277), ∀ a x, ((![v277] : Fin 1 → IVec S16 32) a x).toNat < S1600.size a := fun v277 k1_hw41 => k1_hw41

def k1_chk42 (v280 : IVec S16 32) : Prop :=
  (∀ a x, ((![v280] : Fin 1 → IVec S16 32) a x).toNat < S1600.size a)
theorem k1_idx42_inb : ∀ (v280 : IVec S16 32) (k1_hw42 : k1_chk42 v280), ∀ a x, ((![v280] : Fin 1 → IVec S16 32) a x).toNat < S1600.size a := fun v280 k1_hw42 => k1_hw42

def k1_chk43 (v283 : IVec S16 32) : Prop :=
  (∀ a x, ((![v283] : Fin 1 → IVec S16 32) a x).toNat < S1600.size a)
theorem k1_idx43_inb : ∀ (v283 : IVec S16 32) (k1_hw43 : k1_chk43 v283), ∀ a x, ((![v283] : Fin 1 → IVec S16 32) a x).toNat < S1600.size a := fun v283 k1_hw43 => k1_hw43

def k1_chk44 (v286 : IVec S16 32) : Prop :=
  (∀ a x, ((![v286] : Fin 1 → IVec S16 32) a x).toNat < S1600.size a)
theorem k1_idx44_inb : ∀ (v286 : IVec S16 32) (k1_hw44 : k1_chk44 v286), ∀ a x, ((![v286] : Fin 1 → IVec S16 32) a x).toNat < S1600.size a := fun v286 k1_hw44 => k1_hw44

def k1_chk45 (v289 : IVec S16 32) : Prop :=
  (∀ a x, ((![v289] : Fin 1 → IVec S16 32) a x).toNat < S1600.size a)
theorem k1_idx45_inb : ∀ (v289 : IVec S16 32) (k1_hw45 : k1_chk45 v289), ∀ a x, ((![v289] : Fin 1 → IVec S16 32) a x).toNat < S1600.size a := fun v289 k1_hw45 => k1_hw45

def k1_chk46 (v292 : IVec S16 32) : Prop :=
  (∀ a x, ((![v292] : Fin 1 → IVec S16 32) a x).toNat < S1600.size a)
theorem k1_idx46_inb : ∀ (v292 : IVec S16 32) (k1_hw46 : k1_chk46 v292), ∀ a x, ((![v292] : Fin 1 → IVec S16 32) a x).toNat < S1600.size a := fun v292 k1_hw46 => k1_hw46

def k1_chk47 (v295 : IVec S16 32) : Prop :=
  (∀ a x, ((![v295] : Fin 1 → IVec S16 32) a x).toNat < S1600.size a)
theorem k1_idx47_inb : ∀ (v295 : IVec S16 32) (k1_hw47 : k1_chk47 v295), ∀ a x, ((![v295] : Fin 1 → IVec S16 32) a x).toNat < S1600.size a := fun v295 k1_hw47 => k1_hw47

def k1_chk48 (v298 : IVec S16 32) : Prop :=
  (∀ a x, ((![v298] : Fin 1 → IVec S16 32) a x).toNat < S1600.size a)
theorem k1_idx48_inb : ∀ (v298 : IVec S16 32) (k1_hw48 : k1_chk48 v298), ∀ a x, ((![v298] : Fin 1 → IVec S16 32) a x).toNat < S1600.size a := fun v298 k1_hw48 => k1_hw48
def k1_off53 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v309 : Index := Scalar.indexCast arg12
  let c256 : Index := 256#32
  ![v309.toNat, 256]
def k1_off54 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v313 : Index := Scalar.indexCast arg12
  let c272 : Index := 272#32
  ![v313.toNat, 272]
def k1_off55 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v317 : Index := Scalar.indexCast arg12
  let c288 : Index := 288#32
  ![v317.toNat, 288]
def k1_off56 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v321 : Index := Scalar.indexCast arg12
  let c304 : Index := 304#32
  ![v321.toNat, 304]
def k1_off57 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v325 : Index := Scalar.indexCast arg12
  let c320 : Index := 320#32
  ![v325.toNat, 320]
def k1_off58 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v329 : Index := Scalar.indexCast arg12
  let c336 : Index := 336#32
  ![v329.toNat, 336]
def k1_off59 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v333 : Index := Scalar.indexCast arg12
  let c352 : Index := 352#32
  ![v333.toNat, 352]
def k1_off60 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v337 : Index := Scalar.indexCast arg12
  let c368 : Index := 368#32
  ![v337.toNat, 368]

def k1_chk49 (v397 : IVec S16 32) : Prop :=
  (∀ a x, ((![v397] : Fin 1 → IVec S16 32) a x).toNat < S1600.size a)
theorem k1_idx49_inb : ∀ (v397 : IVec S16 32) (k1_hw49 : k1_chk49 v397), ∀ a x, ((![v397] : Fin 1 → IVec S16 32) a x).toNat < S1600.size a := fun v397 k1_hw49 => k1_hw49

def k1_chk50 (v400 : IVec S16 32) : Prop :=
  (∀ a x, ((![v400] : Fin 1 → IVec S16 32) a x).toNat < S1600.size a)
theorem k1_idx50_inb : ∀ (v400 : IVec S16 32) (k1_hw50 : k1_chk50 v400), ∀ a x, ((![v400] : Fin 1 → IVec S16 32) a x).toNat < S1600.size a := fun v400 k1_hw50 => k1_hw50

def k1_chk51 (v403 : IVec S16 32) : Prop :=
  (∀ a x, ((![v403] : Fin 1 → IVec S16 32) a x).toNat < S1600.size a)
theorem k1_idx51_inb : ∀ (v403 : IVec S16 32) (k1_hw51 : k1_chk51 v403), ∀ a x, ((![v403] : Fin 1 → IVec S16 32) a x).toNat < S1600.size a := fun v403 k1_hw51 => k1_hw51

def k1_chk52 (v406 : IVec S16 32) : Prop :=
  (∀ a x, ((![v406] : Fin 1 → IVec S16 32) a x).toNat < S1600.size a)
theorem k1_idx52_inb : ∀ (v406 : IVec S16 32) (k1_hw52 : k1_chk52 v406), ∀ a x, ((![v406] : Fin 1 → IVec S16 32) a x).toNat < S1600.size a := fun v406 k1_hw52 => k1_hw52

def k1_chk53 (v409 : IVec S16 32) : Prop :=
  (∀ a x, ((![v409] : Fin 1 → IVec S16 32) a x).toNat < S1600.size a)
theorem k1_idx53_inb : ∀ (v409 : IVec S16 32) (k1_hw53 : k1_chk53 v409), ∀ a x, ((![v409] : Fin 1 → IVec S16 32) a x).toNat < S1600.size a := fun v409 k1_hw53 => k1_hw53

def k1_chk54 (v412 : IVec S16 32) : Prop :=
  (∀ a x, ((![v412] : Fin 1 → IVec S16 32) a x).toNat < S1600.size a)
theorem k1_idx54_inb : ∀ (v412 : IVec S16 32) (k1_hw54 : k1_chk54 v412), ∀ a x, ((![v412] : Fin 1 → IVec S16 32) a x).toNat < S1600.size a := fun v412 k1_hw54 => k1_hw54

def k1_chk55 (v415 : IVec S16 32) : Prop :=
  (∀ a x, ((![v415] : Fin 1 → IVec S16 32) a x).toNat < S1600.size a)
theorem k1_idx55_inb : ∀ (v415 : IVec S16 32) (k1_hw55 : k1_chk55 v415), ∀ a x, ((![v415] : Fin 1 → IVec S16 32) a x).toNat < S1600.size a := fun v415 k1_hw55 => k1_hw55

def k1_chk56 (v418 : IVec S16 32) : Prop :=
  (∀ a x, ((![v418] : Fin 1 → IVec S16 32) a x).toNat < S1600.size a)
theorem k1_idx56_inb : ∀ (v418 : IVec S16 32) (k1_hw56 : k1_chk56 v418), ∀ a x, ((![v418] : Fin 1 → IVec S16 32) a x).toNat < S1600.size a := fun v418 k1_hw56 => k1_hw56
def k1_off61 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v429 : Index := Scalar.indexCast arg12
  let c384 : Index := 384#32
  ![v429.toNat, 384]
def k1_off62 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v433 : Index := Scalar.indexCast arg12
  let c400 : Index := 400#32
  ![v433.toNat, 400]
def k1_off63 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v437 : Index := Scalar.indexCast arg12
  let c416 : Index := 416#32
  ![v437.toNat, 416]
def k1_off64 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v441 : Index := Scalar.indexCast arg12
  let c432 : Index := 432#32
  ![v441.toNat, 432]
def k1_off65 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v445 : Index := Scalar.indexCast arg12
  let c448 : Index := 448#32
  ![v445.toNat, 448]
def k1_off66 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v449 : Index := Scalar.indexCast arg12
  let c464 : Index := 464#32
  ![v449.toNat, 464]
def k1_off67 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v453 : Index := Scalar.indexCast arg12
  let c480 : Index := 480#32
  ![v453.toNat, 480]
def k1_off68 (k1_t4 : Fin k1_t4_loop.trips) : Fin 2 → Nat :=
  let c0_i32_71 : BitVec 32 := 0#32
  let c1_i32_73 : BitVec 32 := 1#32
  let arg12 : BitVec 32 := Scf.iv c0_i32_71 c1_i32_73 k1_t4
  let v457 : Index := Scalar.indexCast arg12
  let c496 : Index := 496#32
  ![v457.toNat, 496]

def k1_chk57 (v517 : IVec S16 32) : Prop :=
  (∀ a x, ((![v517] : Fin 1 → IVec S16 32) a x).toNat < S1600.size a)
theorem k1_idx57_inb : ∀ (v517 : IVec S16 32) (k1_hw57 : k1_chk57 v517), ∀ a x, ((![v517] : Fin 1 → IVec S16 32) a x).toNat < S1600.size a := fun v517 k1_hw57 => k1_hw57

def k1_chk58 (v520 : IVec S16 32) : Prop :=
  (∀ a x, ((![v520] : Fin 1 → IVec S16 32) a x).toNat < S1600.size a)
theorem k1_idx58_inb : ∀ (v520 : IVec S16 32) (k1_hw58 : k1_chk58 v520), ∀ a x, ((![v520] : Fin 1 → IVec S16 32) a x).toNat < S1600.size a := fun v520 k1_hw58 => k1_hw58

def k1_chk59 (v523 : IVec S16 32) : Prop :=
  (∀ a x, ((![v523] : Fin 1 → IVec S16 32) a x).toNat < S1600.size a)
theorem k1_idx59_inb : ∀ (v523 : IVec S16 32) (k1_hw59 : k1_chk59 v523), ∀ a x, ((![v523] : Fin 1 → IVec S16 32) a x).toNat < S1600.size a := fun v523 k1_hw59 => k1_hw59

def k1_chk60 (v526 : IVec S16 32) : Prop :=
  (∀ a x, ((![v526] : Fin 1 → IVec S16 32) a x).toNat < S1600.size a)
theorem k1_idx60_inb : ∀ (v526 : IVec S16 32) (k1_hw60 : k1_chk60 v526), ∀ a x, ((![v526] : Fin 1 → IVec S16 32) a x).toNat < S1600.size a := fun v526 k1_hw60 => k1_hw60

def k1_chk61 (v529 : IVec S16 32) : Prop :=
  (∀ a x, ((![v529] : Fin 1 → IVec S16 32) a x).toNat < S1600.size a)
theorem k1_idx61_inb : ∀ (v529 : IVec S16 32) (k1_hw61 : k1_chk61 v529), ∀ a x, ((![v529] : Fin 1 → IVec S16 32) a x).toNat < S1600.size a := fun v529 k1_hw61 => k1_hw61

def k1_chk62 (v532 : IVec S16 32) : Prop :=
  (∀ a x, ((![v532] : Fin 1 → IVec S16 32) a x).toNat < S1600.size a)
theorem k1_idx62_inb : ∀ (v532 : IVec S16 32) (k1_hw62 : k1_chk62 v532), ∀ a x, ((![v532] : Fin 1 → IVec S16 32) a x).toNat < S1600.size a := fun v532 k1_hw62 => k1_hw62

def k1_chk63 (v535 : IVec S16 32) : Prop :=
  (∀ a x, ((![v535] : Fin 1 → IVec S16 32) a x).toNat < S1600.size a)
theorem k1_idx63_inb : ∀ (v535 : IVec S16 32) (k1_hw63 : k1_chk63 v535), ∀ a x, ((![v535] : Fin 1 → IVec S16 32) a x).toNat < S1600.size a := fun v535 k1_hw63 => k1_hw63

def k1_chk64 (v538 : IVec S16 32) : Prop :=
  (∀ a x, ((![v538] : Fin 1 → IVec S16 32) a x).toNat < S1600.size a)
theorem k1_idx64_inb : ∀ (v538 : IVec S16 32) (k1_hw64 : k1_chk64 v538), ∀ a x, ((![v538] : Fin 1 → IVec S16 32) a x).toNat < S1600.size a := fun v538 k1_hw64 => k1_hw64
@[reducible] def k1_t5_loop : Scf.Loop 32 :=
  let c0_i32_28 : BitVec 32 := 0#32
  let c12_i32_29 : BitVec 32 := 12#32
  let v29 : BitVec 32 := Scalar.addi c0_i32_28 c12_i32_29
  let c1_i32_30 : BitVec 32 := 1#32
  ⟨c0_i32_28, v29, c1_i32_30⟩
def k1_off69 (i : grid1.Coords) (k1_t5 : Fin k1_t5_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c2_i32_42 : BitVec 32 := 2#32
  let c0_i32_28 : BitVec 32 := 0#32
  let c1_i32_30 : BitVec 32 := 1#32
  let arg11 : BitVec 32 := Scf.iv c0_i32_28 c1_i32_30 k1_t5
  let v38 : BitVec 32 := Scalar.muli c2_i32_42 arg11
  let c1_i32_43 : BitVec 32 := 1#32
  let v39 : BitVec 32 := Scalar.addi v38 c1_i32_43
  let c3_i32_44 : BitVec 32 := 3#32
  let v40 : BitVec 32 := Scalar.shrsi v39 c3_i32_44
  let v41 : BitVec 32 := Scalar.addi v2 v40
  let c7_i32 : BitVec 32 := 7#32
  let v42 : BitVec 32 := Scalar.andi v39 c7_i32
  let c64_i32 : BitVec 32 := 64#32
  let v43 : BitVec 32 := Scalar.muli v42 c64_i32
  let c0_i32_48 : BitVec 32 := 0#32
  ![v41.toNat, v43.toNat, 0]
@[reducible] def k1_t6_loop : Scf.Loop 32 :=
  let c0_i32_54 : BitVec 32 := 0#32
  let c64_i32_55 : BitVec 32 := 64#32
  let v52 : BitVec 32 := Scalar.addi c0_i32_54 c64_i32_55
  let c1_i32_56 : BitVec 32 := 1#32
  ⟨c0_i32_54, v52, c1_i32_56⟩
def k1_off70 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v69 : Index := Scalar.indexCast arg12
  let c0_77 : Index := 0#32
  ![v69.toNat, 0]
def k1_off71 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v73 : Index := Scalar.indexCast arg12
  let c16_80 : Index := 16#32
  ![v73.toNat, 16]
def k1_off72 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v77 : Index := Scalar.indexCast arg12
  let c32 : Index := 32#32
  ![v77.toNat, 32]
def k1_off73 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v81 : Index := Scalar.indexCast arg12
  let c48 : Index := 48#32
  ![v81.toNat, 48]
def k1_off74 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v85 : Index := Scalar.indexCast arg12
  let c64 : Index := 64#32
  ![v85.toNat, 64]
def k1_off75 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v89 : Index := Scalar.indexCast arg12
  let c80 : Index := 80#32
  ![v89.toNat, 80]
def k1_off76 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v93 : Index := Scalar.indexCast arg12
  let c96 : Index := 96#32
  ![v93.toNat, 96]
def k1_off77 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v97 : Index := Scalar.indexCast arg12
  let c112 : Index := 112#32
  ![v97.toNat, 112]

def k1_chk65 (v157 : IVec S16 32) : Prop :=
  (∀ a x, ((![v157] : Fin 1 → IVec S16 32) a x).toNat < S1600.size a)
theorem k1_idx65_inb : ∀ (v157 : IVec S16 32) (k1_hw65 : k1_chk65 v157), ∀ a x, ((![v157] : Fin 1 → IVec S16 32) a x).toNat < S1600.size a := fun v157 k1_hw65 => k1_hw65

def k1_chk66 (v160 : IVec S16 32) : Prop :=
  (∀ a x, ((![v160] : Fin 1 → IVec S16 32) a x).toNat < S1600.size a)
theorem k1_idx66_inb : ∀ (v160 : IVec S16 32) (k1_hw66 : k1_chk66 v160), ∀ a x, ((![v160] : Fin 1 → IVec S16 32) a x).toNat < S1600.size a := fun v160 k1_hw66 => k1_hw66

def k1_chk67 (v163 : IVec S16 32) : Prop :=
  (∀ a x, ((![v163] : Fin 1 → IVec S16 32) a x).toNat < S1600.size a)
theorem k1_idx67_inb : ∀ (v163 : IVec S16 32) (k1_hw67 : k1_chk67 v163), ∀ a x, ((![v163] : Fin 1 → IVec S16 32) a x).toNat < S1600.size a := fun v163 k1_hw67 => k1_hw67

def k1_chk68 (v166 : IVec S16 32) : Prop :=
  (∀ a x, ((![v166] : Fin 1 → IVec S16 32) a x).toNat < S1600.size a)
theorem k1_idx68_inb : ∀ (v166 : IVec S16 32) (k1_hw68 : k1_chk68 v166), ∀ a x, ((![v166] : Fin 1 → IVec S16 32) a x).toNat < S1600.size a := fun v166 k1_hw68 => k1_hw68

def k1_chk69 (v169 : IVec S16 32) : Prop :=
  (∀ a x, ((![v169] : Fin 1 → IVec S16 32) a x).toNat < S1600.size a)
theorem k1_idx69_inb : ∀ (v169 : IVec S16 32) (k1_hw69 : k1_chk69 v169), ∀ a x, ((![v169] : Fin 1 → IVec S16 32) a x).toNat < S1600.size a := fun v169 k1_hw69 => k1_hw69

def k1_chk70 (v172 : IVec S16 32) : Prop :=
  (∀ a x, ((![v172] : Fin 1 → IVec S16 32) a x).toNat < S1600.size a)
theorem k1_idx70_inb : ∀ (v172 : IVec S16 32) (k1_hw70 : k1_chk70 v172), ∀ a x, ((![v172] : Fin 1 → IVec S16 32) a x).toNat < S1600.size a := fun v172 k1_hw70 => k1_hw70

def k1_chk71 (v175 : IVec S16 32) : Prop :=
  (∀ a x, ((![v175] : Fin 1 → IVec S16 32) a x).toNat < S1600.size a)
theorem k1_idx71_inb : ∀ (v175 : IVec S16 32) (k1_hw71 : k1_chk71 v175), ∀ a x, ((![v175] : Fin 1 → IVec S16 32) a x).toNat < S1600.size a := fun v175 k1_hw71 => k1_hw71

def k1_chk72 (v178 : IVec S16 32) : Prop :=
  (∀ a x, ((![v178] : Fin 1 → IVec S16 32) a x).toNat < S1600.size a)
theorem k1_idx72_inb : ∀ (v178 : IVec S16 32) (k1_hw72 : k1_chk72 v178), ∀ a x, ((![v178] : Fin 1 → IVec S16 32) a x).toNat < S1600.size a := fun v178 k1_hw72 => k1_hw72
def k1_off78 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v189 : Index := Scalar.indexCast arg12
  let c128 : Index := 128#32
  ![v189.toNat, 128]
def k1_off79 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v193 : Index := Scalar.indexCast arg12
  let c144 : Index := 144#32
  ![v193.toNat, 144]
def k1_off80 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v197 : Index := Scalar.indexCast arg12
  let c160 : Index := 160#32
  ![v197.toNat, 160]
def k1_off81 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v201 : Index := Scalar.indexCast arg12
  let c176 : Index := 176#32
  ![v201.toNat, 176]
def k1_off82 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v205 : Index := Scalar.indexCast arg12
  let c192 : Index := 192#32
  ![v205.toNat, 192]
def k1_off83 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v209 : Index := Scalar.indexCast arg12
  let c208 : Index := 208#32
  ![v209.toNat, 208]
def k1_off84 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v213 : Index := Scalar.indexCast arg12
  let c224 : Index := 224#32
  ![v213.toNat, 224]
def k1_off85 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v217 : Index := Scalar.indexCast arg12
  let c240 : Index := 240#32
  ![v217.toNat, 240]

def k1_chk73 (v277 : IVec S16 32) : Prop :=
  (∀ a x, ((![v277] : Fin 1 → IVec S16 32) a x).toNat < S1600.size a)
theorem k1_idx73_inb : ∀ (v277 : IVec S16 32) (k1_hw73 : k1_chk73 v277), ∀ a x, ((![v277] : Fin 1 → IVec S16 32) a x).toNat < S1600.size a := fun v277 k1_hw73 => k1_hw73

def k1_chk74 (v280 : IVec S16 32) : Prop :=
  (∀ a x, ((![v280] : Fin 1 → IVec S16 32) a x).toNat < S1600.size a)
theorem k1_idx74_inb : ∀ (v280 : IVec S16 32) (k1_hw74 : k1_chk74 v280), ∀ a x, ((![v280] : Fin 1 → IVec S16 32) a x).toNat < S1600.size a := fun v280 k1_hw74 => k1_hw74

def k1_chk75 (v283 : IVec S16 32) : Prop :=
  (∀ a x, ((![v283] : Fin 1 → IVec S16 32) a x).toNat < S1600.size a)
theorem k1_idx75_inb : ∀ (v283 : IVec S16 32) (k1_hw75 : k1_chk75 v283), ∀ a x, ((![v283] : Fin 1 → IVec S16 32) a x).toNat < S1600.size a := fun v283 k1_hw75 => k1_hw75

def k1_chk76 (v286 : IVec S16 32) : Prop :=
  (∀ a x, ((![v286] : Fin 1 → IVec S16 32) a x).toNat < S1600.size a)
theorem k1_idx76_inb : ∀ (v286 : IVec S16 32) (k1_hw76 : k1_chk76 v286), ∀ a x, ((![v286] : Fin 1 → IVec S16 32) a x).toNat < S1600.size a := fun v286 k1_hw76 => k1_hw76

def k1_chk77 (v289 : IVec S16 32) : Prop :=
  (∀ a x, ((![v289] : Fin 1 → IVec S16 32) a x).toNat < S1600.size a)
theorem k1_idx77_inb : ∀ (v289 : IVec S16 32) (k1_hw77 : k1_chk77 v289), ∀ a x, ((![v289] : Fin 1 → IVec S16 32) a x).toNat < S1600.size a := fun v289 k1_hw77 => k1_hw77

def k1_chk78 (v292 : IVec S16 32) : Prop :=
  (∀ a x, ((![v292] : Fin 1 → IVec S16 32) a x).toNat < S1600.size a)
theorem k1_idx78_inb : ∀ (v292 : IVec S16 32) (k1_hw78 : k1_chk78 v292), ∀ a x, ((![v292] : Fin 1 → IVec S16 32) a x).toNat < S1600.size a := fun v292 k1_hw78 => k1_hw78

def k1_chk79 (v295 : IVec S16 32) : Prop :=
  (∀ a x, ((![v295] : Fin 1 → IVec S16 32) a x).toNat < S1600.size a)
theorem k1_idx79_inb : ∀ (v295 : IVec S16 32) (k1_hw79 : k1_chk79 v295), ∀ a x, ((![v295] : Fin 1 → IVec S16 32) a x).toNat < S1600.size a := fun v295 k1_hw79 => k1_hw79

def k1_chk80 (v298 : IVec S16 32) : Prop :=
  (∀ a x, ((![v298] : Fin 1 → IVec S16 32) a x).toNat < S1600.size a)
theorem k1_idx80_inb : ∀ (v298 : IVec S16 32) (k1_hw80 : k1_chk80 v298), ∀ a x, ((![v298] : Fin 1 → IVec S16 32) a x).toNat < S1600.size a := fun v298 k1_hw80 => k1_hw80
def k1_off86 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v309 : Index := Scalar.indexCast arg12
  let c256 : Index := 256#32
  ![v309.toNat, 256]
def k1_off87 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v313 : Index := Scalar.indexCast arg12
  let c272 : Index := 272#32
  ![v313.toNat, 272]
def k1_off88 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v317 : Index := Scalar.indexCast arg12
  let c288 : Index := 288#32
  ![v317.toNat, 288]
def k1_off89 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v321 : Index := Scalar.indexCast arg12
  let c304 : Index := 304#32
  ![v321.toNat, 304]
def k1_off90 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v325 : Index := Scalar.indexCast arg12
  let c320 : Index := 320#32
  ![v325.toNat, 320]
def k1_off91 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v329 : Index := Scalar.indexCast arg12
  let c336 : Index := 336#32
  ![v329.toNat, 336]
def k1_off92 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v333 : Index := Scalar.indexCast arg12
  let c352 : Index := 352#32
  ![v333.toNat, 352]
def k1_off93 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v337 : Index := Scalar.indexCast arg12
  let c368 : Index := 368#32
  ![v337.toNat, 368]

def k1_chk81 (v397 : IVec S16 32) : Prop :=
  (∀ a x, ((![v397] : Fin 1 → IVec S16 32) a x).toNat < S1600.size a)
theorem k1_idx81_inb : ∀ (v397 : IVec S16 32) (k1_hw81 : k1_chk81 v397), ∀ a x, ((![v397] : Fin 1 → IVec S16 32) a x).toNat < S1600.size a := fun v397 k1_hw81 => k1_hw81

def k1_chk82 (v400 : IVec S16 32) : Prop :=
  (∀ a x, ((![v400] : Fin 1 → IVec S16 32) a x).toNat < S1600.size a)
theorem k1_idx82_inb : ∀ (v400 : IVec S16 32) (k1_hw82 : k1_chk82 v400), ∀ a x, ((![v400] : Fin 1 → IVec S16 32) a x).toNat < S1600.size a := fun v400 k1_hw82 => k1_hw82

def k1_chk83 (v403 : IVec S16 32) : Prop :=
  (∀ a x, ((![v403] : Fin 1 → IVec S16 32) a x).toNat < S1600.size a)
theorem k1_idx83_inb : ∀ (v403 : IVec S16 32) (k1_hw83 : k1_chk83 v403), ∀ a x, ((![v403] : Fin 1 → IVec S16 32) a x).toNat < S1600.size a := fun v403 k1_hw83 => k1_hw83

def k1_chk84 (v406 : IVec S16 32) : Prop :=
  (∀ a x, ((![v406] : Fin 1 → IVec S16 32) a x).toNat < S1600.size a)
theorem k1_idx84_inb : ∀ (v406 : IVec S16 32) (k1_hw84 : k1_chk84 v406), ∀ a x, ((![v406] : Fin 1 → IVec S16 32) a x).toNat < S1600.size a := fun v406 k1_hw84 => k1_hw84

def k1_chk85 (v409 : IVec S16 32) : Prop :=
  (∀ a x, ((![v409] : Fin 1 → IVec S16 32) a x).toNat < S1600.size a)
theorem k1_idx85_inb : ∀ (v409 : IVec S16 32) (k1_hw85 : k1_chk85 v409), ∀ a x, ((![v409] : Fin 1 → IVec S16 32) a x).toNat < S1600.size a := fun v409 k1_hw85 => k1_hw85

def k1_chk86 (v412 : IVec S16 32) : Prop :=
  (∀ a x, ((![v412] : Fin 1 → IVec S16 32) a x).toNat < S1600.size a)
theorem k1_idx86_inb : ∀ (v412 : IVec S16 32) (k1_hw86 : k1_chk86 v412), ∀ a x, ((![v412] : Fin 1 → IVec S16 32) a x).toNat < S1600.size a := fun v412 k1_hw86 => k1_hw86

def k1_chk87 (v415 : IVec S16 32) : Prop :=
  (∀ a x, ((![v415] : Fin 1 → IVec S16 32) a x).toNat < S1600.size a)
theorem k1_idx87_inb : ∀ (v415 : IVec S16 32) (k1_hw87 : k1_chk87 v415), ∀ a x, ((![v415] : Fin 1 → IVec S16 32) a x).toNat < S1600.size a := fun v415 k1_hw87 => k1_hw87

def k1_chk88 (v418 : IVec S16 32) : Prop :=
  (∀ a x, ((![v418] : Fin 1 → IVec S16 32) a x).toNat < S1600.size a)
theorem k1_idx88_inb : ∀ (v418 : IVec S16 32) (k1_hw88 : k1_chk88 v418), ∀ a x, ((![v418] : Fin 1 → IVec S16 32) a x).toNat < S1600.size a := fun v418 k1_hw88 => k1_hw88
def k1_off94 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v429 : Index := Scalar.indexCast arg12
  let c384 : Index := 384#32
  ![v429.toNat, 384]
def k1_off95 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v433 : Index := Scalar.indexCast arg12
  let c400 : Index := 400#32
  ![v433.toNat, 400]
def k1_off96 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v437 : Index := Scalar.indexCast arg12
  let c416 : Index := 416#32
  ![v437.toNat, 416]
def k1_off97 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v441 : Index := Scalar.indexCast arg12
  let c432 : Index := 432#32
  ![v441.toNat, 432]
def k1_off98 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v445 : Index := Scalar.indexCast arg12
  let c448 : Index := 448#32
  ![v445.toNat, 448]
def k1_off99 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v449 : Index := Scalar.indexCast arg12
  let c464 : Index := 464#32
  ![v449.toNat, 464]
def k1_off100 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v453 : Index := Scalar.indexCast arg12
  let c480 : Index := 480#32
  ![v453.toNat, 480]
def k1_off101 (k1_t6 : Fin k1_t6_loop.trips) : Fin 2 → Nat :=
  let c0_i32_54 : BitVec 32 := 0#32
  let c1_i32_56 : BitVec 32 := 1#32
  let arg12 : BitVec 32 := Scf.iv c0_i32_54 c1_i32_56 k1_t6
  let v457 : Index := Scalar.indexCast arg12
  let c496 : Index := 496#32
  ![v457.toNat, 496]

def k1_chk89 (v517 : IVec S16 32) : Prop :=
  (∀ a x, ((![v517] : Fin 1 → IVec S16 32) a x).toNat < S1600.size a)
theorem k1_idx89_inb : ∀ (v517 : IVec S16 32) (k1_hw89 : k1_chk89 v517), ∀ a x, ((![v517] : Fin 1 → IVec S16 32) a x).toNat < S1600.size a := fun v517 k1_hw89 => k1_hw89

def k1_chk90 (v520 : IVec S16 32) : Prop :=
  (∀ a x, ((![v520] : Fin 1 → IVec S16 32) a x).toNat < S1600.size a)
theorem k1_idx90_inb : ∀ (v520 : IVec S16 32) (k1_hw90 : k1_chk90 v520), ∀ a x, ((![v520] : Fin 1 → IVec S16 32) a x).toNat < S1600.size a := fun v520 k1_hw90 => k1_hw90

def k1_chk91 (v523 : IVec S16 32) : Prop :=
  (∀ a x, ((![v523] : Fin 1 → IVec S16 32) a x).toNat < S1600.size a)
theorem k1_idx91_inb : ∀ (v523 : IVec S16 32) (k1_hw91 : k1_chk91 v523), ∀ a x, ((![v523] : Fin 1 → IVec S16 32) a x).toNat < S1600.size a := fun v523 k1_hw91 => k1_hw91

def k1_chk92 (v526 : IVec S16 32) : Prop :=
  (∀ a x, ((![v526] : Fin 1 → IVec S16 32) a x).toNat < S1600.size a)
theorem k1_idx92_inb : ∀ (v526 : IVec S16 32) (k1_hw92 : k1_chk92 v526), ∀ a x, ((![v526] : Fin 1 → IVec S16 32) a x).toNat < S1600.size a := fun v526 k1_hw92 => k1_hw92

def k1_chk93 (v529 : IVec S16 32) : Prop :=
  (∀ a x, ((![v529] : Fin 1 → IVec S16 32) a x).toNat < S1600.size a)
theorem k1_idx93_inb : ∀ (v529 : IVec S16 32) (k1_hw93 : k1_chk93 v529), ∀ a x, ((![v529] : Fin 1 → IVec S16 32) a x).toNat < S1600.size a := fun v529 k1_hw93 => k1_hw93

def k1_chk94 (v532 : IVec S16 32) : Prop :=
  (∀ a x, ((![v532] : Fin 1 → IVec S16 32) a x).toNat < S1600.size a)
theorem k1_idx94_inb : ∀ (v532 : IVec S16 32) (k1_hw94 : k1_chk94 v532), ∀ a x, ((![v532] : Fin 1 → IVec S16 32) a x).toNat < S1600.size a := fun v532 k1_hw94 => k1_hw94

def k1_chk95 (v535 : IVec S16 32) : Prop :=
  (∀ a x, ((![v535] : Fin 1 → IVec S16 32) a x).toNat < S1600.size a)
theorem k1_idx95_inb : ∀ (v535 : IVec S16 32) (k1_hw95 : k1_chk95 v535), ∀ a x, ((![v535] : Fin 1 → IVec S16 32) a x).toNat < S1600.size a := fun v535 k1_hw95 => k1_hw95

def k1_chk96 (v538 : IVec S16 32) : Prop :=
  (∀ a x, ((![v538] : Fin 1 → IVec S16 32) a x).toNat < S1600.size a)
theorem k1_idx96_inb : ∀ (v538 : IVec S16 32) (k1_hw96 : k1_chk96 v538), ∀ a x, ((![v538] : Fin 1 → IVec S16 32) a x).toNat < S1600.size a := fun v538 k1_hw96 => k1_hw96
def k1_cond2 (k1_t5 : Fin k1_t5_loop.trips) : BitVec 1 :=
  let c0_i32_28 : BitVec 32 := 0#32
  let c1_i32_30 : BitVec 32 := 1#32
  let arg11 : BitVec 32 := Scf.iv c0_i32_28 c1_i32_30 k1_t5
  let c11_i32 : BitVec 32 := 11#32
  let v62 : BitVec 1 := Scalar.cmpi .slt arg11 c11_i32
  let v63 : BitVec 32 := Scalar.extui v62
  let c0_i32_68 : BitVec 32 := 0#32
  let v64 : BitVec 1 := Scalar.cmpi .ne v63 c0_i32_68
  v64

def k1_off102 (i : grid1.Coords) (k1_t5 : Fin k1_t5_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c2_i32_75 : BitVec 32 := 2#32
  let c0_i32_28 : BitVec 32 := 0#32
  let c1_i32_30 : BitVec 32 := 1#32
  let arg11 : BitVec 32 := Scf.iv c0_i32_28 c1_i32_30 k1_t5
  let v67 : BitVec 32 := Scalar.muli c2_i32_75 arg11
  let c2_i32_76 : BitVec 32 := 2#32
  let v68 : BitVec 32 := Scalar.addi v67 c2_i32_76
  let c3_i32_77 : BitVec 32 := 3#32
  let v69 : BitVec 32 := Scalar.shrsi v68 c3_i32_77
  let v70 : BitVec 32 := Scalar.addi v2 v69
  let c7_i32_78 : BitVec 32 := 7#32
  let v71 : BitVec 32 := Scalar.andi v68 c7_i32_78
  let c64_i32_79 : BitVec 32 := 64#32
  let v72 : BitVec 32 := Scalar.muli v71 c64_i32_79
  let c0_i32_83 : BitVec 32 := 0#32
  ![v70.toNat, v72.toNat, 0]
@[reducible] def k1_t7_loop : Scf.Loop 32 :=
  let c0_i32_71 : BitVec 32 := 0#32
  let c64_i32_72 : BitVec 32 := 64#32
  let v65 : BitVec 32 := Scalar.addi c0_i32_71 c64_i32_72
  let c1_i32_73 : BitVec 32 := 1#32
  ⟨c0_i32_71, v65, c1_i32_73⟩
def k1_off103 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v69 : Index := Scalar.indexCast arg12
  let c0_77 : Index := 0#32
  ![v69.toNat, 0]
def k1_off104 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v73 : Index := Scalar.indexCast arg12
  let c16_80 : Index := 16#32
  ![v73.toNat, 16]
def k1_off105 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v77 : Index := Scalar.indexCast arg12
  let c32 : Index := 32#32
  ![v77.toNat, 32]
def k1_off106 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v81 : Index := Scalar.indexCast arg12
  let c48 : Index := 48#32
  ![v81.toNat, 48]
def k1_off107 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v85 : Index := Scalar.indexCast arg12
  let c64 : Index := 64#32
  ![v85.toNat, 64]
def k1_off108 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v89 : Index := Scalar.indexCast arg12
  let c80 : Index := 80#32
  ![v89.toNat, 80]
def k1_off109 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v93 : Index := Scalar.indexCast arg12
  let c96 : Index := 96#32
  ![v93.toNat, 96]
def k1_off110 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v97 : Index := Scalar.indexCast arg12
  let c112 : Index := 112#32
  ![v97.toNat, 112]

def k1_chk97 (v157 : IVec S16 32) : Prop :=
  (∀ a x, ((![v157] : Fin 1 → IVec S16 32) a x).toNat < S1600.size a)
theorem k1_idx97_inb : ∀ (v157 : IVec S16 32) (k1_hw97 : k1_chk97 v157), ∀ a x, ((![v157] : Fin 1 → IVec S16 32) a x).toNat < S1600.size a := fun v157 k1_hw97 => k1_hw97

def k1_chk98 (v160 : IVec S16 32) : Prop :=
  (∀ a x, ((![v160] : Fin 1 → IVec S16 32) a x).toNat < S1600.size a)
theorem k1_idx98_inb : ∀ (v160 : IVec S16 32) (k1_hw98 : k1_chk98 v160), ∀ a x, ((![v160] : Fin 1 → IVec S16 32) a x).toNat < S1600.size a := fun v160 k1_hw98 => k1_hw98

def k1_chk99 (v163 : IVec S16 32) : Prop :=
  (∀ a x, ((![v163] : Fin 1 → IVec S16 32) a x).toNat < S1600.size a)
theorem k1_idx99_inb : ∀ (v163 : IVec S16 32) (k1_hw99 : k1_chk99 v163), ∀ a x, ((![v163] : Fin 1 → IVec S16 32) a x).toNat < S1600.size a := fun v163 k1_hw99 => k1_hw99

def k1_chk100 (v166 : IVec S16 32) : Prop :=
  (∀ a x, ((![v166] : Fin 1 → IVec S16 32) a x).toNat < S1600.size a)
theorem k1_idx100_inb : ∀ (v166 : IVec S16 32) (k1_hw100 : k1_chk100 v166), ∀ a x, ((![v166] : Fin 1 → IVec S16 32) a x).toNat < S1600.size a := fun v166 k1_hw100 => k1_hw100

def k1_chk101 (v169 : IVec S16 32) : Prop :=
  (∀ a x, ((![v169] : Fin 1 → IVec S16 32) a x).toNat < S1600.size a)
theorem k1_idx101_inb : ∀ (v169 : IVec S16 32) (k1_hw101 : k1_chk101 v169), ∀ a x, ((![v169] : Fin 1 → IVec S16 32) a x).toNat < S1600.size a := fun v169 k1_hw101 => k1_hw101

def k1_chk102 (v172 : IVec S16 32) : Prop :=
  (∀ a x, ((![v172] : Fin 1 → IVec S16 32) a x).toNat < S1600.size a)
theorem k1_idx102_inb : ∀ (v172 : IVec S16 32) (k1_hw102 : k1_chk102 v172), ∀ a x, ((![v172] : Fin 1 → IVec S16 32) a x).toNat < S1600.size a := fun v172 k1_hw102 => k1_hw102

def k1_chk103 (v175 : IVec S16 32) : Prop :=
  (∀ a x, ((![v175] : Fin 1 → IVec S16 32) a x).toNat < S1600.size a)
theorem k1_idx103_inb : ∀ (v175 : IVec S16 32) (k1_hw103 : k1_chk103 v175), ∀ a x, ((![v175] : Fin 1 → IVec S16 32) a x).toNat < S1600.size a := fun v175 k1_hw103 => k1_hw103

def k1_chk104 (v178 : IVec S16 32) : Prop :=
  (∀ a x, ((![v178] : Fin 1 → IVec S16 32) a x).toNat < S1600.size a)
theorem k1_idx104_inb : ∀ (v178 : IVec S16 32) (k1_hw104 : k1_chk104 v178), ∀ a x, ((![v178] : Fin 1 → IVec S16 32) a x).toNat < S1600.size a := fun v178 k1_hw104 => k1_hw104
def k1_off111 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v189 : Index := Scalar.indexCast arg12
  let c128 : Index := 128#32
  ![v189.toNat, 128]
def k1_off112 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v193 : Index := Scalar.indexCast arg12
  let c144 : Index := 144#32
  ![v193.toNat, 144]
def k1_off113 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v197 : Index := Scalar.indexCast arg12
  let c160 : Index := 160#32
  ![v197.toNat, 160]
def k1_off114 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v201 : Index := Scalar.indexCast arg12
  let c176 : Index := 176#32
  ![v201.toNat, 176]
def k1_off115 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v205 : Index := Scalar.indexCast arg12
  let c192 : Index := 192#32
  ![v205.toNat, 192]
def k1_off116 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v209 : Index := Scalar.indexCast arg12
  let c208 : Index := 208#32
  ![v209.toNat, 208]
def k1_off117 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v213 : Index := Scalar.indexCast arg12
  let c224 : Index := 224#32
  ![v213.toNat, 224]
def k1_off118 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v217 : Index := Scalar.indexCast arg12
  let c240 : Index := 240#32
  ![v217.toNat, 240]

def k1_chk105 (v277 : IVec S16 32) : Prop :=
  (∀ a x, ((![v277] : Fin 1 → IVec S16 32) a x).toNat < S1600.size a)
theorem k1_idx105_inb : ∀ (v277 : IVec S16 32) (k1_hw105 : k1_chk105 v277), ∀ a x, ((![v277] : Fin 1 → IVec S16 32) a x).toNat < S1600.size a := fun v277 k1_hw105 => k1_hw105

def k1_chk106 (v280 : IVec S16 32) : Prop :=
  (∀ a x, ((![v280] : Fin 1 → IVec S16 32) a x).toNat < S1600.size a)
theorem k1_idx106_inb : ∀ (v280 : IVec S16 32) (k1_hw106 : k1_chk106 v280), ∀ a x, ((![v280] : Fin 1 → IVec S16 32) a x).toNat < S1600.size a := fun v280 k1_hw106 => k1_hw106

def k1_chk107 (v283 : IVec S16 32) : Prop :=
  (∀ a x, ((![v283] : Fin 1 → IVec S16 32) a x).toNat < S1600.size a)
theorem k1_idx107_inb : ∀ (v283 : IVec S16 32) (k1_hw107 : k1_chk107 v283), ∀ a x, ((![v283] : Fin 1 → IVec S16 32) a x).toNat < S1600.size a := fun v283 k1_hw107 => k1_hw107

def k1_chk108 (v286 : IVec S16 32) : Prop :=
  (∀ a x, ((![v286] : Fin 1 → IVec S16 32) a x).toNat < S1600.size a)
theorem k1_idx108_inb : ∀ (v286 : IVec S16 32) (k1_hw108 : k1_chk108 v286), ∀ a x, ((![v286] : Fin 1 → IVec S16 32) a x).toNat < S1600.size a := fun v286 k1_hw108 => k1_hw108

def k1_chk109 (v289 : IVec S16 32) : Prop :=
  (∀ a x, ((![v289] : Fin 1 → IVec S16 32) a x).toNat < S1600.size a)
theorem k1_idx109_inb : ∀ (v289 : IVec S16 32) (k1_hw109 : k1_chk109 v289), ∀ a x, ((![v289] : Fin 1 → IVec S16 32) a x).toNat < S1600.size a := fun v289 k1_hw109 => k1_hw109

def k1_chk110 (v292 : IVec S16 32) : Prop :=
  (∀ a x, ((![v292] : Fin 1 → IVec S16 32) a x).toNat < S1600.size a)
theorem k1_idx110_inb : ∀ (v292 : IVec S16 32) (k1_hw110 : k1_chk110 v292), ∀ a x, ((![v292] : Fin 1 → IVec S16 32) a x).toNat < S1600.size a := fun v292 k1_hw110 => k1_hw110

def k1_chk111 (v295 : IVec S16 32) : Prop :=
  (∀ a x, ((![v295] : Fin 1 → IVec S16 32) a x).toNat < S1600.size a)
theorem k1_idx111_inb : ∀ (v295 : IVec S16 32) (k1_hw111 : k1_chk111 v295), ∀ a x, ((![v295] : Fin 1 → IVec S16 32) a x).toNat < S1600.size a := fun v295 k1_hw111 => k1_hw111

def k1_chk112 (v298 : IVec S16 32) : Prop :=
  (∀ a x, ((![v298] : Fin 1 → IVec S16 32) a x).toNat < S1600.size a)
theorem k1_idx112_inb : ∀ (v298 : IVec S16 32) (k1_hw112 : k1_chk112 v298), ∀ a x, ((![v298] : Fin 1 → IVec S16 32) a x).toNat < S1600.size a := fun v298 k1_hw112 => k1_hw112
def k1_off119 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v309 : Index := Scalar.indexCast arg12
  let c256 : Index := 256#32
  ![v309.toNat, 256]
def k1_off120 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v313 : Index := Scalar.indexCast arg12
  let c272 : Index := 272#32
  ![v313.toNat, 272]
def k1_off121 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v317 : Index := Scalar.indexCast arg12
  let c288 : Index := 288#32
  ![v317.toNat, 288]
def k1_off122 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v321 : Index := Scalar.indexCast arg12
  let c304 : Index := 304#32
  ![v321.toNat, 304]
def k1_off123 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v325 : Index := Scalar.indexCast arg12
  let c320 : Index := 320#32
  ![v325.toNat, 320]
def k1_off124 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v329 : Index := Scalar.indexCast arg12
  let c336 : Index := 336#32
  ![v329.toNat, 336]
def k1_off125 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v333 : Index := Scalar.indexCast arg12
  let c352 : Index := 352#32
  ![v333.toNat, 352]
def k1_off126 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v337 : Index := Scalar.indexCast arg12
  let c368 : Index := 368#32
  ![v337.toNat, 368]

def k1_chk113 (v397 : IVec S16 32) : Prop :=
  (∀ a x, ((![v397] : Fin 1 → IVec S16 32) a x).toNat < S1600.size a)
theorem k1_idx113_inb : ∀ (v397 : IVec S16 32) (k1_hw113 : k1_chk113 v397), ∀ a x, ((![v397] : Fin 1 → IVec S16 32) a x).toNat < S1600.size a := fun v397 k1_hw113 => k1_hw113

def k1_chk114 (v400 : IVec S16 32) : Prop :=
  (∀ a x, ((![v400] : Fin 1 → IVec S16 32) a x).toNat < S1600.size a)
theorem k1_idx114_inb : ∀ (v400 : IVec S16 32) (k1_hw114 : k1_chk114 v400), ∀ a x, ((![v400] : Fin 1 → IVec S16 32) a x).toNat < S1600.size a := fun v400 k1_hw114 => k1_hw114

def k1_chk115 (v403 : IVec S16 32) : Prop :=
  (∀ a x, ((![v403] : Fin 1 → IVec S16 32) a x).toNat < S1600.size a)
theorem k1_idx115_inb : ∀ (v403 : IVec S16 32) (k1_hw115 : k1_chk115 v403), ∀ a x, ((![v403] : Fin 1 → IVec S16 32) a x).toNat < S1600.size a := fun v403 k1_hw115 => k1_hw115

def k1_chk116 (v406 : IVec S16 32) : Prop :=
  (∀ a x, ((![v406] : Fin 1 → IVec S16 32) a x).toNat < S1600.size a)
theorem k1_idx116_inb : ∀ (v406 : IVec S16 32) (k1_hw116 : k1_chk116 v406), ∀ a x, ((![v406] : Fin 1 → IVec S16 32) a x).toNat < S1600.size a := fun v406 k1_hw116 => k1_hw116

def k1_chk117 (v409 : IVec S16 32) : Prop :=
  (∀ a x, ((![v409] : Fin 1 → IVec S16 32) a x).toNat < S1600.size a)
theorem k1_idx117_inb : ∀ (v409 : IVec S16 32) (k1_hw117 : k1_chk117 v409), ∀ a x, ((![v409] : Fin 1 → IVec S16 32) a x).toNat < S1600.size a := fun v409 k1_hw117 => k1_hw117

def k1_chk118 (v412 : IVec S16 32) : Prop :=
  (∀ a x, ((![v412] : Fin 1 → IVec S16 32) a x).toNat < S1600.size a)
theorem k1_idx118_inb : ∀ (v412 : IVec S16 32) (k1_hw118 : k1_chk118 v412), ∀ a x, ((![v412] : Fin 1 → IVec S16 32) a x).toNat < S1600.size a := fun v412 k1_hw118 => k1_hw118

def k1_chk119 (v415 : IVec S16 32) : Prop :=
  (∀ a x, ((![v415] : Fin 1 → IVec S16 32) a x).toNat < S1600.size a)
theorem k1_idx119_inb : ∀ (v415 : IVec S16 32) (k1_hw119 : k1_chk119 v415), ∀ a x, ((![v415] : Fin 1 → IVec S16 32) a x).toNat < S1600.size a := fun v415 k1_hw119 => k1_hw119

def k1_chk120 (v418 : IVec S16 32) : Prop :=
  (∀ a x, ((![v418] : Fin 1 → IVec S16 32) a x).toNat < S1600.size a)
theorem k1_idx120_inb : ∀ (v418 : IVec S16 32) (k1_hw120 : k1_chk120 v418), ∀ a x, ((![v418] : Fin 1 → IVec S16 32) a x).toNat < S1600.size a := fun v418 k1_hw120 => k1_hw120
def k1_off127 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v429 : Index := Scalar.indexCast arg12
  let c384 : Index := 384#32
  ![v429.toNat, 384]
def k1_off128 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v433 : Index := Scalar.indexCast arg12
  let c400 : Index := 400#32
  ![v433.toNat, 400]
def k1_off129 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v437 : Index := Scalar.indexCast arg12
  let c416 : Index := 416#32
  ![v437.toNat, 416]
def k1_off130 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v441 : Index := Scalar.indexCast arg12
  let c432 : Index := 432#32
  ![v441.toNat, 432]
def k1_off131 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v445 : Index := Scalar.indexCast arg12
  let c448 : Index := 448#32
  ![v445.toNat, 448]
def k1_off132 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v449 : Index := Scalar.indexCast arg12
  let c464 : Index := 464#32
  ![v449.toNat, 464]
def k1_off133 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v453 : Index := Scalar.indexCast arg12
  let c480 : Index := 480#32
  ![v453.toNat, 480]
def k1_off134 (k1_t7 : Fin k1_t7_loop.trips) : Fin 2 → Nat :=
  let c0_i32_71 : BitVec 32 := 0#32
  let c1_i32_73 : BitVec 32 := 1#32
  let arg12 : BitVec 32 := Scf.iv c0_i32_71 c1_i32_73 k1_t7
  let v457 : Index := Scalar.indexCast arg12
  let c496 : Index := 496#32
  ![v457.toNat, 496]

def k1_chk121 (v517 : IVec S16 32) : Prop :=
  (∀ a x, ((![v517] : Fin 1 → IVec S16 32) a x).toNat < S1600.size a)
theorem k1_idx121_inb : ∀ (v517 : IVec S16 32) (k1_hw121 : k1_chk121 v517), ∀ a x, ((![v517] : Fin 1 → IVec S16 32) a x).toNat < S1600.size a := fun v517 k1_hw121 => k1_hw121

def k1_chk122 (v520 : IVec S16 32) : Prop :=
  (∀ a x, ((![v520] : Fin 1 → IVec S16 32) a x).toNat < S1600.size a)
theorem k1_idx122_inb : ∀ (v520 : IVec S16 32) (k1_hw122 : k1_chk122 v520), ∀ a x, ((![v520] : Fin 1 → IVec S16 32) a x).toNat < S1600.size a := fun v520 k1_hw122 => k1_hw122

def k1_chk123 (v523 : IVec S16 32) : Prop :=
  (∀ a x, ((![v523] : Fin 1 → IVec S16 32) a x).toNat < S1600.size a)
theorem k1_idx123_inb : ∀ (v523 : IVec S16 32) (k1_hw123 : k1_chk123 v523), ∀ a x, ((![v523] : Fin 1 → IVec S16 32) a x).toNat < S1600.size a := fun v523 k1_hw123 => k1_hw123

def k1_chk124 (v526 : IVec S16 32) : Prop :=
  (∀ a x, ((![v526] : Fin 1 → IVec S16 32) a x).toNat < S1600.size a)
theorem k1_idx124_inb : ∀ (v526 : IVec S16 32) (k1_hw124 : k1_chk124 v526), ∀ a x, ((![v526] : Fin 1 → IVec S16 32) a x).toNat < S1600.size a := fun v526 k1_hw124 => k1_hw124

def k1_chk125 (v529 : IVec S16 32) : Prop :=
  (∀ a x, ((![v529] : Fin 1 → IVec S16 32) a x).toNat < S1600.size a)
theorem k1_idx125_inb : ∀ (v529 : IVec S16 32) (k1_hw125 : k1_chk125 v529), ∀ a x, ((![v529] : Fin 1 → IVec S16 32) a x).toNat < S1600.size a := fun v529 k1_hw125 => k1_hw125

def k1_chk126 (v532 : IVec S16 32) : Prop :=
  (∀ a x, ((![v532] : Fin 1 → IVec S16 32) a x).toNat < S1600.size a)
theorem k1_idx126_inb : ∀ (v532 : IVec S16 32) (k1_hw126 : k1_chk126 v532), ∀ a x, ((![v532] : Fin 1 → IVec S16 32) a x).toNat < S1600.size a := fun v532 k1_hw126 => k1_hw126

def k1_chk127 (v535 : IVec S16 32) : Prop :=
  (∀ a x, ((![v535] : Fin 1 → IVec S16 32) a x).toNat < S1600.size a)
theorem k1_idx127_inb : ∀ (v535 : IVec S16 32) (k1_hw127 : k1_chk127 v535), ∀ a x, ((![v535] : Fin 1 → IVec S16 32) a x).toNat < S1600.size a := fun v535 k1_hw127 => k1_hw127

def k1_chk128 (v538 : IVec S16 32) : Prop :=
  (∀ a x, ((![v538] : Fin 1 → IVec S16 32) a x).toNat < S1600.size a)
theorem k1_idx128_inb : ∀ (v538 : IVec S16 32) (k1_hw128 : k1_chk128 v538), ∀ a x, ((![v538] : Fin 1 → IVec S16 32) a x).toNat < S1600.size a := fun v538 k1_hw128 => k1_hw128
def k1_off135 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_32_r1 : BitVec 32 := 0#32
  ![v1.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S32x3x512x512 : Shape := ⟨4, ![32, 3, 512, 512]⟩
abbrev S_ : Shape := ⟨0, ![]⟩
abbrev S100 : Shape := ⟨1, ![100]⟩
abbrev S25165824 : Shape := ⟨1, ![25165824]⟩
abbrev S25165824x1 : Shape := ⟨2, ![25165824, 1]⟩

abbrev nBuf : Space → Nat
  | .hbm => 106
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32x3x512x512, .f32⟩
  | .hbm, ⟨16, _⟩ => ⟨S32x3x512x512, .f32⟩
  | .hbm, ⟨17, _⟩ => ⟨S32x3x512x512, .f32⟩
  | .hbm, ⟨18, _⟩ => ⟨S32x3x512x512, .f32⟩
  | .hbm, ⟨19, _⟩ => ⟨S_, .f32⟩
  | .hbm, ⟨20, _⟩ => ⟨S32x3x512x512, .f32⟩
  | .hbm, ⟨21, _⟩ => ⟨S32x3x512x512, .f32⟩
  | .hbm, ⟨22, _⟩ => ⟨S32x3x512x512, .f32⟩
  | .hbm, ⟨23, _⟩ => ⟨S32x3x512x512, .i32⟩
  | .hbm, ⟨24, _⟩ => ⟨S32x3x512x512, .f32⟩
  | .hbm, ⟨25, _⟩ => ⟨S32x3x512x512, .i1⟩
  | .hbm, ⟨26, _⟩ => ⟨S_, .i32⟩
  | .hbm, ⟨27, _⟩ => ⟨S_, .i32⟩
  | .hbm, ⟨28, _⟩ => ⟨S32x3x512x512, .i32⟩
  | .hbm, ⟨29, _⟩ => ⟨S32x3x512x512, .i32⟩
  | .hbm, ⟨30, _⟩ => ⟨S32x3x512x512, .f32⟩
  | .hbm, ⟨31, _⟩ => ⟨S32x3x512x512, .i1⟩
  | .hbm, ⟨32, _⟩ => ⟨S32x3x512x512, .f32⟩
  | .hbm, ⟨33, _⟩ => ⟨S32x3x512x512, .i1⟩
  | .hbm, ⟨34, _⟩ => ⟨S32x3x512x512, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S32x3x512x512, .i32⟩
  | .hbm, ⟨39, _⟩ => ⟨S32x3x512x512, .i32⟩
  | .hbm, ⟨40, _⟩ => ⟨S_, .i32⟩
  | .hbm, ⟨41, _⟩ => ⟨S32x3x512x512, .i32⟩
  | .hbm, ⟨42, _⟩ => ⟨S32x3x512x512, .i32⟩
  | .hbm, ⟨43, _⟩ => ⟨S_, .f32⟩
  | .hbm, ⟨44, _⟩ => ⟨S100, .f32⟩
  | .hbm, ⟨45, _⟩ => ⟨S25165824, .i32⟩
  | .hbm, ⟨46, _⟩ => ⟨S32x3x512x512, .f32⟩
  | .hbm, ⟨47, _⟩ => ⟨S25165824, .f32⟩
  | .hbm, ⟨48, _⟩ => ⟨S_, .i32⟩
  | .hbm, ⟨49, _⟩ => ⟨S25165824, .i32⟩
  | .hbm, ⟨50, _⟩ => ⟨S25165824, .i1⟩
  | .hbm, ⟨51, _⟩ => ⟨S_, .i32⟩
  | .hbm, ⟨52, _⟩ => ⟨S25165824, .i32⟩
  | .hbm, ⟨53, _⟩ => ⟨S25165824, .i32⟩
  | .hbm, ⟨54, _⟩ => ⟨S25165824, .i32⟩
  | .hbm, ⟨55, _⟩ => ⟨S25165824x1, .i32⟩
  | .hbm, ⟨56, _⟩ => ⟨S100, .f32⟩
  | .hbm, ⟨57, _⟩ => ⟨S_, .f32⟩
  | .hbm, ⟨58, _⟩ => ⟨S32x3x512x512, .f32⟩
  | .hbm, ⟨59, _⟩ => ⟨S32x3x512x512, .f32⟩
  | .hbm, ⟨60, _⟩ => ⟨S32x3x512x512, .f32⟩
  | .hbm, ⟨61, _⟩ => ⟨S32x3x512x512, .f32⟩
  | .hbm, ⟨62, _⟩ => ⟨S_, .f32⟩
  | .hbm, ⟨63, _⟩ => ⟨S32x3x512x512, .f32⟩
  | .hbm, ⟨64, _⟩ => ⟨S32x3x512x512, .f32⟩
  | .hbm, ⟨65, _⟩ => ⟨S32x3x512x512, .f32⟩
  | .hbm, ⟨66, _⟩ => ⟨S32x3x512x512, .i32⟩
  | .hbm, ⟨67, _⟩ => ⟨S32x3x512x512, .f32⟩
  | .hbm, ⟨68, _⟩ => ⟨S32x3x512x512, .i1⟩
  | .hbm, ⟨69, _⟩ => ⟨S_, .i32⟩
  | .hbm, ⟨70, _⟩ => ⟨S_, .i32⟩
  | .hbm, ⟨71, _⟩ => ⟨S32x3x512x512, .i32⟩
  | .hbm, ⟨72, _⟩ => ⟨S32x3x512x512, .i32⟩
  | .hbm, ⟨73, _⟩ => ⟨S32x3x512x512, .f32⟩
  | .hbm, ⟨74, _⟩ => ⟨S32x3x512x512, .i1⟩
  | .hbm, ⟨75, _⟩ => ⟨S32x3x512x512, .f32⟩
  | .hbm, ⟨76, _⟩ => ⟨S32x3x512x512, .i1⟩
  | .hbm, ⟨77, _⟩ => ⟨S32x3x512x512, .i1⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S32x3x512x512, .i32⟩
  | .hbm, ⟨82, _⟩ => ⟨S32x3x512x512, .i32⟩
  | .hbm, ⟨83, _⟩ => ⟨S_, .i32⟩
  | .hbm, ⟨84, _⟩ => ⟨S32x3x512x512, .i32⟩
  | .hbm, ⟨85, _⟩ => ⟨S32x3x512x512, .i32⟩
  | .hbm, ⟨86, _⟩ => ⟨S_, .f32⟩
  | .hbm, ⟨87, _⟩ => ⟨S100, .f32⟩
  | .hbm, ⟨88, _⟩ => ⟨S25165824, .i32⟩
  | .hbm, ⟨89, _⟩ => ⟨S32x3x512x512, .f32⟩
  | .hbm, ⟨90, _⟩ => ⟨S25165824, .f32⟩
  | .hbm, ⟨91, _⟩ => ⟨S_, .i32⟩
  | .hbm, ⟨92, _⟩ => ⟨S25165824, .i32⟩
  | .hbm, ⟨93, _⟩ => ⟨S25165824, .i1⟩
  | .hbm, ⟨94, _⟩ => ⟨S_, .i32⟩
  | .hbm, ⟨95, _⟩ => ⟨S25165824, .i32⟩
  | .hbm, ⟨96, _⟩ => ⟨S25165824, .i32⟩
  | .hbm, ⟨97, _⟩ => ⟨S25165824, .i32⟩
  | .hbm, ⟨98, _⟩ => ⟨S25165824x1, .i32⟩
  | .hbm, ⟨99, _⟩ => ⟨S100, .f32⟩
  | .hbm, ⟨100, _⟩ => ⟨S100, .f32⟩
  | .hbm, ⟨101, _⟩ => ⟨S100, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_c_6 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_c_9 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_11 : Ref sig .tc := ⟨.hbm, 69, rfl⟩
abbrev main_call2_v0 : Ref sig .tc := ⟨.hbm, 70, rfl⟩
abbrev main_call2_v1 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_c_13 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v53 : Ref sig .tc := ⟨.hbm, 85, rfl⟩
abbrev main_cst_14 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_15 : Ref sig .tc := ⟨.hbm, 91, rfl⟩
abbrev main_v58 : Ref sig .tc := ⟨.hbm, 92, rfl⟩
abbrev main_v59 : Ref sig .tc := ⟨.hbm, 93, rfl⟩
abbrev main_c_16 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_17 : Ref sig .tc := ⟨.hbm, 102, rfl⟩
abbrev main_v67 : Ref sig .tc := ⟨.hbm, 103, rfl⟩
abbrev main_cst_18 : Ref sig .tc := ⟨.hbm, 104, rfl⟩
abbrev main_v68 : Ref sig .tc := ⟨.hbm, 105, rfl⟩

abbrev nD : Nat := 1
abbrev τ : Topo := Topo.v7x

variable {F : FTy → Type} [FloatOps F]
-- ==== Proof.Rows.lean ====
/-
  The kernels' rows as short programs. Each row of a staged block is read in four groups of eight
  lane vectors. For the extrema kernel a group folds into eight running minima and eight running
  maxima; for the histogram kernel a group computes eight vectors of bin addresses and adds a constant
  at each. The printed row regions are these programs.
-/
module

public import proofs.«01_k».proof.Defs
public import proofs.«01_k».proof.Proof.Gen.KernelIdeal
public import Idealize.ShloMosaic.Lib.SparseCore.Quiescent
public import Idealize.ShloMosaic.Lib.Tactic

@[expose] public section

noncomputable section

namespace Cert.Proof.Hist

open Cert.KernelIdeal Cert.KernelIdeal.Gen
open Idealize.ShloMosaic Idealize.SL.Sem

variable {F : FTy → Type} [FloatOps F]

/-- A program of one vector subcore. -/
abbrev Tile (F : FTy → Type) (c : Fin τ.nSC) (s : Fin τ.nSub) (α : Type) : Type 1 := Prog (TpuEff nD τ sig (Elt F) Λ₀ (.scVector c s)) α

variable {c : Fin τ.nSC} {s : Fin τ.nSub}

/-- Sixteen elements of a staged block. -/
def ld (m : Memref sig .scVector .vmem S64x512 .f32) (off : Fin 2 → Nat) (inb : ∀ a, off a + S1x16.size a ≤ S64x512.size a) :
    Tile F c s (Vec F S1x16 .f32) :=
  Prog.lift (.load m (Rect.unit (s := S64x512) off S1x16.size inb).toLoadRect (View.loadsAt_vmem h_S1x16))

/-- Those sixteen elements as a lane vector. -/
abbrev flat (v : Vec F S1x16 .f32) : Vec F S16 .f32 := shapeCast S16 v shapeCasts_S1x16_S16

/-- The addresses at which a lane vector is counted: bin times sixteen plus lane. -/
def slotOf (lo wd : Vec F S16 .f32) (io : IVec S16 32) (x : Vec F S16 .f32) : IVec S16 32 :=
  addi (muli (minui (fptosi 32 (mulf (divf (subf x lo) wd) (broadcast S16 (Scalar.ofBits .f32 0x42C80000#32))))
    (broadcast S16 99#32)) (broadcast S16 16#32)) io

/-- The check that a vector of addresses lies inside the counts. -/
def ask (v : IVec S16 32) : Tile F c s (PLift (k1_chk1 v)) := Prog.lift (TpuEff.assume (k1_chk1 v) (k1_chk1.dec v))

/-- A constant added at each address of a lane at or above the lower bound. -/
def put (acc : Memref sig .scVector .vmem S1600 .f32) (val lo x : Vec F S16 .f32) (v : IVec S16 32) (h : PLift (k1_chk1 v)) : Tile F c s PUnit :=
  SparseCore.vectorStoreIdx acc ![v] val (cmpf .oge x lo) true (k1_idx1_inb v h.down) (View.stores_vmem_bits_univ h_S1600 rfl)

/-- Eight offsets of sixteen-element pieces. -/
abbrev Offs : Type := Fin 8 → Fin 2 → Nat
/-- They lie inside a block. -/
abbrev Offs.In (o : Offs) : Prop := ∀ (j : Fin 8) (a : Fin 2), o j a + S1x16.size a ≤ S64x512.size a

/-- One group of the histogram kernel: eight pieces read, their addresses checked, their counts added. -/
def histGroup (m : Memref sig .scVector .vmem S64x512 .f32) (acc : Memref sig .scVector .vmem S1600 .f32) (lo wd : Vec F S16 .f32) (io : IVec S16 32)
    (val : Vec F S16 .f32) (o : Offs) (h : o.In) : Tile F c s PUnit := do
  let x0 ← ld m (o 0) (h 0)
  let x1 ← ld m (o 1) (h 1)
  let x2 ← ld m (o 2) (h 2)
  let x3 ← ld m (o 3) (h 3)
  let x4 ← ld m (o 4) (h 4)
  let x5 ← ld m (o 5) (h 5)
  let x6 ← ld m (o 6) (h 6)
  let x7 ← ld m (o 7) (h 7)
  let a0 ← ask (slotOf lo wd io (flat x0))
  let a1 ← ask (slotOf lo wd io (flat x1))
  let a2 ← ask (slotOf lo wd io (flat x2))
  let a3 ← ask (slotOf lo wd io (flat x3))
  let a4 ← ask (slotOf lo wd io (flat x4))
  let a5 ← ask (slotOf lo wd io (flat x5))
  let a6 ← ask (slotOf lo wd io (flat x6))
  let a7 ← ask (slotOf lo wd io (flat x7))
  put acc val lo (flat x0) _ a0
  put acc val lo (flat x1) _ a1
  put acc val lo (flat x2) _ a2
  put acc val lo (flat x3) _ a3
  put acc val lo (flat x4) _ a4
  put acc val lo (flat x5) _ a5
  put acc val lo (flat x6) _ a6
  put acc val lo (flat x7) _ a7

/-- One group of the extrema kernel, on eight minima and eight maxima. -/
abbrev Acc (F : FTy → Type) : Type := Vec F S16 .f32 × Vec F S16 .f32 × Vec F S16 .f32 × Vec F S16 .f32 × Vec F S16 .f32 × Vec F S16 .f32 × Vec F S16 .f32 × Vec F S16 .f32 × Vec F S16 .f32 × Vec F S16 .f32 × Vec F S16 .f32 × Vec F S16 .f32 × Vec F S16 .f32 × Vec F S16 .f32 × Vec F S16 .f32 × Vec F S16 .f32
def mmGroup (m : Memref sig .scVector .vmem S64x512 .f32) (o : Offs) (h : o.In) (a : Acc F) : Tile F c s (Acc F) := do
  let (p0, p1, p2, p3, p4, p5, p6, p7, q0, q1, q2, q3, q4, q5, q6, q7) := a
  let x0 ← ld m (o 0) (h 0)
  let x1 ← ld m (o 1) (h 1)
  let x2 ← ld m (o 2) (h 2)
  let x3 ← ld m (o 3) (h 3)
  let x4 ← ld m (o 4) (h 4)
  let x5 ← ld m (o 5) (h 5)
  let x6 ← ld m (o 6) (h 6)
  let x7 ← ld m (o 7) (h 7)
  pure (minimumf p0 (flat x0), minimumf p1 (flat x1), minimumf p2 (flat x2), minimumf p3 (flat x3), minimumf p4 (flat x4), minimumf p5 (flat x5), minimumf p6 (flat x6), minimumf p7 (flat x7), maximumf q0 (flat x0), maximumf q1 (flat x1), maximumf q2 (flat x2), maximumf q3 (flat x3), maximumf q4 (flat x4), maximumf q5 (flat x5), maximumf q6 (flat x6), maximumf q7 (flat x7))

/-- The offsets of group 0 of a row. -/
def hOff0 (t : Fin k1_t3_loop.trips) : Offs := ![k1_off4 t, k1_off5 t, k1_off6 t, k1_off7 t, k1_off8 t, k1_off9 t, k1_off10 t, k1_off11 t]
theorem hOff0_in (t : Fin k1_t3_loop.trips) : (hOff0 t).In := fun | 0 => k1_off4_inb t | 1 => k1_off5_inb t | 2 => k1_off6_inb t | 3 => k1_off7_inb t | 4 => k1_off8_inb t | 5 => k1_off9_inb t | 6 => k1_off10_inb t | 7 => k1_off11_inb t
/-- The offsets of group 1 of a row. -/
def hOff1 (t : Fin k1_t3_loop.trips) : Offs := ![k1_off12 t, k1_off13 t, k1_off14 t, k1_off15 t, k1_off16 t, k1_off17 t, k1_off18 t, k1_off19 t]
theorem hOff1_in (t : Fin k1_t3_loop.trips) : (hOff1 t).In := fun | 0 => k1_off12_inb t | 1 => k1_off13_inb t | 2 => k1_off14_inb t | 3 => k1_off15_inb t | 4 => k1_off16_inb t | 5 => k1_off17_inb t | 6 => k1_off18_inb t | 7 => k1_off19_inb t
/-- The offsets of group 2 of a row. -/
def hOff2 (t : Fin k1_t3_loop.trips) : Offs := ![k1_off20 t, k1_off21 t, k1_off22 t, k1_off23 t, k1_off24 t, k1_off25 t, k1_off26 t, k1_off27 t]
theorem hOff2_in (t : Fin k1_t3_loop.trips) : (hOff2 t).In := fun | 0 => k1_off20_inb t | 1 => k1_off21_inb t | 2 => k1_off22_inb t | 3 => k1_off23_inb t | 4 => k1_off24_inb t | 5 => k1_off25_inb t | 6 => k1_off26_inb t | 7 => k1_off27_inb t
/-- The offsets of group 3 of a row. -/
def hOff3 (t : Fin k1_t3_loop.trips) : Offs := ![k1_off28 t, k1_off29 t, k1_off30 t, k1_off31 t, k1_off32 t, k1_off33 t, k1_off34 t, k1_off35 t]
theorem hOff3_in (t : Fin k1_t3_loop.trips) : (hOff3 t).In := fun | 0 => k1_off28_inb t | 1 => k1_off29_inb t | 2 => k1_off30_inb t | 3 => k1_off31_inb t | 4 => k1_off32_inb t | 5 => k1_off33_inb t | 6 => k1_off34_inb t | 7 => k1_off35_inb t
/-- The offsets of group 0 of a row. -/
def mOff0 (t : Fin k0_t2_loop.trips) : Offs := ![k0_off3 t, k0_off4 t, k0_off5 t, k0_off6 t, k0_off7 t, k0_off8 t, k0_off9 t, k0_off10 t]
theorem mOff0_in (t : Fin k0_t2_loop.trips) : (mOff0 t).In := fun | 0 => k0_off3_inb t | 1 => k0_off4_inb t | 2 => k0_off5_inb t | 3 => k0_off6_inb t | 4 => k0_off7_inb t | 5 => k0_off8_inb t | 6 => k0_off9_inb t | 7 => k0_off10_inb t
/-- The offsets of group 1 of a row. -/
def mOff1 (t : Fin k0_t2_loop.trips) : Offs := ![k0_off11 t, k0_off12 t, k0_off13 t, k0_off14 t, k0_off15 t, k0_off16 t, k0_off17 t, k0_off18 t]
theorem mOff1_in (t : Fin k0_t2_loop.trips) : (mOff1 t).In := fun | 0 => k0_off11_inb t | 1 => k0_off12_inb t | 2 => k0_off13_inb t | 3 => k0_off14_inb t | 4 => k0_off15_inb t | 5 => k0_off16_inb t | 6 => k0_off17_inb t | 7 => k0_off18_inb t
/-- The offsets of group 2 of a row. -/
def mOff2 (t : Fin k0_t2_loop.trips) : Offs := ![k0_off19 t, k0_off20 t, k0_off21 t, k0_off22 t, k0_off23 t, k0_off24 t, k0_off25 t, k0_off26 t]
theorem mOff2_in (t : Fin k0_t2_loop.trips) : (mOff2 t).In := fun | 0 => k0_off19_inb t | 1 => k0_off20_inb t | 2 => k0_off21_inb t | 3 => k0_off22_inb t | 4 => k0_off23_inb t | 5 => k0_off24_inb t | 6 => k0_off25_inb t | 7 => k0_off26_inb t
/-- The offsets of group 3 of a row. -/
def mOff3 (t : Fin k0_t2_loop.trips) : Offs := ![k0_off27 t, k0_off28 t, k0_off29 t, k0_off30 t, k0_off31 t, k0_off32 t, k0_off33 t, k0_off34 t]
theorem mOff3_in (t : Fin k0_t2_loop.trips) : (mOff3 t).In := fun | 0 => k0_off27_inb t | 1 => k0_off28_inb t | 2 => k0_off29_inb t | 3 => k0_off30_inb t | 4 => k0_off31_inb t | 5 => k0_off32_inb t | 6 => k0_off33_inb t | 7 => k0_off34_inb t

/-- One row of the histogram kernel. -/
def histRow (m : Memref sig .scVector .vmem S64x512 .f32) (acc : Memref sig .scVector .vmem S1600 .f32) (lo wd : Vec F S16 .f32) (io : IVec S16 32)
    (val : Vec F S16 .f32) (t : Fin k1_t3_loop.trips) : Tile F c s (BitVec 32) := do
  histGroup m acc lo wd io val (hOff0 t) (hOff0_in t)
  histGroup m acc lo wd io val (hOff1 t) (hOff1_in t)
  histGroup m acc lo wd io val (hOff2 t) (hOff2_in t)
  histGroup m acc lo wd io val (hOff3 t) (hOff3_in t)
  pure 0#32

/-- One row of the extrema kernel. -/
def mmRow (m : Memref sig .scVector .vmem S64x512 .f32) (t : Fin k0_t2_loop.trips) (a : Acc F) : Tile F c s (Acc F) := do
  let a ← mmGroup m (mOff0 t) (mOff0_in t) a
  let a ← mmGroup m (mOff1 t) (mOff1_in t) a
  let a ← mmGroup m (mOff2 t) (mOff2_in t) a
  mmGroup m (mOff3 t) (mOff3_in t) a

/-- Slot `0` of the staging buffer. -/
abbrev slot0 (m : Memref sig .scVector .vmem S2x64x512 .f32) : Memref sig .scVector .vmem S64x512 .f32 :=
  (m.slice (Rect.unit (s := S2x64x512) ![0, 0, 0] S1x64x512.size inb_S2x64x512_S1x64x512_0_0_0) (fun _ => rfl)).squeeze S64x512 squeezes_S1x64x512_S64x512
/-- Slot `1` of the staging buffer. -/
abbrev slot1 (m : Memref sig .scVector .vmem S2x64x512 .f32) : Memref sig .scVector .vmem S64x512 .f32 :=
  (m.slice (Rect.unit (s := S2x64x512) ![1, 0, 0] S1x64x512.size inb_S2x64x512_S1x64x512_1_0_0) (fun _ => rfl)).squeeze S64x512 squeezes_S1x64x512_S64x512

/-- Sixty-four rows of one plane. -/
def plane (src : Memref sig .scVector .hbm S96x512x512 .f32) (off : Fin 3 → Nat) (inb : ∀ a, off a + S1x64x512.size a ≤ S96x512x512.size a) :
    Memref sig .scVector .hbm S64x512 .f32 :=
  (src.slice (Rect.unit (s := S96x512x512) off S1x64x512.size inb) (fun _ => rfl)).squeeze S64x512 squeezes_S1x64x512_S64x512

/-- The transfer of sixty-four rows into a slot, started. -/
def fetchIn (src : Memref sig .scVector .hbm S96x512x512 .f32) (off : Fin 3 → Nat) (inb : ∀ a, off a + S1x64x512.size a ≤ S96x512x512.size a)
    (dst : Memref sig .scVector .vmem S64x512 .f32) (sem : DmaSems sig S_) : Tile F c s PUnit :=
  Prog.lift (.enqueueDma (plane src off inb) (.here dst) (.dma sem.sem) (View.wordExact_bits rfl) (View.wordExact_bits rfl) ⟨Or.inl rfl, trivial⟩)

/-- The transfer into a slot, waited for. -/
def awaitIn (src : Memref sig .scVector .hbm S96x512x512 .f32) (dst : Memref sig .scVector .vmem S64x512 .f32) (sem : DmaSems sig S_) : Tile F c s PUnit :=
  Prog.lift (.waitDma2 sem.sem (plane src ![0, 0, 0] inb_S96x512x512_S1x64x512_0_0_0) dst (View.wordExact_bits rfl) (View.wordExact_bits rfl))

/-- One pass over a tile's three planes: twelve pairs of blocks, each block's transfer started while the other's rows are
    worked on. -/
def pass {σ ρ : Type} (i : grid1.Coords) (src : Memref sig .scVector .hbm S96x512x512 .f32) (buf : Memref sig .scVector .vmem S2x64x512 .f32)
    (s0 s1 : DmaSems sig S_) (enter : σ → ρ) (leave : ρ → σ)
    (row : Memref sig .scVector .vmem S64x512 .f32 → Fin k1_t3_loop.trips → ρ → Tile F c s ρ) (a : σ) : Tile F c s σ := do
  fetchIn src (k1_off2 i) (k1_off2_inb i) (slot0 buf) s0
  Scf.Loop.for k1_t2_loop k1_t2_ok a fun t a => do
    awaitIn src (slot0 buf) s0
    fetchIn src (k1_off3 i t) (k1_off3_inb i t) (slot1 buf) s1
    let r ← Scf.Loop.for k1_t3_loop k1_t3_ok (enter a) (fun t a => row (slot0 buf) t a)
    awaitIn src (slot1 buf) s1
    if h : k1_cond1 t = 1#1 then do
      fetchIn src (k1_off36 i t) (k1_off36_inb i t h) (slot0 buf) s0
      pure ⟨⟩
    else do
      pure ⟨⟩
    let r' ← Scf.Loop.for k1_t3_loop k1_t3_ok (enter (leave r)) (fun t a => row (slot1 buf) t a)
    pure (leave r')

/-- One stretch of the counts set to zero. -/
def zeroAt (m : Memref sig .scVector .vmem S1600 .f32) (t : Fin k1_t1_loop.trips) : Tile F c s (BitVec 32) := do
  let _ ← Prog.lift (.load m (Rect.unit (s := S1600) (k1_off1 t) S16.size (k1_off1_inb t)).toLoadRect (View.loadsAt_vmem h_S16))
  Prog.lift (.store m (Rect.unit (s := S1600) (k1_off1 t) S16.size (k1_off1_inb t)) (broadcast S16 (Scalar.ofBits .f32 0x00000000#32)) Finset.univ (View.stores_vmem_bits_univ h_S16 rfl) (.inl rfl))
  pure 0#32

/-- The histogram kernel. -/
def histK (i : grid1.Coords) (arg2 arg3 : Memref sig .scVector .hbm S96x512x512 .f32) (arg4 : Memref sig .scVector .hbm S32 .f32) (harg4 : arg4.IsWhole)
    (arg5 : Memref sig .scVector .hbm S32x1600 .f32) (arg6 : Memref sig .scVector .vmem S2x64x512 .f32) (arg7 : Memref sig .scVector .vmem S1600 .f32)
    (harg7 : arg7.IsWhole) (arg8 : Memref sig .scVector .vmem S32 .f32) (harg8 : arg8.IsWhole) (arg9 arg10 r0 r1 : DmaSems sig S_) : Tile F c s PUnit := do
  Prog.lift (.enqueueDma arg4 (.here arg8) (.dma r0.sem) harg4.wordExact harg8.wordExact ⟨Or.inl rfl, trivial⟩)
  Prog.lift (.waitDma2 r0.sem arg4 arg8 harg4.wordExact harg8.wordExact)
  let lo : Vec F S16 .f32 ← Prog.lift (.load arg8 (Rect.unit (s := S32) ![0] S16.size inb_S32_S16_0).toLoadRect (View.loadsAt_vmem h_S16))
  let wd : Vec F S16 .f32 ← Prog.lift (.load arg8 (Rect.unit (s := S32) ![16] S16.size inb_S32_S16_16).toLoadRect (View.loadsAt_vmem h_S16))
  let _ ← Scf.Loop.for k1_t1_loop k1_t1_ok 0#32 (fun t _ => zeroAt arg7 t)
  pass i arg2 arg6 arg9 arg10 (fun _ => 0#32) (fun _ => PUnit.unit)
    (fun m t _ => histRow m arg7 lo wd (iota .scVector S16 32 [0] iota_S16_d0_w32_scVector) (broadcast S16 (Scalar.ofBits .f32 0x3F800000#32)) t) PUnit.unit
  pass i arg3 arg6 arg9 arg10 (fun _ => 0#32) (fun _ => PUnit.unit)
    (fun m t _ => histRow m arg7 lo wd (iota .scVector S16 32 [0] iota_S16_d0_w32_scVector) (broadcast S16 (Scalar.ofBits .f32 0xBF800000#32)) t) PUnit.unit
  Prog.lift (.enqueueDma arg7 (.here ((arg5.slice (Rect.unit (s := S32x1600) (k1_off135 i) S1x1600.size (k1_off135_inb i)) (fun _ => rfl)).squeeze S1600 squeezes_S1x1600_S1600))
    (.dma r1.sem) harg7.wordExact (View.wordExact_bits rfl) ⟨Or.inl rfl, trivial⟩)
  Prog.lift (.waitDma2 r1.sem arg7 ((arg5.slice (Rect.unit (s := S32x1600) (k1_off135 i) S1x1600.size (k1_off135_inb i)) (fun _ => rfl)).squeeze S1600 squeezes_S1x1600_S1600)
    harg7.wordExact (View.wordExact_bits rfl))
  pure ⟨⟩

/-- The sixteen accumulators at the start. -/
def accInit : Acc F :=
  (broadcast S16 (Scalar.ofBits .f32 0x7F800000#32), broadcast S16 (Scalar.ofBits .f32 0x7F800000#32), broadcast S16 (Scalar.ofBits .f32 0x7F800000#32), broadcast S16 (Scalar.ofBits .f32 0x7F800000#32), broadcast S16 (Scalar.ofBits .f32 0x7F800000#32), broadcast S16 (Scalar.ofBits .f32 0x7F800000#32), broadcast S16 (Scalar.ofBits .f32 0x7F800000#32), broadcast S16 (Scalar.ofBits .f32 0x7F800000#32), broadcast S16 (Scalar.ofBits .f32 0xFF800000#32), broadcast S16 (Scalar.ofBits .f32 0xFF800000#32), broadcast S16 (Scalar.ofBits .f32 0xFF800000#32), broadcast S16 (Scalar.ofBits .f32 0xFF800000#32), broadcast S16 (Scalar.ofBits .f32 0xFF800000#32), broadcast S16 (Scalar.ofBits .f32 0xFF800000#32), broadcast S16 (Scalar.ofBits .f32 0xFF800000#32), broadcast S16 (Scalar.ofBits .f32 0xFF800000#32))

/-- The minima joined. -/
def accMin (a : Acc F) : Vec F S16 .f32 :=
  let (p0, p1, p2, p3, p4, p5, p6, p7, q0, q1, q2, q3, q4, q5, q6, q7) := a
  minimumf (minimumf (minimumf (minimumf (minimumf (minimumf (minimumf p0 p1) p2) p3) p4) p5) p6) p7
/-- The maxima joined. -/
def accMax (a : Acc F) : Vec F S16 .f32 :=
  let (p0, p1, p2, p3, p4, p5, p6, p7, q0, q1, q2, q3, q4, q5, q6, q7) := a
  maximumf (maximumf (maximumf (maximumf (maximumf (maximumf (maximumf q0 q1) q2) q3) q4) q5) q6) q7

/-- A lane vector put into a buffer of one. -/
def setv (m : Memref sig .scVector .vmem S16 .f32) (v : Vec F S16 .f32) : Tile F c s PUnit := do
  let _ ← Prog.lift (.load m (Rect.unit (s := S16) ![0] S16.size inb_S16_S16_0).toLoadRect (View.loadsAt_vmem h_S16))
  Prog.lift (.store m (Rect.unit (s := S16) ![0] S16.size inb_S16_S16_0) v Finset.univ (View.stores_vmem_bits_univ h_S16 rfl) (.inl rfl))

/-- The tile's row of a table of lane vectors. -/
abbrev lrow (i : grid1.Coords) (m : Memref sig .scVector .hbm S32x16 .f32) : Memref sig .scVector .hbm S16 .f32 :=
  (m.slice (Rect.unit (s := S32x16) (k0_off134 i) S1x16.size (k0_off134_inb i)) (fun _ => rfl)).squeeze S16 squeezes_S1x16_S16

/-- The extrema kernel. -/
def mmK (i : grid1.Coords) (arg2 arg3 : Memref sig .scVector .hbm S96x512x512 .f32) (arg4 arg5 : Memref sig .scVector .hbm S32x16 .f32)
    (arg6 : Memref sig .scVector .vmem S2x64x512 .f32) (arg7 : Memref sig .scVector .vmem S16 .f32)
    (harg7 : arg7.IsWhole) (arg8 : Memref sig .scVector .vmem S16 .f32) (harg8 : arg8.IsWhole) (arg9 arg10 r0 r1 : DmaSems sig S_) : Tile F c s PUnit := do
  let a ← pass i arg2 arg6 arg9 arg10 (fun a => a) (fun a => a) (fun m t a => mmRow m t a) accInit
  let a ← pass i arg3 arg6 arg9 arg10 (fun a => a) (fun a => a) (fun m t a => mmRow m t a) a
  setv arg7 (accMin a)
  setv arg8 (accMax a)
  Prog.lift (.enqueueDma arg7 (.here (lrow i arg4)) (.dma r0.sem) harg7.wordExact (View.wordExact_bits rfl) ⟨Or.inl rfl, trivial⟩)
  Prog.lift (.waitDma2 r0.sem arg7 (lrow i arg4) harg7.wordExact (View.wordExact_bits rfl))
  Prog.lift (.enqueueDma arg8 (.here (lrow i arg5)) (.dma r1.sem) harg8.wordExact (View.wordExact_bits rfl) ⟨Or.inl rfl, trivial⟩)
  Prog.lift (.waitDma2 r1.sem arg8 (lrow i arg5) harg8.wordExact (View.wordExact_bits rfl))
  pure ⟨⟩

end Cert.Proof.Hist

end
-- ==== Proof.Vals.lean ====
/-
  What a tile's pass computes, as plain functions of the array it reads. A tile's rows are cut into pieces of sixteen
  elements, numbered in the order they are read; the histogram adds one piece's lanes to the counts, the extrema
  kernel folds eight pieces into its sixteen accumulators.
-/
module

public import proofs.«01_k».proof.Proof.Rows

@[expose] public section

noncomputable section

namespace Cert.Proof.Hist

open Cert.KernelIdeal Cert.KernelIdeal.Gen
open Idealize.ShloMosaic

variable {F : FTy → Type} [FloatOps F]

/-- Where lane `l` of piece `k` of tile `w` lies: thirty-two pieces to a row, 512 rows to a plane, three planes to a tile. -/
def pos (w k l : ℕ) : S96x512x512.Idx
  | 0 => ⟨(3 * w + k / 16384) % 96, Nat.mod_lt _ (by decide)⟩
  | 1 => ⟨k / 32 % 512, Nat.mod_lt _ (by decide)⟩
  | 2 => ⟨(16 * (k % 32) + l) % 512, Nat.mod_lt _ (by decide)⟩

/-- Piece `k` of tile `w`. -/
def piece (X : Vec F S96x512x512 .f32) (w k : ℕ) : Vec F S16 .f32 := fun l => X (pos w k (l 0).val)

/-- The lane numbers. -/
abbrev lanes : IVec S16 32 := iota .scVector S16 32 [0] iota_S16_d0_w32_scVector

/-- The quotient a lane's bin is cut from. -/
abbrev scaled (lo wd x : Vec F S16 .f32) : IVec S16 32 :=
  fptosi 32 (mulf (divf (subf x lo) wd) (broadcast S16 (Scalar.ofBits .f32 0x42C80000#32)))

theorem slotOf_apply (lo wd x : Vec F S16 .f32) (j : S16.Idx) :
    slotOf lo wd lanes x j = (if (scaled lo wd x j).ult 99#32 then scaled lo wd x j else 99#32) * 16#32 + BitVec.ofNat 32 (j 0).val := by
  generalize hv : scaled lo wd x = v
  unfold scaled at hv
  unfold slotOf
  rw [hv]
  show IntOp.addi (IntOp.muli (IntOp.minui (v j) 99#32) 16#32) _ = _
  simp [IntOp.addi, IntOp.muli, IntOp.minui, iota]

theorem slot_val (lo wd x : Vec F S16 .f32) (j : S16.Idx) :
    (slotOf lo wd lanes x j).toNat = (if (scaled lo wd x j).ult 99#32 then scaled lo wd x j else 99#32).toNat * 16 + (j 0).val := by
  have hj : (j 0).val < 16 := (j 0).isLt
  rw [slotOf_apply]
  generalize scaled lo wd x j = v
  have h2 : (if v.ult 99#32 then v else 99#32).toNat ≤ 99 := by
    split
    · next h => simp [BitVec.ult] at h; omega
    · decide
  generalize (if v.ult 99#32 then v else 99#32) = u at h2 ⊢
  rw [BitVec.toNat_add, BitVec.toNat_mul, BitVec.toNat_ofNat, BitVec.toNat_ofNat]
  omega

/-- An address is bin times sixteen plus lane with bin at most 99. -/
theorem slot_ok (lo wd x : Vec F S16 .f32) : k1_chk1 (slotOf lo wd lanes x) := by
  intro a j
  have ha : a = 0 := Subsingleton.elim _ _
  subst ha
  have hj : (j 0).val < 16 := (j 0).isLt
  show (slotOf lo wd lanes x j).toNat < 1600
  rw [slot_val]
  generalize scaled lo wd x j = v
  have h2 : (if v.ult 99#32 then v else 99#32).toNat ≤ 99 := by
    split
    · next h => simp [BitVec.ult] at h; omega
    · decide
  omega

/-- One piece counted: `val` added at each lane's address where the lane is at or above `lo`. -/
def count (lo wd val x : Vec F S16 .f32) (h : Vec F S1600 .f32) : Vec F S1600 .f32 :=
  storeIdx h ![slotOf lo wd lanes x] val (cmpf .oge x lo) true (k1_idx1_inb _ (slot_ok lo wd x))

/-- The counts after the first `k` pieces of a stream. -/
def countRun (lo wd val : Vec F S16 .f32) (p : ℕ → Vec F S16 .f32) (h : Vec F S1600 .f32) : ℕ → Vec F S1600 .f32
  | 0 => h
  | k + 1 => count lo wd val (p k) (countRun lo wd val p h k)

/-- Eight pieces folded into the accumulators. -/
def mmStep (x : ℕ → Vec F S16 .f32) (a : Acc F) : Acc F :=
  let (p0, p1, p2, p3, p4, p5, p6, p7, q0, q1, q2, q3, q4, q5, q6, q7) := a
  (minimumf p0 (x 0), minimumf p1 (x 1), minimumf p2 (x 2), minimumf p3 (x 3), minimumf p4 (x 4), minimumf p5 (x 5), minimumf p6 (x 6), minimumf p7 (x 7),
    maximumf q0 (x 0), maximumf q1 (x 1), maximumf q2 (x 2), maximumf q3 (x 3), maximumf q4 (x 4), maximumf q5 (x 5), maximumf q6 (x 6), maximumf q7 (x 7))

/-- The accumulators after the first `g` groups of a stream. -/
def mmRun (p : ℕ → Vec F S16 .f32) (a : Acc F) : ℕ → Acc F
  | 0 => a
  | g + 1 => mmStep (fun j => p (8 * g + j)) (mmRun p a g)

/-! ## A group's pieces are the stream's -/

/-- Sixteen elements of a block at an offset. -/
abbrev cut (blk : Vec F S64x512 .f32) (off : Fin 2 → ℕ) (inb : ∀ a, off a + S1x16.size a ≤ S64x512.size a) : Vec F S1x16 .f32 :=
  fun j => blk ((Rect.unit (s := S64x512) off S1x16.size inb).emb j)

/-- Sixty-four rows of an array from an offset. -/
def block (X : Vec F S96x512x512 .f32) (off : Fin 3 → ℕ) (inb : ∀ a, off a + S1x64x512.size a ≤ S96x512x512.size a) : Vec F S64x512 .f32 :=
  (plane (Memref.whole main_v0_scv) off inb).view.read (Elt F) X

theorem unit_axis1 (h) (l : S16.Idx) :
    (Shape.reshapeEquiv (s := S1x16) (s' := S16) h) l = (fun | 0 => ⟨0, Nat.one_pos⟩ | 1 => l 0 : S1x16.Idx) := by
  refine (Shape.reshapeEquiv_cons_one (d := ![16]) h l).trans ?_
  funext a; fin_cases a <;> rfl

theorem unit_axis2 (h) (l : S64x512.Idx) :
    (Shape.reshapeEquiv (s := S1x64x512) (s' := S64x512) h) l = (fun | 0 => ⟨0, Nat.one_pos⟩ | 1 => l 0 | 2 => l 1 : S1x64x512.Idx) := by
  refine (Shape.reshapeEquiv_cons_one (d := ![64, 512]) h l).trans ?_
  funext a; fin_cases a <;> rfl

theorem flat_cut (X : Vec F S96x512x512 .f32) (w b r q : ℕ) (hb : b < 24) (hr : r < 64) (hq : q < 32) (hw : w < 32)
    (off : Fin 3 → ℕ) (inb) (ho : off = ![3 * w + b / 8, b % 8 * 64, 0]) (o : Fin 2 → ℕ) (inb') (ho' : o = ![r, 16 * q]) :
    flat (cut (block X off inb) o inb') = piece X w (32 * (64 * b + r) + q) := by
  subst ho ho'
  funext l
  have hl : (l 0).val < 16 := (l 0).isLt
  show X ((Rect.unit (s := S96x512x512) ![3 * w + b / 8, b % 8 * 64, 0] ![1, 64, 512] inb).emb (Shape.reshapeEquiv _
     ((Rect.unit (s := S64x512) ![r, 16 * q] ![1, 16] inb').emb ((Shape.reshapeEquiv shapeCasts_S1x16_S16) l)))) = X _
  rw [unit_axis1, unit_axis2]
  congr 1
  funext a
  apply Fin.ext
  fin_cases a
  · show 3 * w + b / 8 + 1 * 0 = (3 * w + (32 * (64 * b + r) + q) / 16384) % 96
    omega
  · show b % 8 * 64 + 1 * (r + 1 * 0) = (32 * (64 * b + r) + q) / 32 % 512
    omega
  · show 0 + 1 * (16 * q + 1 * (l 0).val) = (16 * ((32 * (64 * b + r) + q) % 32) + (l 0).val) % 512
    omega

end Cert.Proof.Hist

end
-- ==== Proof.Wp.lean ====
/-
  The tile programs' rules: what the held memory is after a piece is read, a group of pieces is counted or folded, a
  row is worked on, and a whole pass is made.
-/
module

public import proofs.«01_k».proof.Proof.Vals
public import Idealize.ShloMosaic.Lib.SparseCore.Ops
public import Idealize.ShloMosaic.Lib.Transfers
public import Idealize.ShloMosaic.Lib.Pipeline.Kit
public import Idealize.ShloMosaic.Lib.StableHlo.Run

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 2) (Elt F) ℕ UU ℕ

/-- The handshakes' rounds, the left factor. -/
abbrev EH : Emb UH (MT nD τ sig (HIx 2) (Elt F) ℕ UU ℕ) := embL
/-- The transfers' counters, the right factor. -/
def EC : UEmb Counters (MT nD τ sig (HIx 2) (Elt F) ℕ UU ℕ) :=
  (CountersIn.emb (U := UU)).trans (uEmb (nD := nD) (sig := sig) (Ix := HIx 2) (Val := Elt F) (Name := ℕ) (U := UU) (Lvl := ℕ))
instance EC_landsIn : (EC (F := F) : UEmb Counters 𝕄).LandsIn (upEmb : UEmb _ 𝕄) := by unfold EC; infer_instance

variable [FloatOps F]

/-- A tile program's weakest precondition. -/
abbrev twp (d : Dev nD) (c : Fin τ.nSC) (s : Fin τ.nSub) {α : Type} (p : Tile F c s α) (Q : α → sProp 𝕄) : sProp 𝕄 :=
  wp frame (wpE (defs₀ (F := F)) 𝒱₀ (V d c s) none) Set.univ p Q

variable {d : Dev nD} {c : Fin τ.nSC} {s : Fin τ.nSub} {α : Type}

/-- A memory reference held whole at what it reads. -/
def heldAt (d : Dev nD) (c : Fin τ.nSC) (s : Fin τ.nSub) {sp : Space} {z : Shape} (m : Memref sig .scVector sp z .f32) (v : Vec F z .f32) : sProp 𝕄 :=
  iprop(∃ f, ⌜m.view.read (Elt F) f = v⌝ ∗ m.view.loc (V d c s) ↦[m.view.set]{fullShare} f)

theorem wp_ld {m : Memref sig .scVector .vmem S64x512 .f32} {blk : Vec F S64x512 .f32} {off : Fin 2 → ℕ} {inb}
    {k : Vec F S1x16 .f32 → Tile F c s α} {Q : α → sProp 𝕄} :
    heldAt d c s m blk ⊢ iprop((heldAt d c s m blk -∗ twp d c s (k (cut blk off inb)) Q) -∗ twp d c s (ld m off inb >>= k) Q) := by
  unfold heldAt ld
  simp only [Prog.lift, Prog.bind_op, Prog.bind_ret]
  iintro ⟨%f, %hf, H⟩ Hk
  subst hf
  iapply (wp_load 𝒱₀ (V d c s) none Set.univ (m := m) (S := m.view.set) (View.setOn_subset_set _ _)) $$ H
  iintro H
  iapply Hk
  iexists f
  isplitr; · ipureintro; rfl
  iexact H

theorem twp_pure {a : α} {Q : α → sProp 𝕄} : Q a ⊢ twp d c s (pure a) Q := by
  simp only [Prog.pure_eq_ret, wp_ret]
  exact fupd_intro

theorem wp_ask {v : IVec S16 32} (h : k1_chk1 v) {k : PLift (k1_chk1 v) → Tile F c s α} {Q : α → sProp 𝕄} :
    twp d c s (k ⟨h⟩) Q ⊢ twp d c s (ask v >>= k) Q := by
  unfold ask
  simp only [Prog.lift, Prog.bind_op, Prog.bind_ret]
  exact Entails.of_eq (wp_assume_of _ _ _ _ h).symm

/-- The counts of a tile, held. -/
abbrev accAt (d : Dev nD) (c : Fin τ.nSC) (s : Fin τ.nSub) (h : Vec F S1600 .f32) : sProp 𝕄 :=
  (V d c s).loc cc1_scratch1 ↦{fullShare} h

/-- The counts as a memref. -/
abbrev accM : Memref sig .scVector .vmem S1600 .f32 := Memref.whole cc1_scratch1

theorem wp_put {lo wd val x : Vec F S16 .f32} {g : PLift (k1_chk1 (slotOf lo wd lanes x))} {h : Vec F S1600 .f32} {k : PUnit → Tile F c s α} {Q : α → sProp 𝕄} :
    accAt d c s h ⊢ iprop((accAt d c s (count lo wd val x h) -∗ twp d c s (k ⟨⟩) Q) -∗ twp d c s (put accM val lo x (slotOf lo wd lanes x) g >>= k) Q) := by
  unfold put
  have e : ∀ f, (((accM).access (.whole S1600)).loc (V d c s) ↦[((accM).access (.whole S1600)).set]{fullShare} f : sProp 𝕄) = accAt d c s f := by
    intro f
    rw [show ((accM).access (.whole S1600)).set = Finset.univ from Memref.set_access_whole cc1_scratch1]
  iintro Ha Hk
  ihave Ha' := (Entails.of_eq (e h).symm) $$ Ha
  iapply (SparseCore.wp_vectorStoreIdx 𝒱₀ (V d c s) none Set.univ (base := accM)) $$ Ha'
  iintro Ha
  iapply Hk
  have hr : ((accM).access (.whole S1600)).read (Elt F) h = h := Memref.read_access_whole (Elt F) cc1_scratch1 h
  have hw : ∀ w, ((accM).access (.whole S1600)).write (Elt F) h w Finset.univ = w := fun w => Memref.write_access_whole_univ (Elt F) cc1_scratch1 h w
  rw [hw, hr, e]
  unfold count
  exact .rfl

theorem wp_histGroup {m : Memref sig .scVector .vmem S64x512 .f32} {blk : Vec F S64x512 .f32} {lo wd val : Vec F S16 .f32} {o : Offs} {ho : o.In}
    {p : ℕ → Vec F S16 .f32} {h : Vec F S1600 .f32} {n : ℕ} (hx : ∀ j : Fin 8, flat (cut blk (o j) (ho j)) = p (n + j.val))
    {k : PUnit → Tile F c s α} {Q : α → sProp 𝕄} :
    iprop(heldAt d c s m blk ∗ accAt d c s (countRun lo wd val p h n))
      ⊢ iprop((heldAt d c s m blk ∗ accAt d c s (countRun lo wd val p h (n + 8)) -∗ twp d c s (k ⟨⟩) Q)
        -∗ twp d c s (histGroup m accM lo wd lanes val o ho >>= k) Q) := by
  unfold histGroup
  simp only [bind_assoc]
  iintro ⟨Hm, Ha⟩ Hk
  iterate 8 (iapply wp_ld $$ Hm; iintro Hm)
  iterate 8 (iapply wp_ask (slot_ok _ _ _))
  iterate 8 (iapply wp_put $$ Ha; iintro Ha)
  iapply Hk
  isplitl [Hm]; · iexact Hm
  rw [hx 0, hx 1, hx 2, hx 3, hx 4, hx 5, hx 6, hx 7]
  iexact Ha

theorem hOff_eq (t : Fin k1_t3_loop.trips) (j : Fin 8) :
    hOff0 t j = ![t.val, 16 * j.val] ∧ hOff1 t j = ![t.val, 16 * (8 + j.val)] ∧ hOff2 t j = ![t.val, 16 * (16 + j.val)] ∧ hOff3 t j = ![t.val, 16 * (24 + j.val)] := by
  fin_cases j
  · exact ⟨k1_off4_eq t, k1_off12_eq t, k1_off20_eq t, k1_off28_eq t⟩
  · exact ⟨k1_off5_eq t, k1_off13_eq t, k1_off21_eq t, k1_off29_eq t⟩
  · exact ⟨k1_off6_eq t, k1_off14_eq t, k1_off22_eq t, k1_off30_eq t⟩
  · exact ⟨k1_off7_eq t, k1_off15_eq t, k1_off23_eq t, k1_off31_eq t⟩
  · exact ⟨k1_off8_eq t, k1_off16_eq t, k1_off24_eq t, k1_off32_eq t⟩
  · exact ⟨k1_off9_eq t, k1_off17_eq t, k1_off25_eq t, k1_off33_eq t⟩
  · exact ⟨k1_off10_eq t, k1_off18_eq t, k1_off26_eq t, k1_off34_eq t⟩
  · exact ⟨k1_off11_eq t, k1_off19_eq t, k1_off27_eq t, k1_off35_eq t⟩

/-- One row of a block counted. -/
theorem wp_histRow {m : Memref sig .scVector .vmem S64x512 .f32} {lo wd val : Vec F S16 .f32} (X : Vec F S96x512x512 .f32) {w b : ℕ} (hb : b < 24) (hw : w < 32)
    {off : Fin 3 → ℕ} {inb} (hoff : off = ![3 * w + b / 8, b % 8 * 64, 0]) (t : Fin k1_t3_loop.trips) {h : Vec F S1600 .f32} :
    iprop(heldAt d c s m (block X off inb) ∗ accAt d c s (countRun lo wd val (piece X w) h (32 * (64 * b + t.val))))
      ⊢ twp d c s (histRow m accM lo wd lanes val t)
        (fun _ => iprop(heldAt d c s m (block X off inb) ∗ accAt d c s (countRun lo wd val (piece X w) h (32 * (64 * b + (t.val + 1)))))) := by
  have ht : t.val < 64 := t.isLt
  unfold histRow
  iintro H
  iapply (wp_histGroup (n := 32 * (64 * b + t.val)) fun j => flat_cut X w b t.val j.val hb ht (by omega) hw off inb hoff _ _ (hOff_eq t j).1) $$ H
  iintro H
  iapply (wp_histGroup (n := 32 * (64 * b + t.val) + 8) fun j => (flat_cut X w b t.val (8 + j.val) hb ht (by omega) hw off inb hoff _ _ (hOff_eq t j).2.1).trans (by rw [Nat.add_assoc])) $$ H
  iintro H
  iapply (wp_histGroup (n := 32 * (64 * b + t.val) + 8 + 8) fun j => (flat_cut X w b t.val (16 + j.val) hb ht (by omega) hw off inb hoff _ _ (hOff_eq t j).2.2.1).trans (by congr 1; omega)) $$ H
  iintro H
  iapply (wp_histGroup (n := 32 * (64 * b + t.val) + 8 + 8 + 8) fun j => (flat_cut X w b t.val (24 + j.val) hb ht (by omega) hw off inb hoff _ _ (hOff_eq t j).2.2.2).trans (by congr 1; omega)) $$ H
  iintro H
  iapply twp_pure
  rw [show 32 * (64 * b + t.val) + 8 + 8 + 8 + 8 = 32 * (64 * b + (t.val + 1)) by omega]
  iexact H

theorem wp_mmGroup {m : Memref sig .scVector .vmem S64x512 .f32} {blk : Vec F S64x512 .f32} {o : Offs} {ho : o.In}
    {p : ℕ → Vec F S16 .f32} {a : Acc F} {g : ℕ} (hx : ∀ j : Fin 8, flat (cut blk (o j) (ho j)) = p (8 * g + j.val))
    {k : Acc F → Tile F c s α} {Q : α → sProp 𝕄} :
    heldAt d c s m blk
      ⊢ iprop((heldAt d c s m blk -∗ twp d c s (k (mmRun p a (g + 1))) Q) -∗ twp d c s (mmGroup m o ho (mmRun p a g) >>= k) Q) := by
  unfold mmGroup
  rw [show mmRun p a (g + 1) = mmStep (fun j => p (8 * g + j)) (mmRun p a g) from rfl]
  generalize mmRun p a g = a'
  obtain ⟨p0, p1, p2, p3, p4, p5, p6, p7, q0, q1, q2, q3, q4, q5, q6, q7⟩ := a'
  dsimp only [mmStep]
  have h0 := hx 0; have h1 := hx 1; have h2 := hx 2; have h3 := hx 3; have h4 := hx 4; have h5 := hx 5; have h6 := hx 6; have h7 := hx 7
  simp only [bind_assoc, pure_bind]
  iintro Hm Hk
  iterate 8 (iapply wp_ld $$ Hm; iintro Hm)
  rw [h0, h1, h2, h3, h4, h5, h6, h7]
  iapply Hk $$ Hm

theorem mOff_eq (t : Fin k0_t2_loop.trips) (j : Fin 8) :
    mOff0 t j = ![t.val, 16 * j.val] ∧ mOff1 t j = ![t.val, 16 * (8 + j.val)] ∧ mOff2 t j = ![t.val, 16 * (16 + j.val)] ∧ mOff3 t j = ![t.val, 16 * (24 + j.val)] := by
  fin_cases j
  · exact ⟨k0_off3_eq t, k0_off11_eq t, k0_off19_eq t, k0_off27_eq t⟩
  · exact ⟨k0_off4_eq t, k0_off12_eq t, k0_off20_eq t, k0_off28_eq t⟩
  · exact ⟨k0_off5_eq t, k0_off13_eq t, k0_off21_eq t, k0_off29_eq t⟩
  · exact ⟨k0_off6_eq t, k0_off14_eq t, k0_off22_eq t, k0_off30_eq t⟩
  · exact ⟨k0_off7_eq t, k0_off15_eq t, k0_off23_eq t, k0_off31_eq t⟩
  · exact ⟨k0_off8_eq t, k0_off16_eq t, k0_off24_eq t, k0_off32_eq t⟩
  · exact ⟨k0_off9_eq t, k0_off17_eq t, k0_off25_eq t, k0_off33_eq t⟩
  · exact ⟨k0_off10_eq t, k0_off18_eq t, k0_off26_eq t, k0_off34_eq t⟩

/-- One row of a block folded. -/
theorem wp_mmRow {m : Memref sig .scVector .vmem S64x512 .f32} (X : Vec F S96x512x512 .f32) {w b : ℕ} (hb : b < 24) (hw : w < 32)
    {off : Fin 3 → ℕ} {inb} (hoff : off = ![3 * w + b / 8, b % 8 * 64, 0]) (t : Fin k0_t2_loop.trips) {a : Acc F} :
    heldAt d c s m (block X off inb)
      ⊢ twp d c s (mmRow m t (mmRun (piece X w) a (4 * (64 * b + t.val))))
        (fun r => iprop(heldAt d c s m (block X off inb) ∗ ⌜r = mmRun (piece X w) a (4 * (64 * b + (t.val + 1)))⌝)) := by
  have ht : t.val < 64 := t.isLt
  unfold mmRow
  iintro H
  iapply (wp_mmGroup (g := 4 * (64 * b + t.val)) fun j => (flat_cut X w b t.val j.val hb ht (by omega) hw off inb hoff _ _ (mOff_eq t j).1).trans (by congr 1; omega)) $$ H
  iintro H
  iapply (wp_mmGroup (g := 4 * (64 * b + t.val) + 1) fun j => (flat_cut X w b t.val (8 + j.val) hb ht (by omega) hw off inb hoff _ _ (mOff_eq t j).2.1).trans (by congr 1; omega)) $$ H
  iintro H
  iapply (wp_mmGroup (g := 4 * (64 * b + t.val) + 2) fun j => (flat_cut X w b t.val (16 + j.val) hb ht (by omega) hw off inb hoff _ _ (mOff_eq t j).2.2.1).trans (by congr 1; omega)) $$ H
  iintro H
  rw [← bind_pure (mmGroup m (mOff3 t) _ _)]
  iapply (wp_mmGroup (g := 4 * (64 * b + t.val) + 3) fun j => (flat_cut X w b t.val (24 + j.val) hb ht (by omega) hw off inb hoff _ _ (mOff_eq t j).2.2.2).trans (by congr 1; omega)) $$ H
  iintro H
  iapply twp_pure
  isplitl [H]; · iexact H
  ipureintro
  rw [show 4 * (64 * b + t.val) + 3 + 1 = 4 * (64 * b + (t.val + 1)) by omega]

end Cert.Proof.Hist

end
-- ==== Proof.Pass.lean ====
/-
  A pass over a tile's three planes: each block is in flight to one slot while the other slot's rows are worked on.
  What the rows keep (`I`) is carried from row to row; the array read is held by two shares, one per slot.
-/
module

public import proofs.«01_k».proof.Proof.Wp

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 2) (Elt F) ℕ UU ℕ

/-! ## The blocks' offsets -/

/-- Tile `i`'s number. -/
abbrev tileNo (i : grid1.Coords) : ℕ := 2 * (i 1).val + (i 0).val

theorem tileNo_lt (i : grid1.Coords) : tileNo i < 32 := by
  have h0 : (i 0).val < 2 := (i 0).isLt
  have h1 : (i 1).val < 16 := (i 1).isLt
  unfold tileNo; omega

theorem off2_eq (i : grid1.Coords) : k1_off2 i = ![3 * tileNo i + 0 / 8, 0 % 8 * 64, 0] := by
  rw [k1_off2_eq]; unfold tileNo; congr 1; omega
theorem off3_eq (i : grid1.Coords) (t : Fin k1_t2_loop.trips) :
    k1_off3 i t = ![3 * tileNo i + (2 * t.val + 1) / 8, (2 * t.val + 1) % 8 * 64, 0] := by
  revert i t; decide +kernel
theorem off36_eq (i : grid1.Coords) (t : Fin k1_t2_loop.trips) (h : k1_cond1 t = 1#1) :
    k1_off36 i t = ![3 * tileNo i + (2 * t.val + 2) / 8, (2 * t.val + 2) % 8 * 64, 0] := by
  revert i t; decide +kernel
theorem cond_iff (t : Fin k1_t2_loop.trips) : k1_cond1 t = 1#1 ↔ t.val < 11 := by
  revert t; decide +kernel
theorem trips12 : k1_t2_loop.trips = 12 := by decide
theorem trips64 : k1_t3_loop.trips = 64 := by decide

variable [FloatOps F]

/-- Block `b` of tile `w`'s rows. -/
def blk (X : Vec F S96x512x512 .f32) (w b : ℕ) : Vec F S64x512 .f32 :=
  if h : w < 32 ∧ b < 24 then block X ![3 * w + b / 8, b % 8 * 64, 0] (by
    intro a; fin_cases a
    · show 3 * w + b / 8 + 1 ≤ 96; omega
    · show b % 8 * 64 + 64 ≤ 512; omega
    · show 0 + 512 ≤ 512; omega) else fun _ => X (pos w 0 0)

theorem block_eq_blk (X : Vec F S96x512x512 .f32) {w b : ℕ} (hw : w < 32) (hb : b < 24) {off : Fin 3 → ℕ} {inb}
    (h : off = ![3 * w + b / 8, b % 8 * 64, 0]) : block X off inb = blk X w b := by
  subst h; unfold blk; rw [dif_pos ⟨hw, hb⟩]

/-! ## A transfer's rules -/

variable {d : Dev nD} {c : Fin τ.nSC} {s : Fin τ.nSub} {α : Type}

omit [FloatOps F] in
/-- What is held through a flight is delivered with it. -/
theorem flight_frame {thr : Thread nD τ} {sm : SemLoc sig} {ι : HIx 2} {N : ℕ} {D R : sProp 𝕄} :
    iprop(Flight EC thr sm ι N D ∗ R) ⊢ Flight EC thr sm ι N iprop(D ∗ R) := by
  unfold Flight
  iintro ⟨⟨⟨%R', HR, %hcap, %hpeek⟩, Hc⟩, Hf⟩
  isplitr [Hc]
  · iexists iprop(R' ∗ R)
    isplitl [HR Hf]
    · isplitl [HR]; · iexact HR
      iexact Hf
    isplit
    · ipureintro
      intro K
      iintro ⟨⟨HR, Hf⟩, HK⟩
      iapply (hcap K)
      isplitl [HR]; · iexact HR
      iintro ⟨Hv, HD⟩
      iapply HK
      isplitl [Hv]; · iexact Hv
      isplitl [HD]; · iexact HD
      iexact Hf
    · ipureintro
      intro K
      iintro ⟨⟨HR, Hf⟩, HK⟩
      iapply (hpeek K)
      isplitl [HR]; · iexact HR
      iintro HR
      iapply HK
      isplitl [HR]; · iexact HR
      iexact Hf
  · iexact Hc

/-- A share of an array read whole. -/
def arrAt (d : Dev nD) (c : Fin τ.nSC) (s : Fin τ.nSub) (q : PosShare TreeShare) (src : Memref sig .scVector .hbm S96x512x512 .f32) (X : Vec F S96x512x512 .f32) : sProp 𝕄 :=
  iprop(∃ f, ⌜src.view.read (Elt F) f = X⌝ ∗ src.view.loc (V d c s) ↦[src.view.set]{q} f)

/-- A slot held at anything. -/
abbrev someAt (d : Dev nD) (c : Fin τ.nSC) (s : Fin τ.nSub) {sp : Space} {z : Shape} (m : Memref sig .scVector sp z .f32) : sProp 𝕄 :=
  iprop(∃ f, m.view.loc (V d c s) ↦[m.view.set]{fullShare} f)

theorem someAt_of {sp : Space} {z : Shape} {m : Memref sig .scVector sp z .f32} {v : Vec F z .f32} : heldAt d c s m v ⊢ someAt d c s m := by
  unfold heldAt
  iintro ⟨%f, -, H⟩
  iexists f; iexact H

/-- A transfer's cell at rest. -/
abbrev rest (d : Dev nD) (c : Fin τ.nSC) (s : Fin τ.nSub) (sem : DmaSems sig S_) : sProp 𝕄 := semVal (V d c s, SemLoc.dma sem.sem) 0

/-- A block in flight to a slot, the array's share with it. -/
abbrev inFlight (d : Dev nD) (c : Fin τ.nSC) (s : Fin τ.nSub) (q : PosShare TreeShare) (src : Memref sig .scVector .hbm S96x512x512 .f32) (X : Vec F S96x512x512 .f32)
    (dst : Memref sig .scVector .vmem S64x512 .f32) (sem : DmaSems sig S_) (v : Vec F S64x512 .f32) : sProp 𝕄 :=
  Flight EC (V d c s) (.dma sem.sem) none dst.view.dmaCredit iprop(heldAt d c s dst v ∗ arrAt d c s q src X)

theorem wp_fetch {q : PosShare TreeShare} {src : Memref sig .scVector .hbm S96x512x512 .f32} {X : Vec F S96x512x512 .f32} {off : Fin 3 → ℕ} {inb}
    {dst : Memref sig .scVector .vmem S64x512 .f32} {sem : DmaSems sig S_} {k : PUnit → Tile F c s α} {Q : α → sProp 𝕄} :
    iprop(arrAt d c s q src X ∗ someAt d c s dst ∗ rest d c s sem)
      ⊢ iprop((inFlight d c s q src X dst sem (block X off inb) -∗ twp d c s (k ⟨⟩) Q) -∗ twp d c s (fetchIn src off inb dst sem >>= k) Q) := by
  unfold fetchIn arrAt
  simp only [Prog.lift, Prog.bind_op, Prog.bind_ret]
  iintro ⟨⟨%f, %hf, Ha⟩, ⟨%g, Hd⟩, Hv⟩ Hk
  have hsub : (plane src off inb).view.set ⊆ src.view.set := by
    have h1 : (plane src off inb).view.set = (src.view.slice (Rect.unit (s := S96x512x512) off S1x64x512.size inb)).set := View.set_reshape _ _
    exact h1.le.trans (View.set_slice_subset _ _)
  ihave Hs := (pointsTo_split_subset hsub).1 $$ Ha
  icases Hs with ⟨Hp, Hrest⟩
  iapply (wp_dmaLocal EC 𝒱₀ (V d c s) none (src := plane src off inb) (dst := dst) (none : HIx 2) dst.view.dmaCredit rfl
    (View.dmaCredit_pos _ (by decide)) subset_rfl) $$ [Hp Hd Hv]
  · isplitl [Hp]; · iexact Hp
    isplitl [Hd] <;> iassumption
  iintro Hfl
  iapply Hk
  ihave Hfl' := flight_frame $$ [Hfl Hrest]
  · isplitl [Hfl]; · iexact Hfl
    iexact Hrest
  iapply (Flight_mono EC (V d c s) ?_) $$ Hfl'
  iintro ⟨⟨Hd, Hp⟩, Hrest⟩
  isplitl [Hd]
  · unfold heldAt
    iexists _
    isplitr
    rotate_left
    · iexact Hd
    · ipureintro
      rw [View.read_write_univ]
      subst hf
      rfl
  · unfold arrAt
    iexists f
    isplitr; · ipureintro; exact hf
    iapply (pointsTo_split_subset hsub).2
    isplitl [Hp]; · iexact Hp
    iexact Hrest

/-- What a thread owes, with waits of its own recorded. -/
abbrev owesW (d : Dev nD) (c : Fin τ.nSC) (s : Fin τ.nSub) (O : CellTallies nD τ sig (HIx 2)) (W : Waits sig (HIx 2)) : sProp 𝕄 :=
  iprop(∃ W', ⌜∀ p ∈ W', p ∈ W ∨ p.2 = none⌝ ∗ owes (V d c s) O W')

theorem wp_await {q : PosShare TreeShare} {src : Memref sig .scVector .hbm S96x512x512 .f32} {X : Vec F S96x512x512 .f32}
    {dst : Memref sig .scVector .vmem S64x512 .f32} {sem : DmaSems sig S_} {v : Vec F S64x512 .f32} {O : CellTallies nD τ sig (HIx 2)} {W : Waits sig (HIx 2)}
    {k : PUnit → Tile F c s α} {Q : α → sProp 𝕄} :
    iprop(MayWaits (V d c s) none O ∗ inFlight d c s q src X dst sem v ∗ owesW d c s O W)
      ⊢ iprop((heldAt d c s dst v ∗ arrAt d c s q src X ∗ rest d c s sem ∗ owesW d c s O W -∗ twp d c s (k ⟨⟩) Q)
        -∗ twp d c s (awaitIn src dst sem >>= k) Q) := by
  unfold awaitIn
  simp only [Prog.lift, Prog.bind_op, Prog.bind_ret]
  iintro ⟨Hmw, Hfl, ⟨%W', %hW', HO⟩⟩ Hk
  ihave Hm := (MayWaits.elim (SemLoc.dma sem.sem)) $$ Hmw
  iapply (wp_waitLocalO EC 𝒱₀ (V d c s) none (none : HIx 2) rfl) $$ [Hfl HO Hm]
  · isplitl [Hfl]; · iexact Hfl
    isplitl [HO] <;> iassumption
  iintro ⟨⟨Hd, Ha⟩, Hv, HO⟩
  iapply Hk
  isplitl [Hd]; · iexact Hd
  isplitl [Ha]; · iexact Ha
  isplitl [Hv]; · iexact Hv
  iexists _
  isplitr
  rotate_left
  · iexact HO
  · ipureintro
    intro p hp
    rcases Finset.mem_insert.mp hp with rfl | hp
    · exact .inr rfl
    · exact hW' p hp

/-! ## The pass -/

section Pass

variable {σ ρ : Type}

/-- The rows of a block, one by one. -/
theorem wp_rows {X : Vec F S96x512x512 .f32} {w b : ℕ} {m : Memref sig .scVector .vmem S64x512 .f32}
    {row : Memref sig .scVector .vmem S64x512 .f32 → Fin k1_t3_loop.trips → ρ → Tile F c s ρ} {I : ℕ → ρ → sProp 𝕄}
    (hrow : ∀ (t : Fin k1_t3_loop.trips) (a : ρ), iprop(heldAt d c s m (blk X w b) ∗ I (64 * b + t.val) a)
      ⊢ twp d c s (row m t a) (fun a' => iprop(heldAt d c s m (blk X w b) ∗ I (64 * b + (t.val + 1)) a')))
    {a : ρ} {k : ρ → Tile F c s α} {Q : α → sProp 𝕄} :
    iprop(heldAt d c s m (blk X w b) ∗ I (64 * b) a)
      ⊢ iprop((∀ a', heldAt d c s m (blk X w b) ∗ I (64 * (b + 1)) a' -∗ twp d c s (k a') Q)
        -∗ twp d c s (Scf.Loop.for k1_t3_loop k1_t3_ok a (fun t a => row m t a) >>= k) Q) := by
  exact (Scf.wp_for_bind frame (wpE (defs₀ (F := F)) 𝒱₀ (V d c s) none) Set.univ k1_t3_loop.lb k1_t3_loop.ub k1_t3_loop.st k1_t3_ok a
    (fun t a => row m t a) (fun n a => iprop(heldAt d c s m (blk X w b) ∗ I (64 * b + n) a)) hrow)

/-- What is held between two pairs of blocks. -/
def passInv (d : Dev nD) (c : Fin τ.nSC) (s : Fin τ.nSub) (q0 q1 : PosShare TreeShare) (src : Memref sig .scVector .hbm S96x512x512 .f32) (X : Vec F S96x512x512 .f32)
    (buf : Memref sig .scVector .vmem S2x64x512 .f32) (s0 s1 : DmaSems sig S_) (O : CellTallies nD τ sig (HIx 2)) (W : Waits sig (HIx 2)) (w : ℕ)
    (J : ℕ → σ → sProp 𝕄) (t : ℕ) (a : σ) : sProp 𝕄 :=
  iprop(MayWaits (V d c s) none O
    ∗ (if t < 12 then inFlight d c s q0 src X (slot0 buf) s0 (blk X w (2 * t)) else iprop(arrAt d c s q0 src X ∗ someAt d c s (slot0 buf) ∗ rest d c s s0))
    ∗ arrAt d c s q1 src X ∗ someAt d c s (slot1 buf) ∗ rest d c s s1 ∗ owesW d c s O W ∗ J (128 * t) a)

/-- What a pass takes and hands back. -/
abbrev passRes (d : Dev nD) (c : Fin τ.nSC) (s : Fin τ.nSub) (q0 q1 : PosShare TreeShare) (src : Memref sig .scVector .hbm S96x512x512 .f32) (X : Vec F S96x512x512 .f32)
    (buf : Memref sig .scVector .vmem S2x64x512 .f32) (s0 s1 : DmaSems sig S_) (O : CellTallies nD τ sig (HIx 2)) (W : Waits sig (HIx 2)) : sProp 𝕄 :=
  iprop(MayWaits (V d c s) none O ∗ (arrAt d c s q0 src X ∗ someAt d c s (slot0 buf) ∗ rest d c s s0)
    ∗ arrAt d c s q1 src X ∗ someAt d c s (slot1 buf) ∗ rest d c s s1 ∗ owesW d c s O W)

theorem wp_pass {i : grid1.Coords} {q0 q1 : PosShare TreeShare} {src : Memref sig .scVector .hbm S96x512x512 .f32} {X : Vec F S96x512x512 .f32}
    {buf : Memref sig .scVector .vmem S2x64x512 .f32} {s0 s1 : DmaSems sig S_} {O : CellTallies nD τ sig (HIx 2)} {W : Waits sig (HIx 2)}
    {enter : σ → ρ} {leave : ρ → σ}
    {row : Memref sig .scVector .vmem S64x512 .f32 → Fin k1_t3_loop.trips → ρ → Tile F c s ρ} (J : ℕ → σ → sProp 𝕄) (I : ℕ → ρ → sProp 𝕄)
    (henter : ∀ n a, J n a ⊢ I n (enter a)) (hleave : ∀ n a, I n a ⊢ J n (leave a))
    (hrow : ∀ (m : Memref sig .scVector .vmem S64x512 .f32) (b : ℕ), b < 24 → ∀ (t : Fin k1_t3_loop.trips) (a : ρ),
      iprop(heldAt d c s m (blk X (tileNo i) b) ∗ I (64 * b + t.val) a)
        ⊢ twp d c s (row m t a) (fun a' => iprop(heldAt d c s m (blk X (tileNo i) b) ∗ I (64 * b + (t.val + 1)) a')))
    {a : σ} {k : σ → Tile F c s α} {Q : α → sProp 𝕄} :
    iprop(passRes d c s q0 q1 src X buf s0 s1 O W ∗ J 0 a)
      ⊢ iprop((∀ a', passRes d c s q0 q1 src X buf s0 s1 O W ∗ J 1536 a' -∗ twp d c s (k a') Q)
        -∗ twp d c s (pass i src buf s0 s1 enter leave row a >>= k) Q) := by
  have hw := tileNo_lt i
  unfold pass
  simp only [bind_assoc]
  iintro ⟨⟨Hmw, ⟨Ha0, Hd0, Hv0⟩, Ha1, Hd1, Hv1, HO⟩, HJ⟩ Hk
  iapply wp_fetch $$ [Ha0 Hd0 Hv0]
  · isplitl [Ha0]; · iexact Ha0
    isplitl [Hd0] <;> iassumption
  iintro Hfl
  rw [block_eq_blk X hw (b := 0) (by decide) (off2_eq i)]
  iapply (Scf.wp_for_bind frame (wpE (defs₀ (F := F)) 𝒱₀ (V d c s) none) Set.univ k1_t2_loop.lb k1_t2_loop.ub k1_t2_loop.st k1_t2_ok a _
    (passInv d c s q0 q1 src X buf s0 s1 O W (tileNo i) J) ?body) $$ [Hmw Hfl Ha1 Hd1 Hv1 HO HJ]
  case body =>
    intro t a
    have ht : t.val < 12 := t.isLt
    unfold passInv
    rw [if_pos ht]
    iintro ⟨#Hmw, Hfl, Ha1, Hd1, Hv1, HO, HJ⟩
    iapply wp_await $$ [Hfl HO]
    · isplitr; · iexact Hmw
      isplitl [Hfl] <;> iassumption
    iintro ⟨Hd0, Ha0, Hv0, HO⟩
    iapply wp_fetch $$ [Ha1 Hd1 Hv1]
    · isplitl [Ha1]; · iexact Ha1
      isplitl [Hd1] <;> iassumption
    iintro Hfl
    rw [block_eq_blk X hw (b := 2 * t.val + 1) (by omega) (off3_eq i t)]
    iapply (wp_rows (b := 2 * t.val) (fun t' a' => hrow (slot0 buf) (2 * t.val) (by omega) t' a')) $$ [Hd0 HJ]
    · isplitl [Hd0]; · iexact Hd0
      rw [show 64 * (2 * t.val) = 128 * t.val by omega]
      iapply henter $$ HJ
    iintro %r ⟨Hd0, HI⟩
    iapply wp_await $$ [Hfl HO]
    · isplitr; · iexact Hmw
      isplitl [Hfl] <;> iassumption
    iintro ⟨Hd1, Ha1, Hv1, HO⟩
    have hlast : ∀ (P : sProp 𝕄), iprop(P ∗ (MayWaits (V d c s) none O ∗ heldAt d c s (slot1 buf) (blk X (tileNo i) (2 * t.val + 1)) ∗ arrAt d c s q1 src X ∗ rest d c s s1 ∗ owesW d c s O W
          ∗ I (64 * (2 * t.val + 1)) r))
        ⊢ twp d c s (Scf.Loop.for k1_t3_loop k1_t3_ok (enter (leave r)) (fun t a => row (slot1 buf) t a) >>= fun r' => pure (leave r'))
          fun a => iprop(MayWaits (V d c s) none O ∗ P ∗ arrAt d c s q1 src X ∗ someAt d c s (slot1 buf) ∗ rest d c s s1 ∗ owesW d c s O W ∗ J (128 * (t.val + 1)) a) := by
      intro P
      iintro ⟨HP, #Hmw, Hd1, Ha1, Hv1, HO, HI⟩
      iapply (wp_rows (b := 2 * t.val + 1) (fun t' a' => hrow (slot1 buf) (2 * t.val + 1) (by omega) t' a')) $$ [Hd1 HI]
      · isplitl [Hd1]; · iexact Hd1
        iapply henter
        iapply hleave $$ HI
      iintro %r' ⟨Hd1, HI⟩
      iapply twp_pure
      isplitr; · iexact Hmw
      isplitl [HP]; · iexact HP
      isplitl [Ha1]; · iexact Ha1
      isplitl [Hd1]; · iapply someAt_of $$ Hd1
      isplitl [Hv1]; · iexact Hv1
      isplitl [HO]; · iexact HO
      rw [show 128 * (t.val + 1) = 64 * (2 * t.val + 1 + 1) by omega]
      iapply hleave $$ HI
    by_cases hc : k1_cond1 t = 1#1
    · have ht' := (cond_iff t).1 hc
      rw [dif_pos hc]
      simp only [bind_assoc, pure_bind]
      iapply wp_fetch $$ [Ha0 Hd0 Hv0]
      · isplitl [Ha0]; · iexact Ha0
        isplitl [Hd0]; · iapply someAt_of $$ Hd0
        iexact Hv0
      iintro Hfl
      rw [block_eq_blk X hw (b := 2 * t.val + 2) (by omega) (off36_eq i t hc), if_pos (show t.val + 1 < 12 by omega)]
      iapply (hlast _)
      isplitl [Hfl]; · iexact Hfl
      isplitr; · iexact Hmw
      isplitl [Hd1]; · iexact Hd1
      isplitl [Ha1]; · iexact Ha1
      isplitl [Hv1]; · iexact Hv1
      isplitl [HO] <;> iassumption
    · have ht' : ¬ t.val < 11 := fun h => hc ((cond_iff t).2 h)
      rw [dif_neg hc]
      simp only [pure_bind]
      rw [if_neg (show ¬ t.val + 1 < 12 by omega)]
      iapply (hlast _)
      isplitl [Ha0 Hd0 Hv0]
      · isplitl [Ha0]; · iexact Ha0
        isplitl [Hd0]; · iapply someAt_of $$ Hd0
        iexact Hv0
      isplitr; · iexact Hmw
      isplitl [Hd1]; · iexact Hd1
      isplitl [Ha1]; · iexact Ha1
      isplitl [Hv1]; · iexact Hv1
      isplitl [HO] <;> iassumption
  · unfold passInv
    rw [if_pos (by decide)]
    isplitl [Hmw]; · iexact Hmw
    isplitl [Hfl]; · iexact Hfl
    isplitl [Ha1]; · iexact Ha1
    isplitl [Hd1]; · iexact Hd1
    isplitl [Hv1]; · iexact Hv1
    isplitl [HO] <;> iassumption
  iintro %a' H
  iapply Hk
  unfold passInv
  rw [if_neg (show ¬ Scf.trips k1_t2_loop.lb k1_t2_loop.ub k1_t2_loop.st < 12 by decide)]
  icases H with ⟨Hmw, H0, Ha1, Hd1, Hv1, HO, HJ⟩
  isplitr [HJ]
  · isplitl [Hmw]; · iexact Hmw
    isplitl [H0]; · iexact H0
    isplitl [Ha1]; · iexact Ha1
    isplitl [Hd1]; · iexact Hd1
    isplitl [Hv1] <;> iassumption
  · rw [show 1536 = 128 * Scf.trips k1_t2_loop.lb k1_t2_loop.ub k1_t2_loop.st by decide]
    iexact HJ

end Pass

end Cert.Proof.Hist

end
-- ==== Proof.Mem.lean ====
/-
  What a tile holds and moves besides its passes: the two slots of its staging buffer, the shares of an array, one copy
  made and waited for, a lane vector stored, the counts cleared, and the rows of the tables the tiles write.
-/
module

public import proofs.«01_k».proof.Proof.Pass

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 2) (Elt F) ℕ UU ℕ

variable [FloatOps F] {d : Dev nD} {c : Fin τ.nSC} {s : Fin τ.nSub} {α : Type}

/-! ## The slots -/

theorem slots_disjoint (m : Memref sig .scVector .vmem S2x64x512 .f32) : Disjoint (slot0 m).view.set (slot1 m).view.set := by
  have h0 : (slot0 m).view.set = (m.view.slice (Rect.unit (s := S2x64x512) ![0, 0, 0] S1x64x512.size inb_S2x64x512_S1x64x512_0_0_0)).set := View.set_reshape _ _
  have h1 : (slot1 m).view.set = (m.view.slice (Rect.unit (s := S2x64x512) ![1, 0, 0] S1x64x512.size inb_S2x64x512_S1x64x512_1_0_0)).set := View.set_reshape _ _
  rw [h0, h1, View.set_slice, View.set_slice, Finset.disjoint_map, Finset.disjoint_left]
  intro x hx hy
  have a := (Rect.mem_set_unit.1 hx 0).2
  have b := (Rect.mem_set_unit.1 hy 0).1
  have a' : (x 0).val < 1 := a
  have b' : 1 ≤ (x 0).val := b
  omega

theorem slots_cover (m : Memref sig .scVector .vmem S2x64x512 .f32) : (slot0 m).view.set ∪ (slot1 m).view.set = m.view.set := by
  have h0 : (slot0 m).view.set = (m.view.slice (Rect.unit (s := S2x64x512) ![0, 0, 0] S1x64x512.size inb_S2x64x512_S1x64x512_0_0_0)).set := View.set_reshape _ _
  have h1 : (slot1 m).view.set = (m.view.slice (Rect.unit (s := S2x64x512) ![1, 0, 0] S1x64x512.size inb_S2x64x512_S1x64x512_1_0_0)).set := View.set_reshape _ _
  rw [h0, h1, View.set_slice, View.set_slice, ← Finset.map_union]
  have : (Rect.unit (s := S2x64x512) ![0, 0, 0] S1x64x512.size inb_S2x64x512_S1x64x512_0_0_0).set
      ∪ (Rect.unit (s := S2x64x512) ![1, 0, 0] S1x64x512.size inb_S2x64x512_S1x64x512_1_0_0).set = Finset.univ := by
    refine Finset.eq_univ_of_forall fun x => Finset.mem_union.2 ?_
    have hx0 : (x 0).val < 2 := (x 0).isLt
    have hx1 : (x 1).val < 64 := (x 1).isLt
    have hx2 : (x 2).val < 512 := (x 2).isLt
    rcases Nat.lt_or_ge (x 0).val 1 with h | h
    · left
      refine Rect.mem_set_unit.2 fun a => ?_
      match a with
      | 0 => exact ⟨Nat.zero_le _, h⟩
      | 1 => exact ⟨Nat.zero_le _, by simpa using hx1⟩
      | 2 => exact ⟨Nat.zero_le _, by simpa using hx2⟩
    · right
      refine Rect.mem_set_unit.2 fun a => ?_
      match a with
      | 0 => exact ⟨h, hx0⟩
      | 1 => exact ⟨Nat.zero_le _, by simpa using hx1⟩
      | 2 => exact ⟨Nat.zero_le _, by simpa using hx2⟩
  rw [this]; rfl

theorem slots_split (m : Memref sig .scVector .vmem S2x64x512 .f32) :
    (someAt d c s m : sProp 𝕄) ⊢ iprop(someAt d c s (slot0 m) ∗ someAt d c s (slot1 m)) := by
  iintro ⟨%f, H⟩
  ihave H' := ((Entails.of_eq (by rw [slots_cover])).trans (pointsTo_union (ℓ := m.view.loc (V d c s)) (q := fullShare) (f := f) (slots_disjoint m)).1) $$ H
  icases H' with ⟨H0, H1⟩
  isplitl [H0]
  · iexists f; iexact H0
  · iexists f; iexact H1

theorem slots_join (m : Memref sig .scVector .vmem S2x64x512 .f32) :
    (iprop(someAt d c s (slot0 m) ∗ someAt d c s (slot1 m)) : sProp 𝕄) ⊢ someAt d c s m := by
  iintro ⟨⟨%f, H0⟩, ⟨%g, H1⟩⟩
  ihave H := ((pointsTo_join (ℓ := m.view.loc (V d c s)) (q := fullShare) (f := f) (g := g) (slots_disjoint m)).trans (Entails.of_eq (by rw [slots_cover]))) $$ [H0 H1]
  · isplitl [H0]; · iexact H0
    iexact H1
  iexists _; iexact H

/-! ## An array's shares -/

/-- The first and the second half of a share. -/
abbrev half (q : PosShare TreeShare) (b : Fin 2) : PosShare TreeShare := dealOf q Finset.univ b

omit [FloatOps F] in
theorem bigSep_two (Φ : Fin 2 → sProp 𝕄) : bigSep Finset.univ Φ = iprop(Φ 0 ∗ Φ 1) := bigSep_fin_two Φ

/-- An array held at a share, read as two arrays at its halves; `m` is the array whole. -/
theorem arr_split {m : Memref sig .scVector .hbm S96x512x512 .f32} (hm : m.IsWhole) {q : PosShare TreeShare} {f : Buf (Elt F) (m.view.loc (V d c s))} {X : Vec F S96x512x512 .f32}
    (hX : m.view.read (Elt F) f = X) :
    (m.view.loc (V d c s) ↦{q} f : sProp 𝕄) ⊢ iprop(arrAt d c s (half q 0) m X ∗ arrAt d c s (half q 1) m X) := by
  unfold arrAt
  rw [Memref.IsWhole.set_eq_univ hm, pointsTo_deal (Finset.univ : Finset (Fin 2)) Finset.univ_nonempty q, bigSep_two]
  iintro ⟨H0, H1⟩
  isplitl [H0]
  · iexists f; isplitr; · ipureintro; exact hX
    iexact H0
  · iexists f; isplitr; · ipureintro; exact hX
    iexact H1

theorem arr_join {m : Memref sig .scVector .hbm S96x512x512 .f32} (hm : m.IsWhole) {q : PosShare TreeShare} {f : Buf (Elt F) (m.view.loc (V d c s))} {X : Vec F S96x512x512 .f32}
    (hX : ∀ g, m.view.read (Elt F) g = X → g = f) :
    (iprop(arrAt d c s (half q 0) m X ∗ arrAt d c s (half q 1) m X) : sProp 𝕄) ⊢ m.view.loc (V d c s) ↦{q} f := by
  unfold arrAt
  rw [Memref.IsWhole.set_eq_univ hm, pointsTo_deal (Finset.univ : Finset (Fin 2)) Finset.univ_nonempty q, bigSep_two]
  iintro ⟨⟨%g, %hg, H0⟩, ⟨%g', %hg', H1⟩⟩
  rw [hX g hg, hX g' hg']
  isplitl [H0]; · iexact H0
  iexact H1

/-! ## One copy, made and waited for -/

theorem wp_copyWait {sp sp' : Space} {z : Shape} {q : PosShare TreeShare} {src : Memref sig .scVector sp z .f32} {dst : Memref sig .scVector sp' z .f32} {sem : DmaSems sig S_}
    {h1 h2 h3 h4 h5} {fs : Buf (Elt F) (src.view.loc (V d c s))} (hz : 0 < dst.view.dmaCredit) {O : CellTallies nD τ sig (HIx 2)} {W : Waits sig (HIx 2)}
    {k : PUnit → Tile F c s α} {Q : α → sProp 𝕄} :
    iprop(MayWaits (V d c s) none O ∗ (src.view.loc (V d c s) ↦[src.view.set]{q} fs) ∗ someAt d c s dst ∗ rest d c s sem ∗ owesW d c s O W)
      ⊢ iprop(((src.view.loc (V d c s) ↦[src.view.set]{q} fs) ∗ heldAt d c s dst (src.view.read (Elt F) fs) ∗ rest d c s sem ∗ owesW d c s O W -∗ twp d c s (k ⟨⟩) Q)
        -∗ twp d c s (Prog.lift (.enqueueDma src (.here dst) (.dma sem.sem) h1 h2 h3) >>= fun _ => Prog.lift (.waitDma2 sem.sem src dst h4 h5) >>= k) Q) := by
  simp only [Prog.lift, Prog.bind_op, Prog.bind_ret]
  iintro ⟨Hmw, Hs, ⟨%g, Hd⟩, Hv, ⟨%W', %hW', HO⟩⟩ Hk
  iapply (wp_dmaLocal EC 𝒱₀ (V d c s) none (src := src) (dst := dst) (none : HIx 2) dst.view.dmaCredit rfl hz subset_rfl) $$ [Hs Hd Hv]
  · isplitl [Hs]; · iexact Hs
    isplitl [Hd] <;> iassumption
  iintro Hfl
  ihave Hm := (MayWaits.elim (SemLoc.dma sem.sem)) $$ Hmw
  iapply (wp_waitLocalO EC 𝒱₀ (V d c s) none (none : HIx 2) rfl) $$ [Hfl HO Hm]
  · isplitl [Hfl]; · iexact Hfl
    isplitl [HO] <;> iassumption
  iintro ⟨⟨Hd, Hs⟩, Hv, HO⟩
  iapply Hk
  isplitl [Hs]; · iexact Hs
  isplitl [Hd]
  · unfold heldAt
    iexists _
    isplitr
    rotate_left
    · iexact Hd
    · ipureintro
      rw [View.read_write_univ]
  isplitl [Hv]; · iexact Hv
  iexists _
  isplitr
  rotate_left
  · iexact HO
  · ipureintro
    intro p hp
    rcases Finset.mem_insert.mp hp with rfl | hp
    · exact .inr rfl
    · exact hW' p hp

/-! ## A lane vector stored -/

theorem wp_setv {m : Memref sig .scVector .vmem S16 .f32} {v : Vec F S16 .f32} {k : PUnit → Tile F c s α} {Q : α → sProp 𝕄} :
    (someAt d c s m : sProp 𝕄) ⊢ iprop((heldAt d c s m v -∗ twp d c s (k ⟨⟩) Q) -∗ twp d c s (setv m v >>= k) Q) := by
  unfold setv
  simp only [Prog.lift, Prog.bind_op, Prog.bind_ret]
  iintro ⟨%f, H⟩ Hk
  iapply (wp_load 𝒱₀ (V d c s) none Set.univ (m := m) (S := m.view.set) (View.setOn_subset_set _ _)) $$ H
  iintro H
  iapply (wp_store 𝒱₀ (V d c s) none Set.univ (m := m) (r := Rect.unit (s := S16) ![0] S16.size inb_S16_S16_0) (Mk := Finset.univ) (S := m.view.set)
    (View.set_slice_subset _ _)) $$ H
  iintro H
  iapply Hk
  unfold heldAt
  iexists _
  isplitr
  rotate_left
  · iexact H
  · ipureintro
    funext j
    have e : j = (Rect.unit (s := S16) ![0] S16.size inb_S16_S16_0).emb j := by
      funext a; apply Fin.ext; fin_cases a
      show (j 0).val = 0 + 1 * (j 0).val
      omega
    conv_lhs => rw [e]
    exact View.read_slice_write_emb (v := m.view) (M := Finset.univ) (x := j) (Rect.unit (s := S16) ![0] S16.size inb_S16_S16_0) f v (Finset.mem_univ _)

end Cert.Proof.Hist

end
-- ==== Proof.Tiles.lean ====
/-
  The two tile programs, from what a tile holds to what it leaves: the extrema of its three planes' pieces in its rows of
  the two tables, and the signed counts of its three planes' pieces in its row of the third.
-/
module

public import proofs.«01_k».proof.Proof.Mem

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 2) (Elt F) ℕ UU ℕ

variable [FloatOps F] {d : Dev nD} {c : Fin τ.nSC} {s : Fin τ.nSub} {α : Type}

/-! ## Where a block lies -/

theorem blk_hb {w b : ℕ} (hw : w < 32) (hb : b < 24) : ∀ a, (![3 * w + b / 8, b % 8 * 64, 0] : Fin 3 → ℕ) a + S1x64x512.size a ≤ S96x512x512.size a := by
  intro a
  match a with
  | 0 => show 3 * w + b / 8 + 1 ≤ 96; omega
  | 1 => show b % 8 * 64 + 64 ≤ 512; omega
  | 2 => show 0 + 512 ≤ 512; omega

theorem mmRun_zero (p : ℕ → Vec F S16 .f32) (a : Acc F) : mmRun p a (4 * 0) = a := rfl
theorem countRun_zero (lo wd val : Vec F S16 .f32) (p : ℕ → Vec F S16 .f32) (h : Vec F S1600 .f32) : countRun lo wd val p h (32 * 0) = h := rfl

attribute [local irreducible] mmRun countRun

/-! ## The extrema -/

/-- A tile's accumulators after both arrays' three planes. -/
def mmAcc (Xp Xt : Vec F S96x512x512 .f32) (w : ℕ) : Acc F := mmRun (piece Xt w) (mmRun (piece Xp w) accInit 6144) 6144

theorem wp_mmPass {i : grid1.Coords} {q0 q1 : PosShare TreeShare} {src : Memref sig .scVector .hbm S96x512x512 .f32} {X : Vec F S96x512x512 .f32}
    {buf : Memref sig .scVector .vmem S2x64x512 .f32} {s0 s1 : DmaSems sig S_} {O : CellTallies nD τ sig (HIx 2)} {W : Waits sig (HIx 2)}
    {a : Acc F} {k : Acc F → Tile F c s α} {Q : α → sProp 𝕄} {N : ℕ} (hN : 4 * 1536 = N) :
    passRes d c s q0 q1 src X buf s0 s1 O W
      ⊢ iprop((passRes d c s q0 q1 src X buf s0 s1 O W -∗ twp d c s (k (mmRun (piece X (tileNo i)) a N)) Q)
        -∗ twp d c s (pass i src buf s0 s1 (fun a => a) (fun a => a) (fun m t a => mmRow m t a) a >>= k) Q) := by
  have hw := tileNo_lt i
  iintro H Hk
  iapply (wp_pass (fun n b => iprop(⌜b = mmRun (piece X (tileNo i)) a (4 * n)⌝)) (fun n b => iprop(⌜b = mmRun (piece X (tileNo i)) a (4 * n)⌝))
    (fun _ _ => .rfl) (fun _ _ => .rfl) ?row) $$ [H]
  case row =>
    intro m b hb t a'
    iintro ⟨Hm, %ha⟩
    subst ha
    rw [← block_eq_blk X hw hb (inb := blk_hb hw hb) rfl]
    iapply (wp_mmRow X hb hw rfl t) $$ Hm
  · isplitl [H]; · iexact H
    ipureintro; exact (mmRun_zero _ _).symm
  iintro %a' ⟨H, %ha⟩
  subst ha hN
  iapply Hk $$ H

theorem wp_mmK {i : grid1.Coords} {q0 q1 : PosShare TreeShare} {arg2 arg3 : Memref sig .scVector .hbm S96x512x512 .f32} {Xp Xt : Vec F S96x512x512 .f32}
    {arg4 arg5 : Memref sig .scVector .hbm S32x16 .f32} {arg6 : Memref sig .scVector .vmem S2x64x512 .f32} {arg7 arg8 : Memref sig .scVector .vmem S16 .f32}
    {h7 h8} {arg9 arg10 r0 r1 : DmaSems sig S_} {O : CellTallies nD τ sig (HIx 2)} {W : Waits sig (HIx 2)} :
    iprop(MayWaits (V d c s) none O ∗ (arrAt d c s q0 arg2 Xp ∗ arrAt d c s q1 arg2 Xp) ∗ (arrAt d c s q0 arg3 Xt ∗ arrAt d c s q1 arg3 Xt)
        ∗ (someAt d c s (lrow i arg4) ∗ someAt d c s (lrow i arg5)) ∗ (someAt d c s arg6 ∗ someAt d c s arg7 ∗ someAt d c s arg8)
        ∗ (rest d c s arg9 ∗ rest d c s arg10 ∗ rest d c s r0 ∗ rest d c s r1) ∗ owesW d c s O W)
      ⊢ twp d c s (mmK i arg2 arg3 arg4 arg5 arg6 arg7 h7 arg8 h8 arg9 arg10 r0 r1)
        fun _ => iprop((arrAt d c s q0 arg2 Xp ∗ arrAt d c s q1 arg2 Xp) ∗ (arrAt d c s q0 arg3 Xt ∗ arrAt d c s q1 arg3 Xt)
          ∗ (heldAt d c s (lrow i arg4) (accMin (mmAcc Xp Xt (tileNo i))) ∗ heldAt d c s (lrow i arg5) (accMax (mmAcc Xp Xt (tileNo i))))
          ∗ (someAt d c s arg6 ∗ someAt d c s arg7 ∗ someAt d c s arg8)
          ∗ (rest d c s arg9 ∗ rest d c s arg10 ∗ rest d c s r0 ∗ rest d c s r1) ∗ owesW d c s O W) := by
  unfold mmK
  iintro ⟨#Hmw, ⟨Hp0, Hp1⟩, ⟨Ht0, Ht1⟩, ⟨Ho4, Ho5⟩, ⟨Hb, H7, H8⟩, ⟨Hv9, Hv10, Hr0, Hr1⟩, HO⟩
  ihave Hs := (slots_split arg6) $$ Hb
  icases Hs with ⟨Hs0, Hs1⟩
  iapply (wp_mmPass (N := 6144) (by norm_num) (i := i) (q0 := q0) (q1 := q1) (X := Xp) (O := O) (W := W)) $$ [Hp0 Hp1 Hs0 Hs1 Hv9 Hv10 HO]
  · isplitr; · iexact Hmw
    isplitl [Hp0 Hs0 Hv9]
    · isplitl [Hp0]; · iexact Hp0
      isplitl [Hs0] <;> iassumption
    isplitl [Hp1]; · iexact Hp1
    isplitl [Hs1]; · iexact Hs1
    isplitl [Hv10]; · iexact Hv10
    iexact HO
  iintro ⟨-, ⟨Hp0, Hs0, Hv9⟩, Hp1, Hs1, Hv10, HO⟩
  iapply (wp_mmPass (N := 6144) (by norm_num) (i := i) (q0 := q0) (q1 := q1) (X := Xt) (O := O) (W := W)) $$ [Ht0 Ht1 Hs0 Hs1 Hv9 Hv10 HO]
  · isplitr; · iexact Hmw
    isplitl [Ht0 Hs0 Hv9]
    · isplitl [Ht0]; · iexact Ht0
      isplitl [Hs0] <;> iassumption
    isplitl [Ht1]; · iexact Ht1
    isplitl [Hs1]; · iexact Hs1
    isplitl [Hv10]; · iexact Hv10
    iexact HO
  iintro ⟨-, ⟨Ht0, Hs0, Hv9⟩, Ht1, Hs1, Hv10, HO⟩
  iapply wp_setv $$ H7
  iintro H7
  iapply wp_setv $$ H8
  iintro H8
  unfold heldAt
  icases H7 with ⟨%f7, %hf7, H7⟩
  icases H8 with ⟨%f8, %hf8, H8⟩
  iapply (wp_copyWait (q := fullShare) (fs := f7) (View.dmaCredit_pos _ (by decide))) $$ [H7 Ho4 Hr0 HO]
  · isplitr; · iexact Hmw
    isplitl [H7]; · iexact H7
    isplitl [Ho4]; · iexact Ho4
    isplitl [Hr0]; · iexact Hr0
    iexact HO
  iintro ⟨H7, Ho4, Hr0, HO⟩
  iapply (wp_copyWait (q := fullShare) (fs := f8) (View.dmaCredit_pos _ (by decide))) $$ [H8 Ho5 Hr1 HO]
  · isplitr; · iexact Hmw
    isplitl [H8]; · iexact H8
    isplitl [Ho5]; · iexact Ho5
    isplitl [Hr1]; · iexact Hr1
    iexact HO
  iintro ⟨H8, Ho5, Hr1, HO⟩
  iapply twp_pure
  rw [hf7, hf8]
  isplitl [Hp0 Hp1]; · isplitl [Hp0] <;> iassumption
  isplitl [Ht0 Ht1]; · isplitl [Ht0] <;> iassumption
  isplitl [Ho4 Ho5]
  · unfold heldAt mmAcc
    isplitl [Ho4]; · iexact Ho4
    iexact Ho5
  isplitl [Hs0 Hs1 H7 H8]
  · isplitl [Hs0 Hs1]
    · iapply (slots_join arg6)
      isplitl [Hs0] <;> iassumption
    isplitl [H7]
    · iexists f7; iexact H7
    · iexists f8; iexact H8
  isplitl [Hv9 Hv10 Hr0 Hr1]
  · isplitl [Hv9]; · iexact Hv9
    isplitl [Hv10]; · iexact Hv10
    isplitl [Hr0] <;> iassumption
  iexact HO

/-! ## The counts -/

/-- The first and the second sixteen of thirty-two. -/
def loOf (B : Vec F S32 .f32) : Vec F S16 .f32 := fun j => B ((Rect.unit (s := S32) ![0] S16.size inb_S32_S16_0).emb j)
def wdOf (B : Vec F S32 .f32) : Vec F S16 .f32 := fun j => B ((Rect.unit (s := S32) ![16] S16.size inb_S32_S16_16).emb j)

/-- Sixteen ones, and sixteen minus ones. -/
abbrev ones : Vec F S16 .f32 := broadcast S16 (Scalar.ofBits .f32 0x3F800000#32)
abbrev negs : Vec F S16 .f32 := broadcast S16 (Scalar.ofBits .f32 0xBF800000#32)
/-- No counts. -/
def zeros : Vec F S1600 .f32 := fun _ => Scalar.ofBits .f32 0x00000000#32

/-- A tile's counts after both arrays' three planes. -/
def histTile (Xp Xt : Vec F S96x512x512 .f32) (B : Vec F S32 .f32) (w : ℕ) : Vec F S1600 .f32 :=
  countRun (loOf B) (wdOf B) negs (piece Xt w) (countRun (loOf B) (wdOf B) ones (piece Xp w) zeros 49152) 49152

theorem wp_histPass {i : grid1.Coords} {q0 q1 : PosShare TreeShare} {src : Memref sig .scVector .hbm S96x512x512 .f32} {X : Vec F S96x512x512 .f32}
    {buf : Memref sig .scVector .vmem S2x64x512 .f32} {s0 s1 : DmaSems sig S_} {O : CellTallies nD τ sig (HIx 2)} {W : Waits sig (HIx 2)}
    {lo wd val : Vec F S16 .f32} {h : Vec F S1600 .f32} {k : PUnit → Tile F c s α} {Q : α → sProp 𝕄} {N : ℕ} (hN : 32 * 1536 = N) :
    iprop(passRes d c s q0 q1 src X buf s0 s1 O W ∗ accAt d c s h)
      ⊢ iprop((passRes d c s q0 q1 src X buf s0 s1 O W ∗ accAt d c s (countRun lo wd val (piece X (tileNo i)) h N) -∗ twp d c s (k PUnit.unit) Q)
        -∗ twp d c s (pass i src buf s0 s1 (fun _ => 0#32) (fun _ => PUnit.unit) (fun m t _ => histRow m accM lo wd lanes val t) PUnit.unit >>= k) Q) := by
  have hw := tileNo_lt i
  iintro ⟨H, Ha⟩ Hk
  iapply (wp_pass (σ := PUnit) (ρ := BitVec 32) (fun n _ => accAt d c s (countRun lo wd val (piece X (tileNo i)) h (32 * n)))
    (fun n _ => accAt d c s (countRun lo wd val (piece X (tileNo i)) h (32 * n))) (fun _ _ => .rfl) (fun _ _ => .rfl) ?row) $$ [H Ha]
  case row =>
    intro m b hb t a'
    rw [← block_eq_blk X hw hb (inb := blk_hb hw hb) rfl]
    exact wp_histRow X hb hw rfl t
  · isplitl [H]; · iexact H
    rw [countRun_zero]
    iexact Ha
  iintro %a' ⟨H, Ha⟩
  subst hN
  iapply Hk
  isplitl [H]; · iexact H
  iexact Ha

theorem off1_eq (t : Fin k1_t1_loop.trips) : k1_off1 t = ![16 * t.val] := by
  revert t; decide +kernel

theorem trips100 : k1_t1_loop.trips = 100 := by decide

theorem wp_zeros {a : BitVec 32} {k : BitVec 32 → Tile F c s α} {Q : α → sProp 𝕄} :
    iprop(∃ h, accAt d c s h)
      ⊢ iprop((∀ a', accAt d c s (zeros (F := F)) -∗ twp d c s (k a') Q)
        -∗ twp d c s (Scf.Loop.for k1_t1_loop k1_t1_ok a (fun t _ => zeroAt accM t) >>= k) Q) := by
  iintro ⟨%h, H⟩ Hk
  iapply (Scf.wp_for_bind frame (wpE (defs₀ (F := F)) 𝒱₀ (V d c s) none) Set.univ k1_t1_loop.lb k1_t1_loop.ub k1_t1_loop.st k1_t1_ok a _
    (fun n _ => iprop(∃ h : Vec F S1600 .f32, ⌜∀ j : S1600.Idx, (j 0).val < 16 * n → h j = zeros (F := F) j⌝ ∗ accAt d c s h)) ?body) $$ [H]
  case body =>
    intro t a
    unfold zeroAt
    simp only [Prog.lift, Prog.bind_op, Prog.bind_ret]
    iintro ⟨%h, %hh, H⟩
    iapply (wp_load 𝒱₀ (V d c s) none Set.univ (m := accM) (S := Finset.univ) (Finset.subset_univ _)) $$ H
    iintro H
    iapply (wp_store 𝒱₀ (V d c s) none Set.univ (m := accM) (r := Rect.unit (s := S1600) (k1_off1 t) S16.size (k1_off1_inb t)) (Mk := Finset.univ) (S := Finset.univ)
      (Finset.subset_univ _)) $$ H
    iintro H
    iapply twp_pure
    iexists _
    isplitr
    rotate_left
    · iexact H
    · ipureintro
      intro j hj
      by_cases hlt : (j 0).val < 16 * t.val
      · refine (View.read_slice_write_of_not_mem (v := (accM).view) (Rect.unit (s := S1600) (k1_off1 t) S16.size (k1_off1_inb t)) h _ Finset.univ (y := j) ?_).trans (hh j hlt)
        intro hm
        obtain ⟨x, -, hx⟩ := Finset.mem_map.1 hm
        have e : (j 0).val = k1_off1 t 0 + 1 * (x 0).val := by rw [← hx]; rfl
        have e' : k1_off1 t 0 = 16 * t.val := congrFun (off1_eq t) 0
        omega
      · have hx : ∃ x : S16.Idx, (Rect.unit (s := S1600) (k1_off1 t) S16.size (k1_off1_inb t)).emb x = j := by
          refine ⟨fun | 0 => ⟨(j 0).val - 16 * t.val, by show (j 0).val - 16 * t.val < 16; omega⟩, ?_⟩
          funext a; apply Fin.ext; fin_cases a
          show k1_off1 t 0 + 1 * ((j 0).val - 16 * t.val) = (j 0).val
          have e' : k1_off1 t 0 = 16 * t.val := congrFun (off1_eq t) 0
          omega
        obtain ⟨x, rfl⟩ := hx
        exact View.read_slice_write_emb (v := (accM).view) (M := Finset.univ) (x := x) (Rect.unit (s := S1600) (k1_off1 t) S16.size (k1_off1_inb t)) h _ (Finset.mem_univ _)
  · iexists h
    isplitr
    · ipureintro; intro j hj; omega
    · iexact H
  iintro %a' ⟨%h', %hh, H⟩
  have e : h' = zeros (F := F) := funext fun j => hh j (by
    have hj : (j 0).val < 1600 := (j 0).isLt
    have : Scf.trips k1_t1_loop.lb k1_t1_loop.ub k1_t1_loop.st = 100 := trips100
    omega)
  subst e
  iapply Hk $$ %a' H

/-- The tile's row of the table of counts. -/
abbrev hrow (i : grid1.Coords) (m : Memref sig .scVector .hbm S32x1600 .f32) : Memref sig .scVector .hbm S1600 .f32 :=
  (m.slice (Rect.unit (s := S32x1600) (k1_off135 i) S1x1600.size (k1_off135_inb i)) (fun _ => rfl)).squeeze S1600 squeezes_S1x1600_S1600

theorem wp_ldAt {z : Shape} {m : Memref sig .scVector .vmem z .f32} {r : Rect z} {hl} {f : Buf (Elt F) (m.view.loc (V d c s))}
    {k : (r.shape.Idx → Elt F .f32) → Tile F c s α} {Q : α → sProp 𝕄} :
    (m.view.loc (V d c s) ↦[m.view.set]{fullShare} f : sProp 𝕄)
      ⊢ iprop(((m.view.loc (V d c s) ↦[m.view.set]{fullShare} f) -∗ twp d c s (k fun j => m.view.read (Elt F) f (r.emb j)) Q)
        -∗ twp d c s (Prog.lift (.load m r.toLoadRect hl) >>= k) Q) := by
  simp only [Prog.lift, Prog.bind_op, Prog.bind_ret]
  exact wp_load 𝒱₀ (V d c s) none Set.univ (m := m) (S := m.view.set) (View.setOn_subset_set _ _)

theorem wp_histK {i : grid1.Coords} {q0 q1 q2 : PosShare TreeShare} {arg2 arg3 : Memref sig .scVector .hbm S96x512x512 .f32} {Xp Xt : Vec F S96x512x512 .f32}
    {arg4 : Memref sig .scVector .hbm S32 .f32} {arg5 : Memref sig .scVector .hbm S32x1600 .f32} {arg6 : Memref sig .scVector .vmem S2x64x512 .f32} {arg8 : Memref sig .scVector .vmem S32 .f32}
    {h4 h7 h8} {arg9 arg10 r0 r1 : DmaSems sig S_} {O : CellTallies nD τ sig (HIx 2)} {W : Waits sig (HIx 2)} {fb : Buf (Elt F) (arg4.view.loc (V d c s))} :
    iprop(MayWaits (V d c s) none O ∗ (arrAt d c s q0 arg2 Xp ∗ arrAt d c s q1 arg2 Xp) ∗ (arrAt d c s q0 arg3 Xt ∗ arrAt d c s q1 arg3 Xt)
        ∗ (arg4.view.loc (V d c s) ↦[arg4.view.set]{q2} fb) ∗ someAt d c s (hrow i arg5) ∗ (someAt d c s arg6 ∗ (∃ h, accAt d c s h) ∗ someAt d c s arg8)
        ∗ (rest d c s arg9 ∗ rest d c s arg10 ∗ rest d c s r0 ∗ rest d c s r1) ∗ owesW d c s O W)
      ⊢ twp d c s (histK i arg2 arg3 arg4 h4 arg5 arg6 accM h7 arg8 h8 arg9 arg10 r0 r1)
        fun _ => iprop((arrAt d c s q0 arg2 Xp ∗ arrAt d c s q1 arg2 Xp) ∗ (arrAt d c s q0 arg3 Xt ∗ arrAt d c s q1 arg3 Xt)
          ∗ (arg4.view.loc (V d c s) ↦[arg4.view.set]{q2} fb) ∗ heldAt d c s (hrow i arg5) (histTile Xp Xt (arg4.view.read (Elt F) fb) (tileNo i))
          ∗ (someAt d c s arg6 ∗ (∃ h, accAt d c s h) ∗ someAt d c s arg8)
          ∗ (rest d c s arg9 ∗ rest d c s arg10 ∗ rest d c s r0 ∗ rest d c s r1) ∗ owesW d c s O W) := by
  unfold histK
  iintro ⟨#Hmw, ⟨Hp0, Hp1⟩, ⟨Ht0, Ht1⟩, Hb4, Ho5, ⟨Hb, Hacc, H8⟩, ⟨Hv9, Hv10, Hr0, Hr1⟩, HO⟩
  ihave Hs := (slots_split arg6) $$ Hb
  icases Hs with ⟨Hs0, Hs1⟩
  iapply (wp_copyWait (q := q2) (fs := fb) (View.dmaCredit_pos _ (by decide))) $$ [Hb4 H8 Hr0 HO]
  · isplitr; · iexact Hmw
    isplitl [Hb4]; · iexact Hb4
    isplitl [H8]; · iexact H8
    isplitl [Hr0]; · iexact Hr0
    iexact HO
  iintro ⟨Hb4, H8, Hr0, HO⟩
  unfold heldAt
  icases H8 with ⟨%f8, %hf8, H8⟩
  iapply wp_ldAt $$ H8
  iintro H8
  iapply wp_ldAt $$ H8
  iintro H8
  have elo : (fun j => arg8.view.read (Elt F) f8 ((Rect.unit (s := S32) ![0] S16.size inb_S32_S16_0).emb j)) = loOf (arg4.view.read (Elt F) fb) := by
    rw [hf8]; rfl
  have ewd : (fun j => arg8.view.read (Elt F) f8 ((Rect.unit (s := S32) ![16] S16.size inb_S32_S16_16).emb j)) = wdOf (arg4.view.read (Elt F) fb) := by
    rw [hf8]; rfl
  rw [elo, ewd]
  iapply wp_zeros $$ Hacc
  iintro %a0 Hacc
  iapply (wp_histPass (N := 49152) (by norm_num) (i := i) (q0 := q0) (q1 := q1) (X := Xp) (O := O) (W := W)) $$ [Hp0 Hp1 Hs0 Hs1 Hv9 Hv10 HO Hacc]
  · isplitr [Hacc]
    · isplitr; · iexact Hmw
      isplitl [Hp0 Hs0 Hv9]
      · isplitl [Hp0]; · iexact Hp0
        isplitl [Hs0] <;> iassumption
      isplitl [Hp1]; · iexact Hp1
      isplitl [Hs1]; · iexact Hs1
      isplitl [Hv10]; · iexact Hv10
      iexact HO
    · iexact Hacc
  iintro ⟨⟨-, ⟨Hp0, Hs0, Hv9⟩, Hp1, Hs1, Hv10, HO⟩, Hacc⟩
  iapply (wp_histPass (N := 49152) (by norm_num) (i := i) (q0 := q0) (q1 := q1) (X := Xt) (O := O) (W := W)) $$ [Ht0 Ht1 Hs0 Hs1 Hv9 Hv10 HO Hacc]
  · isplitr [Hacc]
    · isplitr; · iexact Hmw
      isplitl [Ht0 Hs0 Hv9]
      · isplitl [Ht0]; · iexact Ht0
        isplitl [Hs0] <;> iassumption
      isplitl [Ht1]; · iexact Ht1
      isplitl [Hs1]; · iexact Hs1
      isplitl [Hv10]; · iexact Hv10
      iexact HO
    · iexact Hacc
  iintro ⟨⟨-, ⟨Ht0, Hs0, Hv9⟩, Ht1, Hs1, Hv10, HO⟩, Hacc⟩
  have e : ∀ h : Vec F S1600 .f32, ((accM).view.loc (V d c s) ↦[(accM).view.set]{fullShare} h : sProp 𝕄) = accAt d c s h := by
    intro h
    simp only [Memref.view_whole, View.set_whole]
  ihave Hacc' := (Entails.of_eq (e _).symm) $$ Hacc
  iapply (wp_copyWait (q := fullShare) (src := accM) (dst := hrow i arg5) (sem := r1) (View.dmaCredit_pos _ (by decide)) (k := fun _ => pure ⟨⟩)) $$ [Hacc' Ho5 Hr1 HO]
  · isplitr; · iexact Hmw
    isplitl [Hacc']; · iexact Hacc'
    isplitl [Ho5]; · iexact Ho5
    isplitl [Hr1]; · iexact Hr1
    iexact HO
  iintro ⟨Hacc', Ho5, Hr1, HO⟩
  iapply twp_pure
  isplitl [Hp0 Hp1]; · isplitl [Hp0] <;> iassumption
  isplitl [Ht0 Ht1]; · isplitl [Ht0] <;> iassumption
  isplitl [Hb4]; · iexact Hb4
  isplitl [Ho5]
  · unfold heldAt histTile
    iexact Ho5
  isplitl [Hs0 Hs1 Hacc' H8]
  · isplitl [Hs0 Hs1]
    · iapply (slots_join arg6)
      isplitl [Hs0] <;> iassumption
    isplitl [Hacc']
    · iexists _
      iapply (Entails.of_eq (e _)) $$ Hacc'
    · iexists f8; iexact H8
  isplitl [Hv9 Hv10 Hr0 Hr1]
  · isplitl [Hv9]; · iexact Hv9
    isplitl [Hv10]; · iexact Hv10
    isplitl [Hr0] <;> iassumption
  iexact HO

end Cert.Proof.Hist

end
-- ==== Proof.Eqs.lean ====
/-
  The printed histogram kernel is the short program of `Rows`.
-/
module

public import proofs.«01_k».proof.Proof.Rows

@[expose] public section

set_option pp.deepTerms false
set_option pp.deepTerms.threshold 4
set_option pp.maxSteps 900

noncomputable section

namespace Cert.Proof.Hist

open Cert.KernelIdeal Cert.KernelIdeal.Gen
open Idealize.ShloMosaic Idealize.SL.Sem

variable {F : FTy → Type} [FloatOps F]

set_option maxHeartbeats 8000000 in
set_option maxRecDepth 4000 in
theorem histK_eq (i : grid1.Coords) (arg2 : Memref sig .scVector .hbm S96x512x512 .f32) (harg2 : arg2.IsWhole) (arg3 : Memref sig .scVector .hbm S96x512x512 .f32) (harg3 : arg3.IsWhole) (arg4 : Memref sig .scVector .hbm S32 .f32) (harg4 : arg4.IsWhole) (arg5 : Memref sig .scVector .hbm S32x1600 .f32) (harg5 : arg5.IsWhole) (arg6 : Memref sig .scVector .vmem S2x64x512 .f32) (harg6 : arg6.IsWhole) (arg7 : Memref sig .scVector .vmem S1600 .f32) (harg7 : arg7.IsWhole) (arg8 : Memref sig .scVector .vmem S32 .f32) (harg8 : arg8.IsWhole) (arg9 arg10 r0 r1 : DmaSems sig S_) :
    cc1__hist_k (F := F) i arg2 harg2 arg3 harg3 arg4 harg4 arg5 harg5 arg6 harg6 arg7 harg7 arg8 harg8 arg9 arg10 r0 r1
      = histK i arg2 arg3 arg4 harg4 arg5 arg6 arg7 harg7 arg8 harg8 arg9 arg10 r0 r1 := by
  unfold cc1__hist_k
  dsimp only [k1_part1, k1_part2, k1_part3, k1_part4, k1_part5, k1_part6, k1_part7, k1_part8, k1_part9, k1_part10, k1_part11, k1_part12, k1_part13, k1_part14, k1_part15, k1_part16, k1_part17, k1_part18, k1_part19, k1_part20, k1_part21, k1_part22, k1_part23, k1_part24, k1_part25, k1_part26, k1_part27, k1_part28, k1_part29, k1_part30, k1_part31, k1_part32, k1_part33, k1_part34, k1_part35, k1_part36, k1_part37, k1_part38, k1_part39, k1_part40, k1_part41, k1_part42, k1_part43, k1_part44, k1_part45, k1_part46, k1_part47, k1_part48, k1_part49, k1_part50, k1_part51, k1_part52, k1_part53, k1_part54, k1_part55, histK, pass, fetchIn, awaitIn, zeroAt, plane, slot0, slot1, histRow, histGroup, ld, ask, put, Prog.lift, Prog.bind_op, Prog.bind_ret, Prog.pure_eq_ret, SparseCore.vectorStoreIdx]
  simp only [Prog.bind_assoc, Prog.bind_op, Prog.bind_ret]
  rfl

end Cert.Proof.Hist

end
-- ==== Proof.EqsMm.lean ====
/-
  The printed extrema kernel is the short program of `Rows`.
-/
module

public import proofs.«01_k».proof.Proof.Rows

@[expose] public section

set_option pp.deepTerms false
set_option pp.deepTerms.threshold 4
set_option pp.maxSteps 900

noncomputable section

namespace Cert.Proof.Hist

open Cert.KernelIdeal Cert.KernelIdeal.Gen
open Idealize.ShloMosaic Idealize.SL.Sem

variable {F : FTy → Type} [FloatOps F]

set_option maxHeartbeats 8000000 in
set_option maxRecDepth 4000 in
theorem mmK_eq (i : grid0.Coords) (arg2 : Memref sig .scVector .hbm S96x512x512 .f32) (harg2 : arg2.IsWhole) (arg3 : Memref sig .scVector .hbm S96x512x512 .f32) (harg3 : arg3.IsWhole) (arg4 : Memref sig .scVector .hbm S32x16 .f32) (harg4 : arg4.IsWhole) (arg5 : Memref sig .scVector .hbm S32x16 .f32) (harg5 : arg5.IsWhole) (arg6 : Memref sig .scVector .vmem S2x64x512 .f32) (harg6 : arg6.IsWhole) (arg7 : Memref sig .scVector .vmem S16 .f32) (harg7 : arg7.IsWhole) (arg8 : Memref sig .scVector .vmem S16 .f32) (harg8 : arg8.IsWhole) (arg9 arg10 r0 r1 : DmaSems sig S_) :
    cc0__minmax_k (F := F) i arg2 harg2 arg3 harg3 arg4 harg4 arg5 harg5 arg6 harg6 arg7 harg7 arg8 harg8 arg9 arg10 r0 r1
      = mmK i arg2 arg3 arg4 arg5 arg6 arg7 harg7 arg8 harg8 arg9 arg10 r0 r1 := by
  unfold cc0__minmax_k
  dsimp only [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, mmK, pass, fetchIn, awaitIn, setv, accInit, accMin, accMax, lrow, plane, slot0, slot1, mmRow, mmGroup, ld, Prog.lift, Prog.bind_op, Prog.bind_ret, Prog.pure_eq_ret, SparseCore.vectorStoreIdx]
  simp only [Prog.bind_assoc, Prog.bind_op, Prog.bind_ret]
  rfl

end Cert.Proof.Hist

end
-- ==== Proof.Body.lean ====
/-
  What a tile is handed and hands back: the rows of the tables it writes, its share of the two arrays, its scratch and
  its transfers' cells; and the two tile programs run from that.
-/
module

public import proofs.«01_k».proof.Proof.Tiles
public import proofs.«01_k».proof.Proof.Eqs
public import proofs.«01_k».proof.Proof.EqsMm

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 2) (Elt F) ℕ UU ℕ

open Idealize.ShloMosaic.SparseCore.Cfg (ownBufs ownSems0 ownRefs ownCells mem_ownCells mem_ownRefs_of_owner)

/-! ## The tables' rows -/

/-- The entries whose row is `w`. -/
abbrev rowSet {z : Shape} (f : z.Idx → ℕ) (w : ℕ) : Finset z.Idx := Finset.univ.filter fun j => f j = w
/-- The entries whose row is of parity `n`. -/
abbrev parSet {z : Shape} (f : z.Idx → ℕ) (n : ℕ) : Finset z.Idx := Finset.univ.filter fun j => f j % 2 = n

theorem pts_cores {ℓ : Loc nD τ sig} {q : PosShare TreeShare} {g : Buf (Elt F) ℓ} (f : Idx ℓ → ℕ) :
    (ℓ ↦{q} g : sProp 𝕄) = bigSep (Finset.univ : Finset (Fin 2)) fun c => ℓ ↦[parSet f c.val]{q} g := by
  rw [← pointsTo_biUnion Finset.univ (ℓ := ℓ) (fun c : Fin 2 => parSet f c.val)]
  · congr 1
    refine (Finset.eq_univ_of_forall fun j => ?_).symm
    exact Finset.mem_biUnion.2 ⟨⟨f j % 2, Nat.mod_lt _ (by norm_num)⟩, Finset.mem_univ _, Finset.mem_filter.2 ⟨Finset.mem_univ _, rfl⟩⟩
  · intro a _ b _ h
    rw [Finset.disjoint_left]
    intro j ha hb
    exact h (Fin.ext ((Finset.mem_filter.1 ha).2.symm.trans (Finset.mem_filter.1 hb).2))

theorem pts_tiles {ℓ : Loc nD τ sig} {q : PosShare TreeShare} {g : Buf (Elt F) ℓ} (f : Idx ℓ → ℕ) (hf : ∀ j, f j < 32) {n : ℕ} (hn : n < 2) :
    (ℓ ↦[parSet f n]{q} g : sProp 𝕄) = bigSep (Finset.univ : Finset (Fin 16)) fun i => ℓ ↦[rowSet f (2 * i.val + n)]{q} g := by
  rw [← pointsTo_biUnion Finset.univ (ℓ := ℓ) (fun i : Fin 16 => rowSet f (2 * i.val + n))]
  · congr 1
    ext j
    have := hf j
    constructor
    · intro h
      have h := (Finset.mem_filter.1 h).2
      exact Finset.mem_biUnion.2 ⟨⟨f j / 2, by omega⟩, Finset.mem_univ _, Finset.mem_filter.2 ⟨Finset.mem_univ _, by show f j = 2 * (f j / 2) + n; omega⟩⟩
    · intro h
      obtain ⟨i, -, hi⟩ := Finset.mem_biUnion.1 h
      have hi := (Finset.mem_filter.1 hi).2
      exact Finset.mem_filter.2 ⟨Finset.mem_univ _, by omega⟩
  · intro a _ b _ h
    rw [Finset.disjoint_left]
    intro j ha hb
    have ha := (Finset.mem_filter.1 ha).2
    have hb := (Finset.mem_filter.1 hb).2
    exact h (Fin.ext (by omega))

/-! ## The shares -/

/-- SparseCore `n`'s share of an array. -/
def shC (n : Fin 2) : PosShare TreeShare := dealOf fullShare (Finset.univ : Finset (Fin 2)) n
/-- Its tile `k`'s. -/
def shT (n : Fin 2) (k : Fin 16) : PosShare TreeShare := dealOf (shC n) (Finset.univ : Finset (Fin 16)) k

theorem pts_shC {ℓ : Loc nD τ sig} {g : Buf (Elt F) ℓ} :
    (ℓ ↦{fullShare} g : sProp 𝕄) = bigSep (Finset.univ : Finset (Fin 2)) fun c => ℓ ↦{shC c} g :=
  pointsTo_deal Finset.univ Finset.univ_nonempty fullShare
theorem pts_shT {ℓ : Loc nD τ sig} {g : Buf (Elt F) ℓ} {n : Fin 2} :
    (ℓ ↦{shC n} g : sProp 𝕄) = bigSep (Finset.univ : Finset (Fin 16)) fun k => ℓ ↦{shT n k} g :=
  pointsTo_deal Finset.univ Finset.univ_nonempty (shC n)

/-! ## The tables -/

/-- The row of an entry of the extrema's tables, and of the counts' table. -/
abbrev row16 (j : S32x16.Idx) : ℕ := (j 0).val
abbrev row1600 (j : S32x1600.Idx) : ℕ := (j 0).val

theorem row16_lt (j : S32x16.Idx) : row16 j < 32 := (j 0).isLt
theorem row1600_lt (j : S32x1600.Idx) : row1600 j < 32 := (j 0).isLt

abbrev col16 (j : S32x16.Idx) : S16.Idx := fun | 0 => ⟨(j 1).val, (j 1).isLt⟩
abbrev col1600 (j : S32x1600.Idx) : S1600.Idx := fun | 0 => ⟨(j 1).val, (j 1).isLt⟩

variable [FloatOps F] {d : Dev nD} {c : Fin τ.nSC} {s : Fin τ.nSub} {α : Type}

def minsOf (Xp Xt : Vec F S96x512x512 .f32) : Vec F S32x16 .f32 := fun j => accMin (mmAcc Xp Xt (row16 j)) (col16 j)
def maxsOf (Xp Xt : Vec F S96x512x512 .f32) : Vec F S32x16 .f32 := fun j => accMax (mmAcc Xp Xt (row16 j)) (col16 j)
def histOf (Xp Xt : Vec F S96x512x512 .f32) (B : Vec F S32 .f32) : Vec F S32x1600 .f32 := fun j => histTile Xp Xt B (row1600 j) (col1600 j)

attribute [local irreducible] mmRun countRun mmAcc histTile

omit [FloatOps F] in
theorem off134_eq (i : grid1.Coords) : k0_off134 i = ![tileNo i, 0] := by
  have h0 : (i 0).val < 2 := (i 0).isLt
  have h1 : (i 1).val < 16 := (i 1).isLt
  unfold k0_off134 tileNo
  generalize (i 0).val = a at *
  generalize (i 1).val = b at *
  interval_cases a <;> interval_cases b <;> rfl

omit [FloatOps F] in
theorem off135_eq (i : grid1.Coords) : k1_off135 i = ![tileNo i, 0] := by
  have h0 : (i 0).val < 2 := (i 0).isLt
  have h1 : (i 1).val < 16 := (i 1).isLt
  unfold k1_off135 tileNo
  generalize (i 0).val = a at *
  generalize (i 1).val = b at *
  interval_cases a <;> interval_cases b <;> rfl

omit [FloatOps F] in
/-- A row of a table, as the tile names it. -/
theorem rect16_set (i : grid1.Coords) : (Rect.unit (s := S32x16) (k0_off134 i) S1x16.size (k0_off134_inb i)).set = rowSet row16 (tileNo i) := by
  ext j
  refine Rect.mem_set_unit.trans ?_
  rw [off134_eq]
  have h1 : (j 1).val < 16 := (j 1).isLt
  constructor
  · intro h
    have ha : tileNo i ≤ (j 0).val := (h 0).1
    have hb : (j 0).val < tileNo i + 1 := (h 0).2
    refine Finset.mem_filter.2 ⟨Finset.mem_univ _, ?_⟩
    show (j 0).val = _
    omega
  · intro h a
    have h : (j 0).val = tileNo i := (Finset.mem_filter.1 h).2
    match a with
    | 0 => exact ⟨h.ge, by show (j 0).val < tileNo i + 1; omega⟩
    | 1 => exact ⟨Nat.zero_le _, by show (j 1).val < 0 + 16; omega⟩

omit [FloatOps F] in
theorem rect1600_set (i : grid1.Coords) : (Rect.unit (s := S32x1600) (k1_off135 i) S1x1600.size (k1_off135_inb i)).set = rowSet row1600 (tileNo i) := by
  ext j
  refine Rect.mem_set_unit.trans ?_
  rw [off135_eq]
  have h1 : (j 1).val < 1600 := (j 1).isLt
  constructor
  · intro h
    have ha : tileNo i ≤ (j 0).val := (h 0).1
    have hb : (j 0).val < tileNo i + 1 := (h 0).2
    refine Finset.mem_filter.2 ⟨Finset.mem_univ _, ?_⟩
    show (j 0).val = _
    omega
  · intro h a
    have h : (j 0).val = tileNo i := (Finset.mem_filter.1 h).2
    match a with
    | 0 => exact ⟨h.ge, by show (j 0).val < tileNo i + 1; omega⟩
    | 1 => exact ⟨Nat.zero_le _, by show (j 1).val < 0 + 1600; omega⟩

omit [FloatOps F] in
/-- The row's entries by column. -/
theorem rect16_emb (i : grid1.Coords) (k : S16.Idx) (h) :
    row16 ((Rect.unit (s := S32x16) (k0_off134 i) S1x16.size (k0_off134_inb i)).emb (Shape.reshapeEquiv (s' := S16) h k)) = tileNo i
      ∧ col16 ((Rect.unit (s := S32x16) (k0_off134 i) S1x16.size (k0_off134_inb i)).emb (Shape.reshapeEquiv (s' := S16) h k)) = k := by
  have e : Shape.reshapeEquiv (s := S1x16) (s' := S16) h k = Fin.cons ⟨0, Nat.one_pos⟩ k := Shape.reshapeEquiv_cons_one h k
  rw [e]
  constructor
  · show k0_off134 i 0 + 1 * 0 = _
    rw [off134_eq]; rfl
  · funext a
    match a with
    | 0 =>
      apply Fin.ext
      show k0_off134 i 1 + 1 * (k 0).val = _
      rw [off134_eq]
      show 0 + 1 * (k 0).val = _
      omega

omit [FloatOps F] in
theorem rect1600_emb (i : grid1.Coords) (k : S1600.Idx) (h) :
    row1600 ((Rect.unit (s := S32x1600) (k1_off135 i) S1x1600.size (k1_off135_inb i)).emb (Shape.reshapeEquiv (s' := S1600) h k)) = tileNo i
      ∧ col1600 ((Rect.unit (s := S32x1600) (k1_off135 i) S1x1600.size (k1_off135_inb i)).emb (Shape.reshapeEquiv (s' := S1600) h k)) = k := by
  have e : Shape.reshapeEquiv (s := S1x1600) (s' := S1600) h k = Fin.cons ⟨0, Nat.one_pos⟩ k := Shape.reshapeEquiv_cons_one h k
  rw [e]
  constructor
  · show k1_off135 i 0 + 1 * 0 = _
    rw [off135_eq]; rfl
  · funext a
    match a with
    | 0 =>
      apply Fin.ext
      show k1_off135 i 1 + 1 * (k 0).val = _
      rw [off135_eq]
      show 0 + 1 * (k 0).val = _
      omega

/-! ## The rows as the tiles hold them -/

abbrev L0 (d : Dev nD) : Loc nD τ sig := (SparseCore.T d).loc main_v0
abbrev L1 (d : Dev nD) : Loc nD τ sig := (SparseCore.T d).loc main_v1
abbrev LA (d : Dev nD) : Loc nD τ sig := (SparseCore.T d).loc main_v2_0
abbrev LB (d : Dev nD) : Loc nD τ sig := (SparseCore.T d).loc main_v2_1
abbrev L9 (d : Dev nD) : Loc nD τ sig := (SparseCore.T d).loc main_v9
abbrev L10 (d : Dev nD) : Loc nD τ sig := (SparseCore.T d).loc main_v10

abbrev mA (i : grid1.Coords) : Memref sig .scVector .hbm S16 .f32 := lrow i (Memref.whole main_v2_0_scv)
abbrev mB (i : grid1.Coords) : Memref sig .scVector .hbm S16 .f32 := lrow i (Memref.whole main_v2_1_scv)
abbrev mH (i : grid1.Coords) : Memref sig .scVector .hbm S1600 .f32 := hrow i (Memref.whole main_v10_scv)

omit [FloatOps F] in
theorem mA_set (i : grid1.Coords) : (mA i).view.set = rowSet row16 (tileNo i) :=
  ((View.set_reshape _ _).trans (View.set_slice_whole _ _)).trans (rect16_set i)
omit [FloatOps F] in
theorem mB_set (i : grid1.Coords) : (mB i).view.set = rowSet row16 (tileNo i) :=
  ((View.set_reshape _ _).trans (View.set_slice_whole _ _)).trans (rect16_set i)
omit [FloatOps F] in
theorem mH_set (i : grid1.Coords) : (mH i).view.set = rowSet row1600 (tileNo i) :=
  ((View.set_reshape _ _).trans (View.set_slice_whole _ _)).trans (rect1600_set i)

theorem mA_held {i : grid1.Coords} {v : Vec F S32x16 .f32} {x : Vec F S16 .f32} (hv : ∀ j, row16 j = tileNo i → v j = x (col16 j)) :
    heldAt d c s (mA i) x ⊢ (LA d ↦[rowSet row16 (tileNo i)]{fullShare} v : sProp 𝕄) := by
  unfold heldAt
  iintro ⟨%f, %hf, H⟩
  rw [mA_set]
  refine Entails.of_eq (pointsTo_congr (ℓ := LA d) fun j hj => ?_)
  obtain ⟨k, -, rfl⟩ := Finset.mem_map.1 ((mA_set i).symm ▸ hj)
  exact (congrFun hf k).trans ((hv _ (rect16_emb i k _).1).trans (congrArg x (rect16_emb i k _).2)).symm

theorem mB_held {i : grid1.Coords} {v : Vec F S32x16 .f32} {x : Vec F S16 .f32} (hv : ∀ j, row16 j = tileNo i → v j = x (col16 j)) :
    heldAt d c s (mB i) x ⊢ (LB d ↦[rowSet row16 (tileNo i)]{fullShare} v : sProp 𝕄) := by
  unfold heldAt
  iintro ⟨%f, %hf, H⟩
  rw [mB_set]
  refine Entails.of_eq (pointsTo_congr (ℓ := LB d) fun j hj => ?_)
  obtain ⟨k, -, rfl⟩ := Finset.mem_map.1 ((mB_set i).symm ▸ hj)
  exact (congrFun hf k).trans ((hv _ (rect16_emb i k _).1).trans (congrArg x (rect16_emb i k _).2)).symm

theorem mH_held {i : grid1.Coords} {v : Vec F S32x1600 .f32} {x : Vec F S1600 .f32} (hv : ∀ j, row1600 j = tileNo i → v j = x (col1600 j)) :
    heldAt d c s (mH i) x ⊢ (L10 d ↦[rowSet row1600 (tileNo i)]{fullShare} v : sProp 𝕄) := by
  unfold heldAt
  iintro ⟨%f, %hf, H⟩
  rw [mH_set]
  refine Entails.of_eq (pointsTo_congr (ℓ := L10 d) fun j hj => ?_)
  obtain ⟨k, -, rfl⟩ := Finset.mem_map.1 ((mH_set i).symm ▸ hj)
  exact (congrFun hf k).trans ((hv _ (rect1600_emb i k _).1).trans (congrArg x (rect1600_emb i k _).2)).symm

/-! ## A tile's own scratch and cells -/

omit [FloatOps F] in
theorem bigSep_three {I : Type} [DecidableEq I] {S : Finset I} {a b e : I} (ha : a ∈ S) (hb : b ∈ S) (he : e ∈ S) (hba : b ≠ a) (hea : e ≠ a) (heb : e ≠ b)
    (Φ : I → sProp 𝕄) : bigSep S Φ = iprop(Φ a ∗ Φ b ∗ Φ e ∗ bigSep (((S.erase a).erase b).erase e) Φ) := by
  rw [SparseCore.bigSep_erase' ha, SparseCore.bigSep_erase' (Finset.mem_erase.2 ⟨hba, hb⟩),
    SparseCore.bigSep_erase' (Finset.mem_erase.2 ⟨heb, Finset.mem_erase.2 ⟨hea, he⟩⟩)]

omit [FloatOps F] in
theorem bigSep_four {I : Type} [DecidableEq I] {S : Finset I} {a b e f : I} (ha : a ∈ S) (hb : b ∈ S) (he : e ∈ S) (hf : f ∈ S)
    (hba : b ≠ a) (hea : e ≠ a) (heb : e ≠ b) (hfa : f ≠ a) (hfb : f ≠ b) (hfe : f ≠ e)
    (Φ : I → sProp 𝕄) : bigSep S Φ = iprop(Φ a ∗ Φ b ∗ Φ e ∗ Φ f ∗ bigSep ((((S.erase a).erase b).erase e).erase f) Φ) := by
  rw [bigSep_three ha hb he hba hea heb,
    SparseCore.bigSep_erase' (i := f) (Finset.mem_erase.2 ⟨hfe, Finset.mem_erase.2 ⟨hfb, Finset.mem_erase.2 ⟨hfa, hf⟩⟩⟩)]

abbrev own (c : Fin τ.nSC) (s : Fin τ.nSub) (b : Ref sig .scVector) : DevRef τ sig := (Proc.scVector c s).devRef b
abbrev cell (d : Dev nD) (c : Fin τ.nSC) (s : Fin τ.nSub) (m : DmaSems sig S_) : GSem nD τ sig := (V d c s, SemLoc.dma m.sem)

omit [FloatOps F] in
theorem ownBufs_three {b0 b1 b2 : Ref sig .scVector} (h0 : (own c s b0).owner = .proc (.scVector c s)) (h1 : (own c s b1).owner = .proc (.scVector c s))
    (h2 : (own c s b2).owner = .proc (.scVector c s)) (h10 : b1 ≠ b0) (h20 : b2 ≠ b0) (h21 : b2 ≠ b1) :
    ∃ R : sProp 𝕄, (ownBufs (V d c s) : sProp 𝕄) = iprop((∃ f, (V d c s).loc b0 ↦{fullShare} f) ∗ (∃ f, (V d c s).loc b1 ↦{fullShare} f)
      ∗ (∃ f, (V d c s).loc b2 ↦{fullShare} f) ∗ R) :=
  ⟨_, bigSep_three (mem_ownRefs_of_owner h0) (mem_ownRefs_of_owner h1) (mem_ownRefs_of_owner h2) (fun e => h10 (Proc.devRef_injective _ e))
    (fun e => h20 (Proc.devRef_injective _ e)) (fun e => h21 (Proc.devRef_injective _ e)) fun b => iprop(∃ f, ((d, b) : Loc nD τ sig) ↦{fullShare} f)⟩

omit [FloatOps F] in
theorem cell_ne {m n : DmaSems sig S_} (h : (SemLoc.dma m.sem : SemLoc sig) ≠ SemLoc.dma n.sem) : cell d c s m ≠ cell d c s n :=
  fun e => h (Prod.mk.inj e).2

omit [FloatOps F] in
theorem ownSems_four {m0 m1 m2 m3 : DmaSems sig S_} (h0 : (SemLoc.dma m0.sem : SemLoc sig).isScoped .scVector = true)
    (h1 : (SemLoc.dma m1.sem : SemLoc sig).isScoped .scVector = true) (h2 : (SemLoc.dma m2.sem : SemLoc sig).isScoped .scVector = true)
    (h3 : (SemLoc.dma m3.sem : SemLoc sig).isScoped .scVector = true)
    (h10 : (SemLoc.dma m1.sem : SemLoc sig) ≠ SemLoc.dma m0.sem) (h20 : (SemLoc.dma m2.sem : SemLoc sig) ≠ SemLoc.dma m0.sem)
    (h21 : (SemLoc.dma m2.sem : SemLoc sig) ≠ SemLoc.dma m1.sem) (h30 : (SemLoc.dma m3.sem : SemLoc sig) ≠ SemLoc.dma m0.sem)
    (h31 : (SemLoc.dma m3.sem : SemLoc sig) ≠ SemLoc.dma m1.sem) (h32 : (SemLoc.dma m3.sem : SemLoc sig) ≠ SemLoc.dma m2.sem) :
    ∃ R : sProp 𝕄, (ownSems0 (V d c s) : sProp 𝕄) = iprop(rest d c s m0 ∗ rest d c s m1 ∗ rest d c s m2 ∗ rest d c s m3 ∗ R) :=
  ⟨_, bigSep_four ((mem_ownCells (g := cell d c s m0)).mpr ⟨rfl, h0⟩) ((mem_ownCells (g := cell d c s m1)).mpr ⟨rfl, h1⟩)
    ((mem_ownCells (g := cell d c s m2)).mpr ⟨rfl, h2⟩) ((mem_ownCells (g := cell d c s m3)).mpr ⟨rfl, h3⟩)
    (cell_ne h10) (cell_ne h20) (cell_ne h21) (cell_ne h30) (cell_ne h31) (cell_ne h32) fun g => semVal g 0⟩

/-! ## The tile programs from what they are handed -/

abbrev m0 : Memref sig .scVector .hbm S96x512x512 .f32 := Memref.whole main_v0_scv
abbrev m9 : Memref sig .scVector .hbm S32 .f32 := Memref.whole main_v9_scv
abbrev m1 : Memref sig .scVector .hbm S96x512x512 .f32 := Memref.whole main_v1_scv

/-- The processor at a grid point. -/
abbrev cV (i : grid1.Coords) : Fin τ.nSC := Fin.castLE hcore1 (i 0)
abbrev sV (i : grid1.Coords) : Fin τ.nSub := Fin.castLE hsub1 (i 1)

omit [FloatOps F] in
theorem someAt_whole {sp : Space} {z : Shape} {m : Memref sig .scVector sp z .f32} (hm : m.IsWhole) :
    (someAt d c s m : sProp 𝕄) = iprop(∃ f, m.view.loc (V d c s) ↦{fullShare} f) := by
  unfold someAt; rw [Memref.IsWhole.set_eq_univ hm]

theorem mm_body (hF : (K (F := F)).Facts) (i : grid1.Coords) {q : PosShare TreeShare} {f0 f1 : Vec F S96x512x512 .f32} {A B : Vec F S32x16 .f32}
    {O : CellTallies nD τ sig (HIx 2)} {W : Waits sig (HIx 2)} (hO : ∀ g, O g none = 0) :
    iprop(levAts (K (F := F)).L (K (F := F)).lev ∗ ((L0 d ↦{q} f0) ∗ (L1 d ↦{q} f1) ∗ (LA d ↦[rowSet row16 (tileNo i)]{fullShare} A)
        ∗ (LB d ↦[rowSet row16 (tileNo i)]{fullShare} B)) ∗ scopedBufs (V d (cV i) (sV i)) ∗ scopedSems0 (V d (cV i) (sV i)) ∗ owes (V d (cV i) (sV i)) O W)
      ⊢ twp d (cV i) (sV i) (cc0__minmax_k (F := F) i m0 (Memref.isWhole_whole _) m1 (Memref.isWhole_whole _) (Memref.whole main_v2_0_scv) (Memref.isWhole_whole _)
          (Memref.whole main_v2_1_scv) (Memref.isWhole_whole _) (Memref.whole cc0_scratch0) (Memref.isWhole_whole _) (Memref.whole cc0_scratch1) (Memref.isWhole_whole _)
          (Memref.whole cc0_scratch2) (Memref.isWhole_whole _) cc0_scratch3 cc0_scratch4 cc0_scoped0 cc0_scoped1)
        fun _ => iprop(((L0 d ↦{q} f0) ∗ (L1 d ↦{q} f1) ∗ (LA d ↦[rowSet row16 (tileNo i)]{fullShare} minsOf f0 f1)
          ∗ (LB d ↦[rowSet row16 (tileNo i)]{fullShare} maxsOf f0 f1)) ∗ scopedBufs (V d (cV i) (sV i)) ∗ scopedSems0 (V d (cV i) (sV i)) ∗ owesW d (cV i) (sV i) O W) := by
  obtain ⟨R, hR⟩ := ownBufs_three (F := F) (d := d) (c := cV i) (s := sV i) (b0 := cc0_scratch0) (b1 := cc0_scratch1) (b2 := cc0_scratch2) rfl rfl rfl (by decide) (by decide) (by decide)
  obtain ⟨R', hR'⟩ := ownSems_four (F := F) (d := d) (c := cV i) (s := sV i) (m0 := cc0_scratch3) (m1 := cc0_scratch4) (m2 := cc0_scoped0) (m3 := cc0_scoped1)
    (by decide) (by decide) (by decide) (by decide) (by decide) (by decide) (by decide) (by decide) (by decide) (by decide)
  rw [(K (F := F)).scopedBufs_V hF d (cV i) (sV i), SparseCore.Cfg.scopedSems0_V (Val := Elt F) d (cV i) (sV i), hR, hR', mmK_eq]
  iintro ⟨#Hlv, ⟨H0, H1, HA, HB⟩, ⟨Hb0, Hb1, Hb2, HR⟩, ⟨Hv0, Hv1, Hv2, Hv3, HR'⟩, HO⟩
  ihave Hmw := ((K (F := F)).mayWaits_none (thr := V d (cV i) (sV i)) hO) $$ Hlv
  ihave Hp := (arr_split (d := d) (c := cV i) (s := sV i) (m := m0) (Memref.isWhole_whole _) (q := q) (f := f0) (X := f0) rfl) $$ H0
  ihave Ht := (arr_split (d := d) (c := cV i) (s := sV i) (m := m1) (Memref.isWhole_whole _) (q := q) (f := f1) (X := f1) rfl) $$ H1
  ihave Hw := (wp_mmK (d := d) (c := cV i) (s := sV i) (i := i) (q0 := half q 0) (q1 := half q 1) (Xp := f0) (Xt := f1) (O := O) (W := W)
    (arg2 := m0) (arg3 := m1) (arg4 := Memref.whole main_v2_0_scv) (arg5 := Memref.whole main_v2_1_scv) (arg6 := Memref.whole cc0_scratch0) (arg7 := Memref.whole cc0_scratch1) (arg8 := Memref.whole cc0_scratch2)
    (h7 := Memref.isWhole_whole _) (h8 := Memref.isWhole_whole _) (arg9 := cc0_scratch3) (arg10 := cc0_scratch4) (r0 := cc0_scoped0) (r1 := cc0_scoped1)) $$ [Hmw Hp Ht HA HB Hb0 Hb1 Hb2 Hv0 Hv1 Hv2 Hv3 HO]
  · isplitr; · iexact Hmw
    isplitl [Hp]; · iexact Hp
    isplitl [Ht]; · iexact Ht
    isplitl [HA HB]
    · isplitl [HA]
      · iexists A; rw [mA_set]; iexact HA
      · iexists B; rw [mB_set]; iexact HB
    isplitl [Hb0 Hb1 Hb2]
    · isplitl [Hb0]; · rw [someAt_whole (Memref.isWhole_whole _)]; iexact Hb0
      isplitl [Hb1]; · rw [someAt_whole (Memref.isWhole_whole _)]; iexact Hb1
      rw [someAt_whole (Memref.isWhole_whole _)]; iexact Hb2
    isplitl [Hv0 Hv1 Hv2 Hv3]
    · isplitl [Hv0]; · iexact Hv0
      isplitl [Hv1]; · iexact Hv1
      isplitl [Hv2]; · iexact Hv2
      iexact Hv3
    iexists W
    isplitr
    · ipureintro; exact fun p hp => .inl hp
    · iexact HO
  iapply (wp_wand _ _ _) $$ Hw
  iintro %_ ⟨Hp, Ht, ⟨HA, HB⟩, ⟨Hb0, Hb1, Hb2⟩, ⟨Hv0, Hv1, Hv2, Hv3⟩, HO⟩
  ihave H0 := (arr_join (d := d) (c := cV i) (s := sV i) (m := m0) (Memref.isWhole_whole _) (q := q) (f := f0) (X := f0) fun g h => h) $$ Hp
  ihave H1 := (arr_join (d := d) (c := cV i) (s := sV i) (m := m1) (Memref.isWhole_whole _) (q := q) (f := f1) (X := f1) fun g h => h) $$ Ht
  ihave HA := (mA_held (v := minsOf f0 f1) fun j hj => by unfold minsOf; rw [hj]) $$ HA
  ihave HB := (mB_held (v := maxsOf f0 f1) fun j hj => by unfold maxsOf; rw [hj]) $$ HB
  isplitl [H0 H1 HA HB]
  · isplitl [H0]; · iexact H0
    isplitl [H1]; · iexact H1
    isplitl [HA] <;> iassumption
  isplitl [Hb0 Hb1 Hb2 HR]
  · isplitl [Hb0]; · ihave Hb0 := (Entails.of_eq (someAt_whole (Memref.isWhole_whole _))) $$ Hb0; iexact Hb0
    isplitl [Hb1]; · ihave Hb1 := (Entails.of_eq (someAt_whole (Memref.isWhole_whole _))) $$ Hb1; iexact Hb1
    isplitl [Hb2]; · ihave Hb2 := (Entails.of_eq (someAt_whole (Memref.isWhole_whole _))) $$ Hb2; iexact Hb2
    iexact HR
  isplitl [Hv0 Hv1 Hv2 Hv3 HR']
  · isplitl [Hv0]; · iexact Hv0
    isplitl [Hv1]; · iexact Hv1
    isplitl [Hv2]; · iexact Hv2
    isplitl [Hv3]; · iexact Hv3
    iexact HR'
  iexact HO

theorem hist_body (hF : (K (F := F)).Facts) (i : grid1.Coords) {q : PosShare TreeShare} {f0 f1 : Vec F S96x512x512 .f32} {f9 : Vec F S32 .f32} {C : Vec F S32x1600 .f32}
    {O : CellTallies nD τ sig (HIx 2)} {W : Waits sig (HIx 2)} (hO : ∀ g, O g none = 0) :
    iprop(levAts (K (F := F)).L (K (F := F)).lev ∗ ((L0 d ↦{q} f0) ∗ (L1 d ↦{q} f1) ∗ (L9 d ↦{q} f9)
        ∗ (L10 d ↦[rowSet row1600 (tileNo i)]{fullShare} C)) ∗ scopedBufs (V d (cV i) (sV i)) ∗ scopedSems0 (V d (cV i) (sV i)) ∗ owes (V d (cV i) (sV i)) O W)
      ⊢ twp d (cV i) (sV i) (cc1__hist_k (F := F) i m0 (Memref.isWhole_whole _) m1 (Memref.isWhole_whole _) m9 (Memref.isWhole_whole _)
          (Memref.whole main_v10_scv) (Memref.isWhole_whole _) (Memref.whole cc1_scratch0) (Memref.isWhole_whole _) (Memref.whole cc1_scratch1) (Memref.isWhole_whole _)
          (Memref.whole cc1_scratch2) (Memref.isWhole_whole _) cc1_scratch3 cc1_scratch4 cc1_scoped0 cc1_scoped1)
        fun _ => iprop(((L0 d ↦{q} f0) ∗ (L1 d ↦{q} f1) ∗ (L9 d ↦{q} f9)
          ∗ (L10 d ↦[rowSet row1600 (tileNo i)]{fullShare} histOf f0 f1 f9)) ∗ scopedBufs (V d (cV i) (sV i)) ∗ scopedSems0 (V d (cV i) (sV i)) ∗ owesW d (cV i) (sV i) O W) := by
  obtain ⟨R, hR⟩ := ownBufs_three (F := F) (d := d) (c := cV i) (s := sV i) (b0 := cc1_scratch0) (b1 := cc1_scratch1) (b2 := cc1_scratch2) rfl rfl rfl (by decide) (by decide) (by decide)
  obtain ⟨R', hR'⟩ := ownSems_four (F := F) (d := d) (c := cV i) (s := sV i) (m0 := cc1_scratch3) (m1 := cc1_scratch4) (m2 := cc1_scoped0) (m3 := cc1_scoped1)
    (by decide) (by decide) (by decide) (by decide) (by decide) (by decide) (by decide) (by decide) (by decide) (by decide)
  rw [(K (F := F)).scopedBufs_V hF d (cV i) (sV i), SparseCore.Cfg.scopedSems0_V (Val := Elt F) d (cV i) (sV i), hR, hR', histK_eq]
  iintro ⟨#Hlv, ⟨H0, H1, H9, HC⟩, ⟨Hb0, Hb1, Hb2, HR⟩, ⟨Hv0, Hv1, Hv2, Hv3, HR'⟩, HO⟩
  ihave Hmw := ((K (F := F)).mayWaits_none (thr := V d (cV i) (sV i)) hO) $$ Hlv
  ihave Hp := (arr_split (d := d) (c := cV i) (s := sV i) (m := m0) (Memref.isWhole_whole _) (q := q) (f := f0) (X := f0) rfl) $$ H0
  ihave Ht := (arr_split (d := d) (c := cV i) (s := sV i) (m := m1) (Memref.isWhole_whole _) (q := q) (f := f1) (X := f1) rfl) $$ H1
  ihave Hw := (wp_histK (d := d) (c := cV i) (s := sV i) (i := i) (q0 := half q 0) (q1 := half q 1) (q2 := q) (fb := f9) (Xp := f0) (Xt := f1) (O := O) (W := W)
    (arg2 := m0) (arg3 := m1) (arg4 := m9) (arg5 := Memref.whole main_v10_scv) (arg6 := Memref.whole cc1_scratch0) (arg8 := Memref.whole cc1_scratch2)
    (h4 := Memref.isWhole_whole _) (h7 := Memref.isWhole_whole _) (h8 := Memref.isWhole_whole _) (arg9 := cc1_scratch3) (arg10 := cc1_scratch4) (r0 := cc1_scoped0) (r1 := cc1_scoped1)) $$ [Hmw Hp Ht H9 HC Hb0 Hb1 Hb2 Hv0 Hv1 Hv2 Hv3 HO]
  · isplitr; · iexact Hmw
    isplitl [Hp]; · iexact Hp
    isplitl [Ht]; · iexact Ht
    isplitl [H9]
    · rw [Memref.IsWhole.set_eq_univ (Memref.isWhole_whole _)]; iexact H9
    isplitl [HC]
    · iexists C; rw [mH_set]; iexact HC
    isplitl [Hb0 Hb1 Hb2]
    · isplitl [Hb0]; · rw [someAt_whole (Memref.isWhole_whole _)]; iexact Hb0
      isplitl [Hb1]; · iexact Hb1
      rw [someAt_whole (Memref.isWhole_whole _)]; iexact Hb2
    isplitl [Hv0 Hv1 Hv2 Hv3]
    · isplitl [Hv0]; · iexact Hv0
      isplitl [Hv1]; · iexact Hv1
      isplitl [Hv2]; · iexact Hv2
      iexact Hv3
    iexists W
    isplitr
    · ipureintro; exact fun p hp => .inl hp
    · iexact HO
  iapply (wp_wand _ _ _) $$ Hw
  iintro %_ ⟨Hp, Ht, H9, HC, ⟨Hb0, Hb1, Hb2⟩, ⟨Hv0, Hv1, Hv2, Hv3⟩, HO⟩
  ihave H0 := (arr_join (d := d) (c := cV i) (s := sV i) (m := m0) (Memref.isWhole_whole _) (q := q) (f := f0) (X := f0) fun g h => h) $$ Hp
  ihave H1 := (arr_join (d := d) (c := cV i) (s := sV i) (m := m1) (Memref.isWhole_whole _) (q := q) (f := f1) (X := f1) fun g h => h) $$ Ht
  ihave HC := (mH_held (v := histOf f0 f1 f9) fun j hj => by unfold histOf; rw [hj]; rfl) $$ HC
  isplitl [H0 H1 H9 HC]
  · isplitl [H0]; · iexact H0
    isplitl [H1]; · iexact H1
    isplitl [H9]
    · rw [Memref.IsWhole.set_eq_univ (Memref.isWhole_whole _)]; iexact H9
    iexact HC
  isplitl [Hb0 Hb1 Hb2 HR]
  · isplitl [Hb0]; · ihave Hb0 := (Entails.of_eq (someAt_whole (Memref.isWhole_whole _))) $$ Hb0; iexact Hb0
    isplitl [Hb1]; · iexact Hb1
    isplitl [Hb2]; · ihave Hb2 := (Entails.of_eq (someAt_whole (Memref.isWhole_whole _))) $$ Hb2; iexact Hb2
    iexact HR
  isplitl [Hv0 Hv1 Hv2 Hv3 HR']
  · isplitl [Hv0]; · iexact Hv0
    isplitl [Hv1]; · iexact Hv1
    isplitl [Hv2]; · iexact Hv2
    isplitl [Hv3]; · iexact Hv3
    iexact HR'
  iexact HO

end Cert.Proof.Hist

end
-- ==== Proof.Launch.lean ====
/-
  The launch: what each call hands the SparseCores and their tiles and what comes back, the host program between the
  calls, and the whole run, with every array's last contents.
-/
module

public import proofs.«01_k».proof.Proof.Body
public import Idealize.ShloMosaic.Lib.SparseCore.Threads
public import Idealize.ShloMosaic.Lib.Pipeline.Frame

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 2) (Elt F) ℕ UU ℕ

open Idealize.ShloMosaic.StableHlo (held held_congr seq after wp_seq after_nil after_cons)
open Idealize.ShloMosaic.Pipeline (ucRefs unscopedBufs_held)

variable [FloatOps F]

attribute [local irreducible] mmRun countRun mmAcc histTile minsOf maxsOf histOf

/-! ## The host program's straight lines -/

def ops1 : List (HloOp τ sig (Elt F)) :=
  [StableHlo.reshape main_arg0 main_v0 (rfl : (.f32 : EltTy) = .f32) shapeCasts_S32x3x512x512_S96x512x512,
   StableHlo.reshape main_arg1 main_v1 (rfl : (.f32 : EltTy) = .f32) shapeCasts_S32x3x512x512_S96x512x512]

def ops2 : List (HloOp τ sig (Elt F)) :=
  [StableHlo.nullary main_cst (constant S_ .f32 0x7F800000#32),
   StableHlo.binary main_v2_0 main_cst main_v3 (fun x v => Host.reduce FloatOps.minimumf x v reducesTo_S32x16_S_d0_1 h_S_),
   StableHlo.nullary main_cst_0 (constant S_ .f32 0x3DCCCCCD#32),
   StableHlo.binary main_v3 main_cst_0 main_v4 addf,
   StableHlo.nullary main_cst_1 (constant S_ .f32 0xFF800000#32),
   StableHlo.binary main_v2_1 main_cst_1 main_v5 (fun x v => Host.reduce FloatOps.maximumf x v reducesTo_S32x16_S_d0_1 h_S_),
   StableHlo.binary main_v5 main_v4 main_v6 subf,
   StableHlo.unary main_v4 main_v7 (broadcastInDim S16 ![] bcast_S_S16),
   StableHlo.unary main_v6 main_v8 (broadcastInDim S16 ![] bcast_S_S16),
   StableHlo.binary main_v7 main_v8 main_v9 (fun a b => concatenate S32 0 [⟨S16, a⟩, ⟨S16, b⟩] concatenates_S16_S16_S32_d0)]

def ops3 : List (HloOp τ sig (Elt F)) :=
  [StableHlo.reshape main_v10 main_v11 (rfl : (.f32 : EltTy) = .f32) shapeCasts_S32x1600_S32x100x16,
   StableHlo.nullary main_cst_2 (constant S_ .f32 0x00000000#32),
   StableHlo.binary main_v11 main_cst_2 main_v12 (fun x v => Host.reduceAdd x v reducesTo_S32x100x16_S100_d0_2 h_S_),
   StableHlo.unary main_v12 main_v13 Host.absf,
   StableHlo.nullary main_cst_3 (constant S_ .f32 0x00000000#32),
   StableHlo.binary main_v13 main_cst_3 main_v14 (fun x v => Host.reduceAdd x v reducesTo_S100_S_d0 h_S_),
   StableHlo.nullary main_cst_4 (constant S_ .f32 0x42C80000#32),
   StableHlo.binary main_v14 main_cst_4 main_v15 Host.divf]

theorem main_eq (d : Dev nD) : main (F := F) d
    = seq ops1 >>= fun _ => sc.run d 0 >>= fun _ => seq ops2 >>= fun _ => sc.run d 1 >>= fun _ => seq ops3 >>= fun _ => pure ⟨⟩ := by
  unfold main ops1 ops2 ops3
  simp only [seq, bind_assoc, pure_bind]
  rfl

/-- An operation's buffers are the TensorCore's own, none a scratch, and it makes none. -/
def Plain (op : HloOp τ sig (Elt F)) : Prop := op.bufs ⊆ ucRefs τ sig ∧ op.fresh = ∅

theorem plain_of {op : HloOp τ sig (Elt F)} (h : op.bufs ⊆ StableHlo.tcRefs τ sig) (hf : op.fresh = ∅) : Plain op := ⟨Pipeline.sub_ucRefs op h, hf⟩

theorem ops1_plain : ∀ op ∈ ops1 (F := F), Plain op := by
  unfold ops1
  simp only [List.forall_mem_cons, List.not_mem_nil, false_imp_iff, implies_true, and_true]
  exact ⟨plain_of (StableHlo.reshape_bufs_sub ..) rfl, plain_of (StableHlo.reshape_bufs_sub ..) rfl⟩
theorem ops2_plain : ∀ op ∈ ops2 (F := F), Plain op := by
  unfold ops2
  simp only [List.forall_mem_cons, List.not_mem_nil, false_imp_iff, implies_true, and_true]
  exact ⟨plain_of (StableHlo.nullary_bufs_sub ..) rfl,
    plain_of (StableHlo.binary_bufs_sub ..) rfl,
    plain_of (StableHlo.nullary_bufs_sub ..) rfl,
    plain_of (StableHlo.binary_bufs_sub ..) rfl,
    plain_of (StableHlo.nullary_bufs_sub ..) rfl,
    plain_of (StableHlo.binary_bufs_sub ..) rfl,
    plain_of (StableHlo.binary_bufs_sub ..) rfl,
    plain_of (StableHlo.unary_bufs_sub ..) rfl,
    plain_of (StableHlo.unary_bufs_sub ..) rfl,
    plain_of (StableHlo.binary_bufs_sub ..) rfl⟩
theorem ops3_plain : ∀ op ∈ ops3 (F := F), Plain op := by
  unfold ops3
  simp only [List.forall_mem_cons, List.not_mem_nil, false_imp_iff, implies_true, and_true]
  exact ⟨plain_of (StableHlo.reshape_bufs_sub ..) rfl,
    plain_of (StableHlo.nullary_bufs_sub ..) rfl,
    plain_of (StableHlo.binary_bufs_sub ..) rfl,
    plain_of (StableHlo.unary_bufs_sub ..) rfl,
    plain_of (StableHlo.nullary_bufs_sub ..) rfl,
    plain_of (StableHlo.binary_bufs_sub ..) rfl,
    plain_of (StableHlo.nullary_bufs_sub ..) rfl,
    plain_of (StableHlo.binary_bufs_sub ..) rfl⟩

/-! ## The arrays' contents through the run -/

abbrev rv0 : DevRef τ sig := Proc.devRef .tc (main_v0 : Ref sig .tc)
abbrev rv1 : DevRef τ sig := Proc.devRef .tc (main_v1 : Ref sig .tc)
abbrev rvA : DevRef τ sig := Proc.devRef .tc (main_v2_0 : Ref sig .tc)
abbrev rvB : DevRef τ sig := Proc.devRef .tc (main_v2_1 : Ref sig .tc)
abbrev rv9 : DevRef τ sig := Proc.devRef .tc (main_v9 : Ref sig .tc)
abbrev rv10 : DevRef τ sig := Proc.devRef .tc (main_v10 : Ref sig .tc)
abbrev rx0 : DevRef τ sig := Proc.devRef .tc (main_arg0 : Ref sig .tc)
abbrev rx1 : DevRef τ sig := Proc.devRef .tc (main_arg1 : Ref sig .tc)
abbrev rv15 : DevRef τ sig := Proc.devRef .tc (main_v15 : Ref sig .tc)

variable (m : (ℓ : Loc nD τ sig) → Buf (Elt F) ℓ) (ρ : Dev nD → PrngReg)

def V0 (d : Dev nD) : Valuation τ sig (Elt F) := fun b => m (d, b)
def W1 (d : Dev nD) : Valuation τ sig (Elt F) := after ops1 (V0 m d)
def minsAt (d : Dev nD) : Vec F S32x16 .f32 := minsOf (W1 m d rv0) (W1 m d rv1)
def maxsAt (d : Dev nD) : Vec F S32x16 .f32 := maxsOf (W1 m d rv0) (W1 m d rv1)
def W2 (d : Dev nD) : Valuation τ sig (Elt F) := Function.update (Function.update (W1 m d) rvA (minsAt m d)) rvB (maxsAt m d)
def W3 (d : Dev nD) : Valuation τ sig (Elt F) := after ops2 (W2 m d)
def histAt (d : Dev nD) : Vec F S32x1600 .f32 := histOf (W3 m d rv0) (W3 m d rv1) (W3 m d rv9)
def W4 (d : Dev nD) : Valuation τ sig (Elt F) := Function.update (W3 m d) rv10 (histAt m d)
def W5 (d : Dev nD) : Valuation τ sig (Elt F) := after ops3 (W4 m d)

theorem W2_of_ne (d : Dev nD) {b : DevRef τ sig} (hA : b ≠ rvA) (hB : b ≠ rvB) : W2 m d b = W1 m d b := by
  unfold W2; rw [Function.update_of_ne hB, Function.update_of_ne hA]
theorem W2_A (d : Dev nD) : W2 m d rvA = minsAt m d := by
  unfold W2; rw [Function.update_of_ne (show rvA ≠ rvB by decide), Function.update_self]
theorem W2_B (d : Dev nD) : W2 m d rvB = maxsAt m d := Function.update_self _ _ _
theorem W4_of_ne (d : Dev nD) {b : DevRef τ sig} (h : b ≠ rv10) : W4 m d b = W3 m d b := Function.update_of_ne h _ _
theorem W4_10 (d : Dev nD) : W4 m d rv10 = histAt m d := Function.update_self _ _ _

/-! ## What each call hands out -/

/-- SparseCore `n`'s part of the first call, the tables at `A` and `B`, and its tile `k`'s. -/
def core0 (d : Dev nD) (n : Fin 2) (A B : Vec F S32x16 .f32) : sProp 𝕄 :=
  iprop((L0 d ↦{shC n} W1 m d rv0) ∗ (L1 d ↦{shC n} W1 m d rv1) ∗ (LA d ↦[parSet row16 n.val]{fullShare} A) ∗ LB d ↦[parSet row16 n.val]{fullShare} B)
def tile0 (d : Dev nD) (n : Fin 2) (k : Fin 16) (A B : Vec F S32x16 .f32) : sProp 𝕄 :=
  iprop((L0 d ↦{shT n k} W1 m d rv0) ∗ (L1 d ↦{shT n k} W1 m d rv1) ∗ (LA d ↦[rowSet row16 (2 * k.val + n.val)]{fullShare} A)
    ∗ LB d ↦[rowSet row16 (2 * k.val + n.val)]{fullShare} B)

/-- The same of the second call, the counts' table at `C`. -/
def core1 (d : Dev nD) (n : Fin 2) (C : Vec F S32x1600 .f32) : sProp 𝕄 :=
  iprop((L0 d ↦{shC n} W3 m d rv0) ∗ (L1 d ↦{shC n} W3 m d rv1) ∗ (L9 d ↦{shC n} W3 m d rv9) ∗ L10 d ↦[parSet row1600 n.val]{fullShare} C)
def tile1 (d : Dev nD) (n : Fin 2) (k : Fin 16) (C : Vec F S32x1600 .f32) : sProp 𝕄 :=
  iprop((L0 d ↦{shT n k} W3 m d rv0) ∗ (L1 d ↦{shT n k} W3 m d rv1) ∗ (L9 d ↦{shT n k} W3 m d rv9)
    ∗ L10 d ↦[rowSet row1600 (2 * k.val + n.val)]{fullShare} C)

instance core0_storable (d : Dev nD) (n : Fin 2) (A B : Vec F S32x16 .f32) : BI.Storable (upEmb : UEmb _ 𝕄) (core0 m d n A B) := by
  unfold core0; infer_instance
instance tile0_storable (d : Dev nD) (n : Fin 2) (k : Fin 16) (A B : Vec F S32x16 .f32) : BI.Storable (upEmb : UEmb _ 𝕄) (tile0 m d n k A B) := by
  unfold tile0; infer_instance
instance core1_storable (d : Dev nD) (n : Fin 2) (C : Vec F S32x1600 .f32) : BI.Storable (upEmb : UEmb _ 𝕄) (core1 m d n C) := by
  unfold core1; infer_instance
instance tile1_storable (d : Dev nD) (n : Fin 2) (k : Fin 16) (C : Vec F S32x1600 .f32) : BI.Storable (upEmb : UEmb _ 𝕄) (tile1 m d n k C) := by
  unfold tile1; infer_instance

theorem cores0_eq (d : Dev nD) (A B : Vec F S32x16 .f32) : (bigSep (Finset.univ : Finset (Fin 2)) fun n => core0 m d n A B)
    = iprop((L0 d ↦{fullShare} W1 m d rv0) ∗ (L1 d ↦{fullShare} W1 m d rv1) ∗ (LA d ↦{fullShare} A) ∗ LB d ↦{fullShare} B) := by
  unfold core0
  rw [bigSep_sep', bigSep_sep', bigSep_sep', ← pts_shC, ← pts_shC, ← pts_cores (ℓ := LA d) row16, ← pts_cores (ℓ := LB d) row16]
theorem tiles0_eq (d : Dev nD) (n : Fin 2) (A B : Vec F S32x16 .f32) : (bigSep (Finset.univ : Finset (Fin 16)) fun k => tile0 m d n k A B) = core0 m d n A B := by
  unfold tile0 core0
  rw [bigSep_sep', bigSep_sep', bigSep_sep', ← pts_shT, ← pts_shT, ← pts_tiles (ℓ := LA d) row16 row16_lt n.isLt,
    ← pts_tiles (ℓ := LB d) row16 row16_lt n.isLt]
theorem cores1_eq (d : Dev nD) (C : Vec F S32x1600 .f32) : (bigSep (Finset.univ : Finset (Fin 2)) fun n => core1 m d n C)
    = iprop((L0 d ↦{fullShare} W3 m d rv0) ∗ (L1 d ↦{fullShare} W3 m d rv1) ∗ (L9 d ↦{fullShare} W3 m d rv9) ∗ L10 d ↦{fullShare} C) := by
  unfold core1
  rw [bigSep_sep', bigSep_sep', bigSep_sep', ← pts_shC, ← pts_shC, ← pts_shC, ← pts_cores (ℓ := L10 d) row1600]
theorem tiles1_eq (d : Dev nD) (n : Fin 2) (C : Vec F S32x1600 .f32) : (bigSep (Finset.univ : Finset (Fin 16)) fun k => tile1 m d n k C) = core1 m d n C := by
  unfold tile1 core1
  rw [bigSep_sep', bigSep_sep', bigSep_sep', ← pts_shT, ← pts_shT, ← pts_shT, ← pts_tiles (ℓ := L10 d) row1600 row1600_lt n.isLt]

/-- What the calls take and bring back, for the SparseCores and for their tiles. -/
def P : (K (F := F)).Pay (nD := nD) (Val := Elt F) (Name := ℕ) (U := UU) where
  st := fun q d c => match q with | 0 => core0 m d c (W1 m d rvA) (W1 m d rvB) | 1 => core1 m d c (W3 m d rv10)
  dn := fun q d c => match q with | 0 => core0 m d c (minsAt m d) (maxsAt m d) | 1 => core1 m d c (histAt m d)
  go := fun q d c i => match q with | 0 => tile0 m d c i (W1 m d rvA) (W1 m d rvB) | 1 => tile1 m d c i (W3 m d rv10)
  td := fun q d c i => match q with | 0 => tile0 m d c i (minsAt m d) (maxsAt m d) | 1 => tile1 m d c i (histAt m d)
  x := fun _ _ => iprop(emp)

instance P_storable : (P (F := F) m).IsStorable where
  st q d c := match q with | 0 => core0_storable m d c _ _ | 1 => core1_storable m d c _
  dn q d c := match q with | 0 => core0_storable m d c _ _ | 1 => core1_storable m d c _
  go q d c i := match q with | 0 => tile0_storable m d c i _ _ | 1 => tile1_storable m d c i _
  td q d c i := match q with | 0 => tile0_storable m d c i _ _ | 1 => tile1_storable m d c i _

theorem dn0_eq (d : Dev nD) : (bigSep Finset.univ fun c : Fin ((K (F := F)).nCore 0) => (P m).dn 0 d c)
    = iprop((L0 d ↦{fullShare} W1 m d rv0) ∗ (L1 d ↦{fullShare} W1 m d rv1) ∗ (LA d ↦{fullShare} minsAt m d) ∗ LB d ↦{fullShare} maxsAt m d) :=
  cores0_eq m d (minsAt m d) (maxsAt m d)
theorem dn1_eq (d : Dev nD) : (bigSep Finset.univ fun c : Fin ((K (F := F)).nCore 1) => (P m).dn 1 d c)
    = iprop((L0 d ↦{fullShare} W3 m d rv0) ∗ (L1 d ↦{fullShare} W3 m d rv1) ∗ (L9 d ↦{fullShare} W3 m d rv9) ∗ L10 d ↦{fullShare} histAt m d) :=
  cores1_eq m d (histAt m d)

theorem split0 : (K (F := F)).VecSplit' (P m) 0 := by
  intro d c
  show core0 m d c (W1 m d rvA) (W1 m d rvB) ⊢ |={Set.univ}=> iprop((bigSep (Finset.univ : Finset (Fin 16)) fun k => tile0 m d c k (W1 m d rvA) (W1 m d rvB))
    ∗ ((bigSep (Finset.univ : Finset (Fin 16)) fun k => tile0 m d c k (minsAt m d) (maxsAt m d)) -∗ core0 m d c (minsAt m d) (maxsAt m d)))
  rw [tiles0_eq, tiles0_eq]
  iintro H; imodintro
  isplitl [H]; · iexact H
  iintro H; iexact H
theorem split1 : (K (F := F)).VecSplit' (P m) 1 := by
  intro d c
  show core1 m d c (W3 m d rv10) ⊢ |={Set.univ}=> iprop((bigSep (Finset.univ : Finset (Fin 16)) fun k => tile1 m d c k (W3 m d rv10))
    ∗ ((bigSep (Finset.univ : Finset (Fin 16)) fun k => tile1 m d c k (histAt m d)) -∗ core1 m d c (histAt m d)))
  rw [tiles1_eq, tiles1_eq]
  iintro H; imodintro
  isplitl [H]; · iexact H
  iintro H; iexact H

/-! ## The tiles' obligations -/

theorem facts : (K (F := F)).Facts :=
  ⟨show sc_start ≠ sc_taskDone by decide,
   show (SemLoc.reg sc_start : SemLoc sig).isScoped .scScalar = false by decide,
   show (SemLoc.reg sc_taskDone : SemLoc sig).isScoped .scScalar = false by decide,
   show (SemLoc.reg sc_go : SemLoc sig).isScoped .scVector = false by decide,
   show (SemLoc.reg sc_done : SemLoc sig).isScoped .tc = false by decide,
   show ∀ (b : DevRef τ sig) (c : Fin τ.nSC), b.owner = .sc c → sig.taskShared b.table b.idx = false by decide, fun _ => rfl⟩

omit [FloatOps F] in
def coords (c : Fin (grid1.bound 0)) (s : Fin (grid1.bound 1)) : grid1.Coords :=
  fun | 0 => c | 1 => s | ⟨_ + 2, h⟩ => absurd h (Nat.not_lt.2 (Nat.le_add_left _ _))

theorem body0_eq (c : Fin τ.nSC) (s : Fin τ.nSub) :
    defs₀ (F := F) (.scVector c s) 0 ()
      = SparseCore.onTile hcore0 hsub0 (fun c s => cc0__minmax_k (coords c s) m0 (Memref.isWhole_whole _) m1 (Memref.isWhole_whole _)
          (Memref.whole main_v2_0_scv) (Memref.isWhole_whole _) (Memref.whole main_v2_1_scv) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scoped0 cc0_scoped1) ⟨⟩ c s := rfl
theorem body1_eq (c : Fin τ.nSC) (s : Fin τ.nSub) :
    defs₀ (F := F) (.scVector c s) 1 ()
      = SparseCore.onTile hcore1 hsub1 (fun c s => cc1__hist_k (coords c s) m0 (Memref.isWhole_whole _) m1 (Memref.isWhole_whole _)
          m9 (Memref.isWhole_whole _) (Memref.whole main_v10_scv) (Memref.isWhole_whole _)
          (Memref.whole cc1_scratch0) (Memref.isWhole_whole _) (Memref.whole cc1_scratch1) (Memref.isWhole_whole _)
          (Memref.whole cc1_scratch2) (Memref.isWhole_whole _) cc1_scratch3 cc1_scratch4 cc1_scoped0 cc1_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem drop_emp {A B C D E : sProp 𝕄} : (iprop(A ∗ emp ∗ B ∗ C ∗ D ∗ E) : sProp 𝕄) ⊢ iprop(A ∗ B ∗ C ∗ D ∗ E) := by
  iintro ⟨HA, -, H⟩
  isplitl [HA]; · iexact HA
  iexact H

set_option maxRecDepth 2048 in
theorem tileObl0 : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [body0_eq]; simp only [SparseCore.onTile, hc, and_self, ↓reduceDIte]
  exact (drop_emp.trans (mm_body (d := d) facts (coords ⟨_, hc.1⟩ ⟨_, hc.2⟩) hO)).trans (wp_mono frame _ _ fun _ => obl_post)

set_option maxRecDepth 2048 in
theorem tileObl1 : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [body1_eq]; simp only [SparseCore.onTile, hc, and_self, ↓reduceDIte]
  exact (drop_emp.trans (hist_body (d := d) facts (coords ⟨_, hc.1⟩ ⟨_, hc.2⟩) hO)).trans (wp_mono frame _ _ fun _ => obl_post)

/-! ## The launch element -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 2 => (iprop(emp) : sProp 𝕄)) = iprop(emp) from by
    rw [bigSep_congr fun _ _ => bigSep_nothing _, bigSep_nothing]]
  iempintro

/-! ## The host program -/

omit [FloatOps F] in
theorem held_call0 (d : Dev nD) (W : Valuation τ sig (Elt F)) : (held (SparseCore.T d) (ucRefs τ sig) W : sProp 𝕄)
    = iprop((L0 d ↦{fullShare} W rv0) ∗ (L1 d ↦{fullShare} W rv1) ∗ (LA d ↦{fullShare} W rvA) ∗ (LB d ↦{fullShare} W rvB)
      ∗ bigSep (((((ucRefs τ sig).erase rv0).erase rv1).erase rvA).erase rvB) fun b => ((d, b) : Loc nD τ sig) ↦{fullShare} W b) :=
  bigSep_four (a := rv0) (b := rv1) (e := rvA) (f := rvB) (by decide) (by decide) (by decide) (by decide) (by decide) (by decide) (by decide) (by decide) (by decide) (by decide)
    fun b => ((d, b) : Loc nD τ sig) ↦{fullShare} W b
omit [FloatOps F] in
theorem held_call1 (d : Dev nD) (W : Valuation τ sig (Elt F)) : (held (SparseCore.T d) (ucRefs τ sig) W : sProp 𝕄)
    = iprop((L0 d ↦{fullShare} W rv0) ∗ (L1 d ↦{fullShare} W rv1) ∗ (L9 d ↦{fullShare} W rv9) ∗ (L10 d ↦{fullShare} W rv10)
      ∗ bigSep (((((ucRefs τ sig).erase rv0).erase rv1).erase rv9).erase rv10) fun b => ((d, b) : Loc nD τ sig) ↦{fullShare} W b) :=
  bigSep_four (a := rv0) (b := rv1) (e := rv9) (f := rv10) (by decide) (by decide) (by decide) (by decide) (by decide) (by decide) (by decide) (by decide) (by decide) (by decide)
    fun b => ((d, b) : Loc nD τ sig) ↦{fullShare} W b
omit [FloatOps F] in
theorem held_end (d : Dev nD) (W : Valuation τ sig (Elt F)) : (held (SparseCore.T d) (ucRefs τ sig) W : sProp 𝕄)
    = iprop(((SparseCore.T d).loc main_arg0 ↦{fullShare} W rx0) ∗ ((SparseCore.T d).loc main_arg1 ↦{fullShare} W rx1) ∗ ((SparseCore.T d).loc main_v15 ↦{fullShare} W rv15)
      ∗ bigSep ((((ucRefs τ sig).erase rx0).erase rx1).erase rv15) fun b => ((d, b) : Loc nD τ sig) ↦{fullShare} W b) :=
  bigSep_three (a := rx0) (b := rx1) (e := rv15) (by decide) (by decide) (by decide) (by decide) (by decide) (by decide)
    fun b => ((d, b) : Loc nD τ sig) ↦{fullShare} W b

theorem rest0 (d : Dev nD) : (bigSep (((((ucRefs τ sig).erase rv0).erase rv1).erase rvA).erase rvB) fun b => ((d, b) : Loc nD τ sig) ↦{fullShare} W2 m d b : sProp 𝕄)
    = bigSep (((((ucRefs τ sig).erase rv0).erase rv1).erase rvA).erase rvB) fun b => ((d, b) : Loc nD τ sig) ↦{fullShare} W1 m d b :=
  bigSep_congr fun b hb => by
    rw [W2_of_ne m d (Finset.ne_of_mem_erase (Finset.mem_of_mem_erase hb)) (Finset.ne_of_mem_erase hb)]
theorem rest1 (d : Dev nD) : (bigSep (((((ucRefs τ sig).erase rv0).erase rv1).erase rv9).erase rv10) fun b => ((d, b) : Loc nD τ sig) ↦{fullShare} W4 m d b : sProp 𝕄)
    = bigSep (((((ucRefs τ sig).erase rv0).erase rv1).erase rv9).erase rv10) fun b => ((d, b) : Loc nD τ sig) ↦{fullShare} W3 m d b :=
  bigSep_congr fun b hb => by rw [W4_of_ne m d (Finset.ne_of_mem_erase hb)]

/-- The two arguments and the result, as the run leaves them. -/
def FIN (d : Dev nD) : sProp 𝕄 :=
  iprop(((SparseCore.T d).loc main_arg0 ↦{fullShare} W5 m d rx0) ∗ ((SparseCore.T d).loc main_arg1 ↦{fullShare} W5 m d rx1) ∗ (SparseCore.T d).loc main_v15 ↦{fullShare} W5 m d rv15)

attribute [local irreducible] W1 W2 W3 W4 W5 minsAt maxsAt histAt core0 core1

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from unscopedBufs_held d (V0 m d), main_eq]
  iintro ⟨#Hctx, Hst, ⟨Hb, Hheld, Hts, -⟩, -⟩
  iapply (wp_seq 𝒱 none Set.univ d (ucRefs τ sig) _ ops1 (fun op h => (ops1_plain op h).1) (fun op h => (ops1_plain op h).2) (V0 m d)) $$ [Hb Hheld]
  · isplitl [Hb]; · iexact Hb
    iexact Hheld
  iintro ⟨Hb, Hheld⟩
  ihave Hh := (Entails.of_eq ((show (held (SparseCore.T d) (ucRefs τ sig) (after ops1 (V0 m d)) : sProp 𝕄) = held (SparseCore.T d) (ucRefs τ sig) (W1 m d) by unfold W1; rfl).trans (held_call0 d (W1 m d)))) $$ Hheld
  icases Hh with ⟨H0, H1, HA, HB, Hr⟩
  rw [wp_bind]
  iapply ((K (F := F)).wp_run (D (F := F)) 𝒱 (EH := EH) (P := P m) κ d 0) $$ [Hst H0 H1 HA HB Hb Hr Hts]
  isplitr; · iexact Hctx
  isplitl [Hst]; · iexact Hst
  isplitl [H0 H1 HA HB]
  · iapply (Entails.of_eq (cores0_eq m d (W1 m d rvA) (W1 m d rvB)).symm)
    isplitl [H0]; · iexact H0
    isplitl [H1]; · iexact H1
    isplitl [HA]; · iexact HA
    iexact HB
  iintro ⟨Hst, Hdn⟩
  ihave Hdn' := (Entails.of_eq (dn0_eq m d)) $$ Hdn
  icases Hdn' with ⟨H0, H1, HA, HB⟩
  ihave Hheld := (Entails.of_eq (held_call0 d (W2 m d)).symm) $$ [H0 H1 HA HB Hr]
  · rw [rest0, W2_A, W2_B, W2_of_ne m d (show rv0 ≠ rvA by decide) (show rv0 ≠ rvB by decide), W2_of_ne m d (show rv1 ≠ rvA by decide) (show rv1 ≠ rvB by decide)]
    isplitl [H0]; · iexact H0
    isplitl [H1]; · iexact H1
    isplitl [HA]; · iexact HA
    isplitl [HB]; · iexact HB
    iexact Hr
  iapply (wp_seq 𝒱 none Set.univ d (ucRefs τ sig) _ ops2 (fun op h => (ops2_plain op h).1) (fun op h => (ops2_plain op h).2) (W2 m d)) $$ [Hb Hheld]
  · isplitl [Hb]; · iexact Hb
    iexact Hheld
  iintro ⟨Hb, Hheld⟩
  ihave Hh := (Entails.of_eq ((show (held (SparseCore.T d) (ucRefs τ sig) (after ops2 (W2 m d)) : sProp 𝕄) = held (SparseCore.T d) (ucRefs τ sig) (W3 m d) by unfold W3; rfl).trans (held_call1 d (W3 m d)))) $$ Hheld
  icases Hh with ⟨H0, H1, H9, H10, Hr⟩
  rw [wp_bind]
  iapply ((K (F := F)).wp_run (D (F := F)) 𝒱 (EH := EH) (P := P m) κ d 1) $$ [Hst H0 H1 H9 H10 Hb Hr Hts]
  isplitr; · iexact Hctx
  isplitl [Hst]; · iexact Hst
  isplitl [H0 H1 H9 H10]
  · iapply (Entails.of_eq (cores1_eq m d (W3 m d rv10)).symm)
    isplitl [H0]; · iexact H0
    isplitl [H1]; · iexact H1
    isplitl [H9]; · iexact H9
    iexact H10
  iintro ⟨Hst, Hdn⟩
  ihave Hdn' := (Entails.of_eq (dn1_eq m d)) $$ Hdn
  icases Hdn' with ⟨H0, H1, H9, H10⟩
  ihave Hheld := (Entails.of_eq (held_call1 d (W4 m d)).symm) $$ [H0 H1 H9 H10 Hr]
  · rw [rest1, W4_10, W4_of_ne m d (show rv0 ≠ rv10 by decide), W4_of_ne m d (show rv1 ≠ rv10 by decide), W4_of_ne m d (show rv9 ≠ rv10 by decide)]
    isplitl [H0]; · iexact H0
    isplitl [H1]; · iexact H1
    isplitl [H9]; · iexact H9
    isplitl [H10]; · iexact H10
    iexact Hr
  iapply (wp_seq 𝒱 none Set.univ d (ucRefs τ sig) _ ops3 (fun op h => (ops3_plain op h).1) (fun op h => (ops3_plain op h).2) (W4 m d)) $$ [Hb Hheld]
  · isplitl [Hb]; · iexact Hb
    iexact Hheld
  iintro ⟨Hb, Hheld⟩
  ihave Hh := (Entails.of_eq ((show (held (SparseCore.T d) (ucRefs τ sig) (after ops3 (W4 m d)) : sProp 𝕄) = held (SparseCore.T d) (ucRefs τ sig) (W5 m d) by unfold W5; rfl).trans (held_end d (W5 m d)))) $$ Hheld
  icases Hh with ⟨Hx0, Hx1, H15, -⟩
  rw [Prog.pure_eq_ret, wp_ret]; imodintro
  isplitl [Hst]; · iexact Hst
  isplitl [Hx0 Hx1 H15]
  · unfold FIN
    isplitl [Hx0]; · iexact Hx0
    isplitl [Hx1]; · iexact Hx1
    iexact H15
  isplitl [Hb] <;> iassumption

/-! ## The run -/

def fq (d : Dev nD) (s' : Phys nD τ sig (Elt F)) : Prop :=
  s'.mem.mem ((SparseCore.T d).loc main_arg0) = W5 m d rx0 ∧ s'.mem.mem ((SparseCore.T d).loc main_arg1) = W5 m d rx1
    ∧ s'.mem.mem ((SparseCore.T d).loc main_v15) = W5 m d rv15

omit [FloatOps F] in
theorem agree {ℓ : Loc nD τ sig} {f : Buf (Elt F) ℓ} (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] in
theorem agree' {ℓ : Loc nD τ sig} {f : Buf (Elt F) ℓ} (s' : Phys nD τ sig (Elt F)) :
    iprop((ℓ ↦{fullShare} f) ∗ SI s') ⊢ (iprop(⌜s'.mem.mem ℓ = f⌝ ∗ (ℓ ↦{fullShare} f) ∗ SI s') : sProp 𝕄) :=
  persistent_entails_right (agree s')

theorem hfin (d : Dev nD) (s' : Phys nD τ sig (Elt F)) : iprop(FIN m d ∗ SI s') ⊢ (⌜fq m d s'⌝ : sProp 𝕄) := by
  unfold FIN
  iintro ⟨⟨H0, H1, H2⟩, HSI⟩
  ihave G := (agree' s') $$ [H0 HSI]
  · isplitl [H0]; · iexact H0
    iexact HSI
  icases G with ⟨%h0, -, HSI⟩
  ihave G := (agree' s') $$ [H1 HSI]
  · isplitl [H1]; · iexact H1
    iexact HSI
  icases G with ⟨%h1, -, HSI⟩
  ihave G := (agree s') $$ [H2 HSI]
  · isplitl [H2]; · iexact H2
    iexact HSI
  icases G with %h2
  ipureintro; exact ⟨h0, h1, h2⟩

def QC : PUnit × MemSt nD τ sig (Elt F) → Prop := fun r =>
  (∀ d : Dev nD, r.2.mem ((SparseCore.T d).loc main_arg0) = W5 m d rx0 ∧ r.2.mem ((SparseCore.T d).loc main_arg1) = W5 m d rx1
    ∧ r.2.mem ((SparseCore.T d).loc main_v15) = W5 m d rv15) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m | 1 => tileObl1 m)
    (fun q _ => match q with | 0 => SparseCore.Cfg.VecSplit.of_plain (split0 m) | 1 => SparseCore.Cfg.VecSplit.of_plain (split1 m))
    m ρ main (fun _ => iprop(emp)) (FIN m) (u₀ (F := F)) (sep_elim_left.trans (hu₀ m)) (hmain m ρ) (fq m) (hfin m) (QC m) (fun _ h hz => ⟨h, hz⟩)

end Cert.Proof.Hist

end
-- ==== Proof.Frames.lean ====
/-
  The three runs' frames: no array of the host program writes an argument, so the arguments end as they began; and the
  value the kernel's result ends at, as the host's operations of the two calls' tables.
-/
module

public import proofs.«01_k».proof.Proof.Launch
public import proofs.«01_k».proof.Proof.Gen.ReferenceIdeal.Run
public import proofs.«01_k».proof.Defs
public import proofs.«01_k».proof.Proof.Gen.Kernel
public import Idealize.ShloMosaic.Lib.Quiescent

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 2) (Elt F) ℕ UU ℕ

open Idealize.ShloMosaic.StableHlo

variable [FloatOps F]

attribute [local irreducible] mmRun countRun mmAcc histTile minsOf maxsOf histOf

section
variable (m : (ℓ : Loc nD τ sig) → Buf (Elt F) ℓ) (d : Dev nD)

theorem W1_x0 : W1 m d rx0 = m (d, rx0) := by
  unfold W1 ops1; after_results_simp; rfl
theorem W1_x1 : W1 m d rx1 = m (d, rx1) := by
  unfold W1 ops1; after_results_simp; rfl
theorem W1_v0 : W1 m d rv0 = shapeCast S96x512x512 (m (d, rx0)) shapeCasts_S32x3x512x512_S96x512x512 := by
  unfold W1 ops1; after_results_simp; rfl
theorem W1_v1 : W1 m d rv1 = shapeCast S96x512x512 (m (d, rx1)) shapeCasts_S32x3x512x512_S96x512x512 := by
  unfold W1 ops1; after_results_simp; rfl

/-- What `ops2` leaves unwritten. -/
theorem W3_of {r : Ref sig .tc} (h : ∀ y ∈ ([main_cst, main_v3, main_cst_0, main_v4, main_cst_1, main_v5, main_v6, main_v7, main_v8, main_v9] : List (Ref sig .tc)), r ≠ y)
    (hA : r ≠ main_v2_0) (hB : r ≠ main_v2_1) : W3 m d (Proc.devRef .tc r) = W1 m d (Proc.devRef .tc r) := by
  rw [← W2_of_ne m d (devRef_ne_of_ne hA) (devRef_ne_of_ne hB)]
  unfold W3
  exact after_of_writes_sub ops2 _ (forall_writes_sub_of_map (W := [main_cst, main_v3, main_cst_0, main_v4, main_cst_1, main_v5, main_v6, main_v7, main_v8, main_v9]) rfl) (fun hm => h r hm rfl)

theorem W3_x0 : W3 m d rx0 = m (d, rx0) := (W3_of m d (by decide) (by decide) (by decide)).trans (W1_x0 m d)
theorem W3_x1 : W3 m d rx1 = m (d, rx1) := (W3_of m d (by decide) (by decide) (by decide)).trans (W1_x1 m d)
theorem W3_v0 : W3 m d rv0 = W1 m d rv0 := W3_of m d (by decide) (by decide) (by decide)
theorem W3_v1 : W3 m d rv1 = W1 m d rv1 := W3_of m d (by decide) (by decide) (by decide)

theorem W5_x0 : W5 m d rx0 = m (d, rx0) := by
  rw [← W3_x0 m d, ← W4_of_ne m d (b := rx0) (by decide)]
  unfold W5 ops3; after_results_simp
theorem W5_x1 : W5 m d rx1 = m (d, rx1) := by
  rw [← W3_x1 m d, ← W4_of_ne m d (b := rx1) (by decide)]
  unfold W5 ops3; after_results_simp

/-- The low end of the bins and their width, of the two tables of least and greatest elements. -/
def loT (A : Vec F S32x16 .f32) : Vec F S_ .f32 :=
  addf (Host.reduce FloatOps.minimumf A (constant S_ .f32 0x7F800000#32) reducesTo_S32x16_S_d0_1 h_S_) (constant S_ .f32 0x3DCCCCCD#32)
def wdT (A B : Vec F S32x16 .f32) : Vec F S_ .f32 :=
  subf (Host.reduce FloatOps.maximumf B (constant S_ .f32 0xFF800000#32) reducesTo_S32x16_S_d0_1 h_S_) (loT A)
/-- The pair of rows the second call reads: the low end sixteen times, then the width. -/
def parT (A B : Vec F S32x16 .f32) : Vec F S32 .f32 :=
  concatenate S32 0 [⟨S16, broadcastInDim S16 ![] bcast_S_S16 (loT A)⟩, ⟨S16, broadcastInDim S16 ![] bcast_S_S16 (wdT A B)⟩] concatenates_S16_S16_S32_d0
/-- The mean absolute difference, of the table of signed counts. -/
def meanT (H : Vec F S32x1600 .f32) : Vec F S_ .f32 :=
  Host.divf (Host.reduceAdd (Host.absf (Host.reduceAdd (shapeCast S32x100x16 H shapeCasts_S32x1600_S32x100x16) (constant S_ .f32 0x00000000#32) reducesTo_S32x100x16_S100_d0_2 h_S_))
    (constant S_ .f32 0x00000000#32) reducesTo_S100_S_d0 h_S_) (constant S_ .f32 0x42C80000#32)

set_option maxHeartbeats 1000000 in
theorem after2_v9 (V : Valuation τ sig (Elt F)) : after ops2 V rv9 = parT (V rvA) (V rvB) := by
  unfold ops2; after_results_simp; rfl
theorem after3_v15 (V : Valuation τ sig (Elt F)) : after ops3 V rv15 = meanT (V rv10) := by
  unfold ops3; after_results_simp; rfl

theorem W3_v9 : W3 m d rv9 = parT (minsAt m d) (maxsAt m d) :=
  (after2_v9 _).trans (by rw [W2_A, W2_B])
theorem W5_v15 : W5 m d rv15 = meanT (histAt m d) :=
  (after3_v15 _).trans (by rw [W4_10])
end

theorem frame_kernelIdeal : Cert.quiescent_KernelIdeal := fun m ρ _ =>
  (θ_run Cert.KernelIdeal.defs _ _).mono (fun _ h => ⟨fun c => ⟨(h.1 c).1.trans (W5_x0 m c), (h.1 c).2.1.trans (W5_x1 m c)⟩, h.2⟩) (run_main (F := Ideal) m ρ)

theorem frame_kernel : Cert.quiescent_Kernel := fun m ρ _ =>
  (θ_run Cert.KernelIdeal.defs _ _).mono (fun _ h => ⟨fun c => ⟨(h.1 c).1.trans (W5_x0 (F := Bits) m c), (h.1 c).2.1.trans (W5_x1 (F := Bits) m c)⟩, h.2⟩) (run_main (F := Bits) m ρ)

theorem frame_reference : Cert.quiescent_ReferenceIdeal := fun m ρ _ =>
  (θ_run Cert.ReferenceIdeal.defs _ _).mono (fun _ h => ⟨fun c => (h c).2, sem_eq_zero_of_no_sems rfl _⟩) (Cert.ReferenceIdeal.Value.run (F := Ideal) m ρ)

end Cert.Proof.Hist

end
-- ==== Proof.Bins.lean ====
/-
  The bin of one element, over the extended reals: the kernel's (truncate, then the unsigned minimum with 99) and the
  reference's (floor, the upper end to bin 99, then clip), and that the two agree on every counted element.
-/
module

public import Idealize.ShloMosaic.PureOps.Ideal
public import Idealize.ShloMosaic.PureOps.Ideal.Laws

@[expose] public section

noncomputable section

namespace Cert.Proof.Hist

open Idealize.ShloMosaic

theorem hundred : Ideal.ofBits .f32 0x42C80000#32 = ((100 : ℝ) : EReal) := by
  simp [Ideal.ofBits, Ideal.ieee, -EReal.coe_mul]; norm_num
theorem one_word : Ideal.ofBits .f32 0x3F800000#32 = ((1 : ℝ) : EReal) := by
  simp [Ideal.ofBits, Ideal.ieee, -EReal.coe_mul]; norm_num
theorem neg_one_word : Ideal.ofBits .f32 0xBF800000#32 = ((-1 : ℝ) : EReal) := by
  simp [Ideal.ofBits, Ideal.ieee, -EReal.coe_mul]; norm_num
theorem tenth_word : ∃ r : ℝ, Ideal.ofBits .f32 0x3DCCCCCD#32 = (r : EReal) := by
  simp [Ideal.ofBits, Ideal.ieee, -EReal.coe_mul]
theorem top_word : Ideal.ofBits .f32 0x7F800000#32 = ⊤ := by
  simp [Ideal.ofBits, Ideal.ieee]
theorem bot_word : Ideal.ofBits .f32 0xFF800000#32 = ⊥ := by
  simp [Ideal.ofBits, Ideal.ieee]

/-- An element's place among the hundred bins, before it is made an integer. -/
def place (lo wd x : EReal) : EReal := Ideal.div (x - lo) wd * Ideal.ofBits .f32 0x42C80000#32

/-- The kernel's bin. -/
def kbin (lo wd x : EReal) : BitVec 32 :=
  if (Ideal.fptosi 32 (place lo wd x)).ult 99#32 then Ideal.fptosi 32 (place lo wd x) else 99#32

/-- The reference's bin. -/
def rbin (lo hi x : EReal) : BitVec 32 :=
  IntOp.minsi 99#32 (IntOp.maxsi 0#32 (Scalar.select (Ideal.cmp .oge x hi) 99#32
    (Ideal.fptosi 32 (Ideal.liftRound Int.floor (place lo (hi - lo) x)))))

theorem kbin_le (lo wd x : EReal) : (kbin lo wd x).toNat ≤ 99 := by
  unfold kbin
  generalize Ideal.fptosi 32 (place lo wd x) = v
  split
  · next h => simp [BitVec.ult] at h; omega
  · decide

theorem slt_iff (x y : BitVec 32) : x.slt y = true ↔ x.toInt < y.toInt := by simp [BitVec.slt]

/-- A word clipped to the range from 0 to 99, read as an integer. -/
theorem clip_toInt (v : BitVec 32) : (IntOp.minsi 99#32 (IntOp.maxsi 0#32 v)).toInt = min 99 (max 0 v.toInt) := by
  have h99 : (99#32 : BitVec 32).toInt = 99 := by decide
  have h0 : (0#32 : BitVec 32).toInt = 0 := by decide
  unfold IntOp.minsi IntOp.maxsi
  split_ifs with h1 h2 h2 <;> simp only [slt_iff, h99, h0] at * <;> omega

theorem rbin_range (lo hi x : EReal) : 0 ≤ (rbin lo hi x).toInt ∧ (rbin lo hi x).toInt ≤ 99 := by
  unfold rbin; rw [clip_toInt]; omega

theorem ofInt_toInt {n : ℤ} (h1 : -2147483648 ≤ n) (h2 : n ≤ 2147483647) : (BitVec.ofInt 32 n).toInt = n := by
  rw [BitVec.toInt_ofInt, Int.bmod_def]
  norm_num
  omega

/-- The real quotient of the place. -/
theorem place_coe (lo wd x : ℝ) (h : wd ≠ 0) : place lo wd x = (((x - lo) / wd * 100 : ℝ) : EReal) := by
  unfold place
  rw [hundred, Ideal.div_coe h, ← EReal.coe_sub, ← EReal.coe_mul, ← EReal.coe_mul]
  congr 1
  ring

theorem fptosi_nonneg (r : ℝ) (h : 0 ≤ r) : (Ideal.fptosi 32 (r : EReal)).toInt = min 2147483647 ⌊r⌋ := by
  have hf : 0 ≤ ⌊r⌋ := Int.floor_nonneg.2 h
  unfold Ideal.fptosi
  rw [Ideal.toIntClamped_coe, if_pos h]
  rw [ofInt_toInt] <;> norm_num <;> omega

theorem toNat_of_nonneg (v : BitVec 32) (h : 0 ≤ v.toInt) : (v.toNat : ℤ) = v.toInt := by
  rw [BitVec.toInt_eq_toNat_cond] at h ⊢
  split_ifs at h ⊢ <;> omega

/-- On an element between the two ends the reference's bin is the kernel's. -/
theorem rbin_eq (lo hi x : ℝ) (h1 : lo ≤ x) (h2 : x ≤ hi) : (rbin lo hi x).toInt = ((kbin lo ((hi : EReal) - lo) x).toNat : ℤ) := by
  unfold rbin
  rw [clip_toInt]
  rw [← EReal.coe_sub]
  unfold kbin
  rcases eq_or_lt_of_le (h1.trans h2) with he | hl
  · -- no width: the element is the one point, and both bins are the last
    have hx : x = hi := le_antisymm h2 (he ▸ h1)
    subst hx
    have hp : Ideal.fptosi 32 (place lo ((x - lo : ℝ) : EReal) x) = 0x80000000#32 := by
      unfold place
      rw [he, sub_self, hundred, EReal.coe_zero]
      unfold Ideal.div
      rw [if_pos rfl, ← EReal.coe_sub, sub_self, EReal.coe_zero, if_neg (lt_irrefl _), EReal.bot_mul_coe_of_pos (by norm_num)]
      rfl
    rw [hp]
    have hs : Scalar.select (Ideal.cmp .oge (x : EReal) x) 99#32 (Ideal.fptosi 32 (Ideal.liftRound Int.floor (place lo ((x - lo : ℝ) : EReal) x))) = 99#32 := by
      simp [Scalar.select, Ideal.cmp]
    rw [hs]
    decide
  · have hw : 0 < hi - lo := sub_pos.2 hl
    rw [place_coe lo (hi - lo) x hw.ne']
    have hr : 0 ≤ (x - lo) / (hi - lo) * 100 := by have := sub_nonneg.2 h1; positivity
    have hlr : Ideal.liftRound Int.floor (((x - lo) / (hi - lo) * 100 : ℝ) : EReal) = ((⌊(x - lo) / (hi - lo) * 100⌋ : ℝ) : EReal) := rfl
    rw [hlr]
    have hv := fptosi_nonneg _ hr
    have hv' := fptosi_nonneg (⌊(x - lo) / (hi - lo) * 100⌋ : ℝ) (by exact_mod_cast Int.floor_nonneg.2 hr)
    rw [Int.floor_intCast] at hv'
    have hf : 0 ≤ ⌊(x - lo) / (hi - lo) * 100⌋ := Int.floor_nonneg.2 hr
    have hk : (((if (Ideal.fptosi 32 (((x - lo) / (hi - lo) * 100 : ℝ) : EReal)).ult 99#32 then Ideal.fptosi 32 (((x - lo) / (hi - lo) * 100 : ℝ) : EReal) else 99#32).toNat : ℕ) : ℤ)
        = min 99 ⌊(x - lo) / (hi - lo) * 100⌋ := by
      generalize Ideal.fptosi 32 (((x - lo) / (hi - lo) * 100 : ℝ) : EReal) = v at hv ⊢
      have hn := toNat_of_nonneg v (by omega)
      split
      · next h => simp [BitVec.ult] at h; omega
      · next h => simp [BitVec.ult] at h; simp; omega
    rw [hk]
    unfold Scalar.select Ideal.cmp
    by_cases hx : hi ≤ x
    · have : x = hi := le_antisymm h2 hx
      subst this
      rw [if_pos (by simp)]
      have h100 : (x - lo) / (x - lo) * 100 = 100 := by field_simp
      rw [h100]
      have h99 : (99#32 : BitVec 32).toInt = 99 := by decide
      rw [h99]
      norm_num
    · rw [if_neg (by simp [hx]), hv']
      omega

end Cert.Proof.Hist

end
-- ==== Proof.Extremes.lean ====
/-
  Where the pieces lie: the pieces of the tiles meet every element of the array once.  The least and the greatest
  element, over the extended reals, from the first call's two tables.
-/
module

public import proofs.«01_k».proof.Proof.Body
public import proofs.«01_k».proof.Proof.Bins

@[expose] public section

noncomputable section

namespace Cert.Proof.Hist

open Cert.KernelIdeal Cert.KernelIdeal.Gen
open Idealize.ShloMosaic

attribute [local irreducible] mmRun countRun

/-! ## Every element is in one lane of one piece -/

def posEquiv : (Fin 32 × Fin 49152) × Fin 16 ≃ S96x512x512.Idx where
  toFun t := pos t.1.1.val t.1.2.val t.2.val
  invFun i :=
    have h0 : (i 0).val < 96 := (i 0).isLt
    have h1 : (i 1).val < 512 := (i 1).isLt
    have h2 : (i 2).val < 512 := (i 2).isLt
    ((⟨(i 0).val / 3, by omega⟩, ⟨(i 0).val % 3 * 16384 + (i 1).val * 32 + (i 2).val / 16, by omega⟩), ⟨(i 2).val % 16, by omega⟩)
  left_inv t := by
    obtain ⟨⟨⟨w, hw⟩, ⟨k, hk⟩⟩, ⟨l, hl⟩⟩ := t
    refine Prod.ext (Prod.ext (Fin.ext ?_) (Fin.ext ?_)) (Fin.ext ?_)
    · show (3 * w + k / 16384) % 96 / 3 = w
      omega
    · show (3 * w + k / 16384) % 96 % 3 * 16384 + k / 32 % 512 * 32 + (16 * (k % 32) + l) % 512 / 16 = k
      omega
    · show (16 * (k % 32) + l) % 512 % 16 = l
      omega
  right_inv i := by
    have h0 : (i 0).val < 96 := (i 0).isLt
    have h1 : (i 1).val < 512 := (i 1).isLt
    have h2 : (i 2).val < 512 := (i 2).isLt
    funext a
    apply Fin.ext
    fin_cases a
    · show (3 * ((i 0).val / 3) + ((i 0).val % 3 * 16384 + (i 1).val * 32 + (i 2).val / 16) / 16384) % 96 = (i 0).val
      omega
    · show ((i 0).val % 3 * 16384 + (i 1).val * 32 + (i 2).val / 16) / 32 % 512 = (i 1).val
      omega
    · show (16 * (((i 0).val % 3 * 16384 + (i 1).val * 32 + (i 2).val / 16) % 32) + (i 2).val % 16) % 512 = (i 2).val
      omega

/-- A sum over the tiles, their pieces and the lanes is a sum over the array. -/
theorem sum_pos {M : Type} [AddCommMonoid M] (f : S96x512x512.Idx → M) :
    ∑ w : Fin 32, ∑ k : Fin 49152, ∑ l : Fin 16, f (pos w.val k.val l.val) = ∑ i, f i := by
  rw [← posEquiv.sum_comp, Fintype.sum_prod_type, Fintype.sum_prod_type]
  rfl

/-- A statement about every lane of every piece is one about every element. -/
theorem forall_pos (p : S96x512x512.Idx → Prop) :
    (∀ w < 32, ∀ l < 16, ∀ k < 49152, p (pos w k l)) ↔ ∀ i, p i := by
  constructor
  · intro h i
    have := h (posEquiv.symm i).1.1.val (posEquiv.symm i).1.1.isLt (posEquiv.symm i).2.val (posEquiv.symm i).2.isLt (posEquiv.symm i).1.2.val (posEquiv.symm i).1.2.isLt
    have e : pos (posEquiv.symm i).1.1.val (posEquiv.symm i).1.2.val (posEquiv.symm i).2.val = i := posEquiv.apply_symm_apply i
    rwa [e] at this
  · intro h w _ l _ k _; exact h _

/-! ## The least and the greatest -/

theorem forall_lt_eight (p : ℕ → Prop) : (∀ u < 8, p u) ↔ p 0 ∧ p 1 ∧ p 2 ∧ p 3 ∧ p 4 ∧ p 5 ∧ p 6 ∧ p 7 := by
  constructor
  · intro h; exact ⟨h 0 (by omega), h 1 (by omega), h 2 (by omega), h 3 (by omega), h 4 (by omega), h 5 (by omega), h 6 (by omega), h 7 (by omega)⟩
  · rintro ⟨h0, h1, h2, h3, h4, h5, h6, h7⟩ u hu
    interval_cases u <;> assumption

theorem le_accMin_step (x : ℕ → Vec Ideal S16 .f32) (a : Acc Ideal) (j : S16.Idx) (z : EReal) :
    z ≤ accMin (mmStep x a) j ↔ z ≤ accMin a j ∧ ∀ u < 8, z ≤ x u j := by
  obtain ⟨p0, p1, p2, p3, p4, p5, p6, p7, q0, q1, q2, q3, q4, q5, q6, q7⟩ := a
  rw [forall_lt_eight]
  show z ≤ min (min (min (min (min (min (min (min (p0 j) (x 0 j)) (min (p1 j) (x 1 j))) (min (p2 j) (x 2 j))) (min (p3 j) (x 3 j)))
      (min (p4 j) (x 4 j))) (min (p5 j) (x 5 j))) (min (p6 j) (x 6 j))) (min (p7 j) (x 7 j))
    ↔ z ≤ min (min (min (min (min (min (min (p0 j) (p1 j)) (p2 j)) (p3 j)) (p4 j)) (p5 j)) (p6 j)) (p7 j) ∧ _
  simp only [le_min_iff]
  tauto

theorem accMax_step_le (x : ℕ → Vec Ideal S16 .f32) (a : Acc Ideal) (j : S16.Idx) (z : EReal) :
    accMax (mmStep x a) j ≤ z ↔ accMax a j ≤ z ∧ ∀ u < 8, x u j ≤ z := by
  obtain ⟨p0, p1, p2, p3, p4, p5, p6, p7, q0, q1, q2, q3, q4, q5, q6, q7⟩ := a
  rw [forall_lt_eight]
  show max (max (max (max (max (max (max (max (q0 j) (x 0 j)) (max (q1 j) (x 1 j))) (max (q2 j) (x 2 j))) (max (q3 j) (x 3 j)))
      (max (q4 j) (x 4 j))) (max (q5 j) (x 5 j))) (max (q6 j) (x 6 j))) (max (q7 j) (x 7 j)) ≤ z
    ↔ max (max (max (max (max (max (max (q0 j) (q1 j)) (q2 j)) (q3 j)) (q4 j)) (q5 j)) (q6 j)) (q7 j) ≤ z ∧ _
  simp only [max_le_iff]
  tauto

/-- A statement about eight pieces more. -/
theorem forall_lt_group (p : ℕ → Prop) (g : ℕ) : (∀ k < 8 * (g + 1), p k) ↔ (∀ k < 8 * g, p k) ∧ ∀ u < 8, p (8 * g + u) := by
  constructor
  · intro h; exact ⟨fun k hk => h k (by omega), fun u hu => h _ (by omega)⟩
  · rintro ⟨h1, h2⟩ k hk
    by_cases hk' : k < 8 * g
    · exact h1 k hk'
    · have := h2 (k - 8 * g) (by omega)
      rwa [show 8 * g + (k - 8 * g) = k by omega] at this

unseal mmRun in
theorem mmRun_succ (p : ℕ → Vec Ideal S16 .f32) (a : Acc Ideal) (g : ℕ) : mmRun p a (g + 1) = mmStep (fun j => p (8 * g + j)) (mmRun p a g) := rfl
unseal mmRun in
theorem mmRun_none (p : ℕ → Vec Ideal S16 .f32) (a : Acc Ideal) : mmRun p a 0 = a := rfl

theorem le_accMin_run (p : ℕ → Vec Ideal S16 .f32) (a : Acc Ideal) (j : S16.Idx) (z : EReal) (g : ℕ) :
    z ≤ accMin (mmRun p a g) j ↔ z ≤ accMin a j ∧ ∀ k < 8 * g, z ≤ p k j := by
  induction g with
  | zero => rw [mmRun_none]; simp
  | succ g ih => rw [mmRun_succ, le_accMin_step, ih, forall_lt_group, and_assoc]

theorem accMax_run_le (p : ℕ → Vec Ideal S16 .f32) (a : Acc Ideal) (j : S16.Idx) (z : EReal) (g : ℕ) :
    accMax (mmRun p a g) j ≤ z ↔ accMax a j ≤ z ∧ ∀ k < 8 * g, p k j ≤ z := by
  induction g with
  | zero => rw [mmRun_none]; simp
  | succ g ih => rw [mmRun_succ, accMax_step_le, ih, forall_lt_group, and_assoc]

theorem accMin_init (j : S16.Idx) : accMin (accInit (F := Ideal)) j = ⊤ := by
  show min (min (min (min (min (min (min (Ideal.ofBits .f32 0x7F800000#32) (Ideal.ofBits .f32 0x7F800000#32)) (Ideal.ofBits .f32 0x7F800000#32)) (Ideal.ofBits .f32 0x7F800000#32))
    (Ideal.ofBits .f32 0x7F800000#32)) (Ideal.ofBits .f32 0x7F800000#32)) (Ideal.ofBits .f32 0x7F800000#32)) (Ideal.ofBits .f32 0x7F800000#32) = ⊤
  simp only [min_self, top_word]
theorem accMax_init (j : S16.Idx) : accMax (accInit (F := Ideal)) j = ⊥ := by
  show max (max (max (max (max (max (max (Ideal.ofBits .f32 0xFF800000#32) (Ideal.ofBits .f32 0xFF800000#32)) (Ideal.ofBits .f32 0xFF800000#32)) (Ideal.ofBits .f32 0xFF800000#32))
    (Ideal.ofBits .f32 0xFF800000#32)) (Ideal.ofBits .f32 0xFF800000#32)) (Ideal.ofBits .f32 0xFF800000#32)) (Ideal.ofBits .f32 0xFF800000#32) = ⊥
  simp only [max_self, bot_word]

theorem le_minsOf (Xp Xt : Vec Ideal S96x512x512 .f32) (j : S32x16.Idx) (z : EReal) :
    z ≤ minsOf Xp Xt j ↔ ∀ k < 49152, z ≤ Xp (pos (row16 j) k (j 1).val) ∧ z ≤ Xt (pos (row16 j) k (j 1).val) := by
  unfold minsOf mmAcc
  rw [le_accMin_run, le_accMin_run, accMin_init]
  simp only [le_top, true_and, piece]
  rw [show 8 * 6144 = 49152 from rfl]
  exact ⟨fun h k hk => ⟨h.1 k hk, h.2 k hk⟩, fun h => ⟨fun k hk => (h k hk).1, fun k hk => (h k hk).2⟩⟩

theorem maxsOf_le (Xp Xt : Vec Ideal S96x512x512 .f32) (j : S32x16.Idx) (z : EReal) :
    maxsOf Xp Xt j ≤ z ↔ ∀ k < 49152, Xp (pos (row16 j) k (j 1).val) ≤ z ∧ Xt (pos (row16 j) k (j 1).val) ≤ z := by
  unfold maxsOf mmAcc
  rw [accMax_run_le, accMax_run_le, accMax_init]
  simp only [bot_le, true_and, piece]
  rw [show 8 * 6144 = 49152 from rfl]
  exact ⟨fun h k hk => ⟨h.1 k hk, h.2 k hk⟩, fun h => ⟨fun k hk => (h k hk).1, fun k hk => (h k hk).2⟩⟩

/-- A row and a lane of the table of thirty-two by sixteen. -/
theorem forall_table (p : ℕ → ℕ → Prop) : (∀ j : S32x16.Idx, p (j 0).val (j 1).val) ↔ ∀ w < 32, ∀ l < 16, p w l := by
  constructor
  · intro h w hw l hl
    exact h (fun | 0 => ⟨w, hw⟩ | 1 => ⟨l, hl⟩)
  · intro h j
    exact h _ (j 0).isLt _ (j 1).isLt

/-- The host's least of a whole array. -/
theorem le_reduceMin {s : Shape} {axes : List (Fin s.rank)} {t : Shape} (x : s.Idx → EReal) (init : S_.Idx → EReal)
    (hi : ∀ i, init i = ⊤) (h : s.ReducesTo axes t) (hu : 0 < S_.numel) (ht : Subsingleton t.Idx) (j : t.Idx) (z : EReal) :
    z ≤ Host.reduce (FloatOps.minimumf (F := Ideal) (φ := .f32)) x init h hu j ↔ ∀ i, z ≤ x i := by
  have e := Host.reduce_eq_fold (min : EReal → EReal → EReal) x init h hu j
  have e' : Host.reduce (FloatOps.minimumf (F := Ideal) (φ := .f32)) x init h hu j = _ := e
  rw [e', Finset.le_fold_min, hi]
  simp only [le_top, true_and, Finset.mem_filter, Finset.mem_univ]
  exact ⟨fun h' i => h' i (Subsingleton.elim _ _), fun h' i _ => h' i⟩

theorem reduceMax_le {s : Shape} {axes : List (Fin s.rank)} {t : Shape} (x : s.Idx → EReal) (init : S_.Idx → EReal)
    (hi : ∀ i, init i = ⊥) (h : s.ReducesTo axes t) (hu : 0 < S_.numel) (ht : Subsingleton t.Idx) (j : t.Idx) (z : EReal) :
    Host.reduce (FloatOps.maximumf (F := Ideal) (φ := .f32)) x init h hu j ≤ z ↔ ∀ i, x i ≤ z := by
  have e := Host.reduce_eq_fold (max : EReal → EReal → EReal) x init h hu j
  have e' : Host.reduce (FloatOps.maximumf (F := Ideal) (φ := .f32)) x init h hu j = _ := e
  rw [e', Finset.fold_max_le, hi]
  simp only [bot_le, true_and, Finset.mem_filter, Finset.mem_univ]
  exact ⟨fun h' i => h' i (Subsingleton.elim _ _), fun h' i _ => h' i⟩

theorem scalar_idx : Subsingleton S_.Idx := ⟨fun a b => funext fun x => x.elim0⟩

/-- The least and the greatest element of two arrays. -/
def least {ι : Type} (A B : ι → EReal) : EReal := min (⨅ i, A i) (⨅ i, B i)
def most {ι : Type} (A B : ι → EReal) : EReal := max (⨆ i, A i) (⨆ i, B i)

theorem le_least {ι : Type} (A B : ι → EReal) (z : EReal) : z ≤ least A B ↔ ∀ i, z ≤ A i ∧ z ≤ B i := by
  unfold least; rw [le_min_iff, le_iInf_iff, le_iInf_iff, forall_and]
theorem most_le {ι : Type} (A B : ι → EReal) (z : EReal) : most A B ≤ z ↔ ∀ i, A i ≤ z ∧ B i ≤ z := by
  unfold most; rw [max_le_iff, iSup_le_iff, iSup_le_iff, forall_and]

theorem reduce_mins (Xp Xt : Vec Ideal S96x512x512 .f32) (j : S_.Idx) :
    Host.reduce (FloatOps.minimumf (F := Ideal) (φ := .f32)) (minsOf Xp Xt) (constant S_ .f32 0x7F800000#32) reducesTo_S32x16_S_d0_1 h_S_ j = least Xp Xt :=
  eq_of_forall_le_iff fun z => by
    refine (le_reduceMin _ _ (fun _ => top_word) _ _ scalar_idx _ _).trans ?_
    rw [le_least]
    refine (forall_congr' fun j => le_minsOf Xp Xt j z).trans ?_
    rw [forall_table fun w l => ∀ k < 49152, z ≤ Xp (pos w k l) ∧ z ≤ Xt (pos w k l)]
    exact forall_pos fun i => z ≤ Xp i ∧ z ≤ Xt i

theorem reduce_maxs (Xp Xt : Vec Ideal S96x512x512 .f32) (j : S_.Idx) :
    Host.reduce (FloatOps.maximumf (F := Ideal) (φ := .f32)) (maxsOf Xp Xt) (constant S_ .f32 0xFF800000#32) reducesTo_S32x16_S_d0_1 h_S_ j = most Xp Xt :=
  eq_of_forall_ge_iff fun z => by
    refine (reduceMax_le _ _ (fun _ => bot_word) _ _ scalar_idx _ _).trans ?_
    rw [most_le]
    refine (forall_congr' fun j => maxsOf_le Xp Xt j z).trans ?_
    rw [forall_table fun w l => ∀ k < 49152, Xp (pos w k l) ≤ z ∧ Xt (pos w k l) ≤ z]
    exact forall_pos fun i => Xp i ≤ z ∧ Xt i ≤ z

theorem least_comp {ι κ : Type} (e : κ ≃ ι) (A B : ι → EReal) : least (fun k => A (e k)) (fun k => B (e k)) = least A B :=
  eq_of_forall_le_iff fun z => by rw [le_least, le_least]; exact e.forall_congr_left (p := fun i => z ≤ A (e i) ∧ z ≤ B (e i)) |>.trans (by simp)
theorem most_comp {ι κ : Type} (e : κ ≃ ι) (A B : ι → EReal) : most (fun k => A (e k)) (fun k => B (e k)) = most A B :=
  eq_of_forall_ge_iff fun z => by rw [most_le, most_le]; exact e.forall_congr_left (p := fun i => A (e i) ≤ z ∧ B (e i) ≤ z) |>.trans (by simp)

/-- Of finite elements the least and the greatest are finite. -/
theorem least_real {ι : Type} [Finite ι] [Nonempty ι] (A B : ι → EReal) (hA : ∀ i, ∃ r : ℝ, A i = r) (hB : ∀ i, ∃ r : ℝ, B i = r) : ∃ r : ℝ, least A B = r := by
  unfold least
  obtain ⟨i, hi⟩ := exists_eq_ciInf_of_finite (f := A)
  obtain ⟨j, hj⟩ := exists_eq_ciInf_of_finite (f := B)
  rw [← hi, ← hj]
  rcases min_choice (A i) (B j) with h | h <;> rw [h]
  · exact hA i
  · exact hB j
theorem most_real {ι : Type} [Finite ι] [Nonempty ι] (A B : ι → EReal) (hA : ∀ i, ∃ r : ℝ, A i = r) (hB : ∀ i, ∃ r : ℝ, B i = r) : ∃ r : ℝ, most A B = r := by
  unfold most
  obtain ⟨i, hi⟩ := exists_eq_ciSup_of_finite (f := A)
  obtain ⟨j, hj⟩ := exists_eq_ciSup_of_finite (f := B)
  rw [← hi, ← hj]
  rcases max_choice (A i) (B j) with h | h <;> rw [h]
  · exact hA i
  · exact hB j

end Cert.Proof.Hist

end
-- ==== Proof.Sums.lean ====
/-
  What the scatter-adds sum to, over the extended reals: each address of a tile's table ends at the number of its
  elements of the first array less that of the second.
-/
module

public import proofs.«01_k».proof.Proof.Extremes

@[expose] public section

noncomputable section

namespace Cert.Proof.Hist

open Cert.KernelIdeal Cert.KernelIdeal.Gen
open Idealize.ShloMosaic

attribute [local irreducible] mmRun countRun

/-- A masked scatter-add: every address gains the values of the set lanes that name it. -/
theorem storeIdx_sum {s : Shape} {d : Fin 1 → ℕ} (f : Vec Ideal s .f32) (idxs : Fin s.rank → IVec ⟨1, d⟩ 32) (v : Vec Ideal ⟨1, d⟩ .f32) (mask : IVec ⟨1, d⟩ 1)
    (h : ∀ a x, (idxs a x).toNat < s.size a) (j : s.Idx) :
    storeIdx f idxs v mask true h j
      = (f j + ∑ k : Fin (d 0), if mask (Shape.ofLane k) = 1 ∧ (∀ a, (j a).val = (idxs a (Shape.ofLane k)).toNat) then (v (Shape.ofLane k) : EReal) else 0 : EReal) := by
  rw [Fin.sum_univ_def]
  unfold storeIdx
  generalize List.finRange (d 0) = L
  induction L generalizing f with
  | nil => simp
  | cons k L ih =>
    rw [List.foldl_cons, ih, List.map_cons, List.sum_cons, ← add_assoc]
    congr 1
    by_cases hm : mask (Shape.ofLane k) = 1
    · simp only [hm, if_true, true_and]
      by_cases hj : ∀ a, (j a).val = (idxs a (Shape.ofLane k)).toNat
      · have e : idxAt idxs h (Shape.ofLane k) = j := funext fun a => Fin.ext (hj a).symm
        rw [if_pos hj, e, if_pos fun a => rfl]
        rfl
      · rw [if_neg hj, if_neg (by exact hj)]
        exact (add_zero _).symm
    · simp only [hm, if_false, false_and]
      exact (add_zero _).symm

/-- One lane of sixteen. -/
abbrev ln (l : ℕ) (hl : l < 16) : S16.Idx := fun | 0 => ⟨l, hl⟩

theorem scaled_apply (lo wd : EReal) (x : Vec Ideal S16 .f32) (j : S16.Idx) :
    scaled (fun _ => lo) (fun _ => wd) x j = Ideal.fptosi 32 (place lo wd (x j)) := rfl

theorem slot_lane (lo wd : EReal) (x : Vec Ideal S16 .f32) (j : S16.Idx) :
    (slotOf (fun _ => lo) (fun _ => wd) lanes x j).toNat = (kbin lo wd (x j)).toNat * 16 + (j 0).val := by
  rw [slot_val, scaled_apply]
  unfold kbin
  rfl

theorem count_apply (lo wd c : EReal) (x : Vec Ideal S16 .f32) (h : Vec Ideal S1600 .f32) (a : S1600.Idx) :
    count (fun _ => lo) (fun _ => wd) (fun _ => c) x h a
      = (h a + ∑ l : Fin 16, if lo ≤ x (ln l.val l.isLt) ∧ (kbin lo wd (x (ln l.val l.isLt))).toNat * 16 + l.val = (a 0).val then c else 0 : EReal) := by
  unfold count
  rw [storeIdx_sum]
  congr 1
  refine Finset.sum_congr rfl fun l _ => ?_
  refine if_congr (and_congr ?_ ?_) rfl rfl
  · show Ideal.cmp .oge (x (Shape.ofLane l)) lo = 1 ↔ _
    have e : (Shape.ofLane l : S16.Idx) = ln l.val l.isLt := by
      funext a; fin_cases a; rfl
    rw [e]
    unfold Ideal.cmp
    by_cases hh : lo ≤ x (ln l.val l.isLt) <;> simp [hh]
  · have e : (Shape.ofLane l : S16.Idx) = ln l.val l.isLt := by
      funext a; fin_cases a; rfl
    rw [e]
    have e' := slot_lane lo wd x (ln l.val l.isLt)
    generalize slotOf (fun _ => lo) (fun _ => wd) lanes x = v at e'
    have e2 : ∀ b : Fin S1600.rank, b = 0 := fun b => Subsingleton.elim _ _
    constructor
    · intro hh
      exact e'.symm.trans (hh 0).symm
    · intro hh b
      rw [e2 b]
      exact hh.symm.trans e'.symm

unseal countRun in
theorem countRun_succ (lo wd val : Vec Ideal S16 .f32) (p : ℕ → Vec Ideal S16 .f32) (h : Vec Ideal S1600 .f32) (n : ℕ) :
    countRun lo wd val p h (n + 1) = count lo wd val (p n) (countRun lo wd val p h n) := rfl
unseal countRun in
theorem countRun_none (lo wd val : Vec Ideal S16 .f32) (p : ℕ → Vec Ideal S16 .f32) (h : Vec Ideal S1600 .f32) :
    countRun lo wd val p h 0 = h := rfl

/-- The value an element at `i` of the array brings to bin `b`. -/
def hit (lo wd c x : EReal) (b : ℕ) : EReal := if lo ≤ x ∧ (kbin lo wd x).toNat = b then c else 0

/-- Bin `b`'s address in lane `l` gains from that lane alone. -/
theorem countRun_apply (lo wd c : EReal) (X : Vec Ideal S96x512x512 .f32) (w : ℕ) (h : Vec Ideal S1600 .f32) (n : ℕ) (a : S1600.Idx) (b l : ℕ) (hl : l < 16)
    (ha : (a 0).val = b * 16 + l) :
    countRun (fun _ => lo) (fun _ => wd) (fun _ => c) (piece X w) h n a = (h a + ∑ k ∈ Finset.range n, hit lo wd c (X (pos w k l)) b : EReal) := by
  induction n with
  | zero => rw [countRun_none]; simp
  | succ n ih =>
    rw [countRun_succ, count_apply, ih, Finset.sum_range_succ, ← add_assoc]
    congr 1
    rw [Finset.sum_eq_single (⟨l, hl⟩ : Fin 16)]
    · refine if_congr (and_congr_right fun _ => ?_) rfl rfl
      show (kbin lo wd (X (pos w n l))).toNat * 16 + l = _ ↔ (kbin lo wd (X (pos w n l))).toNat = b
      omega
    · intro l' _ hne
      have hne' : l'.val ≠ l := fun e => hne (Fin.ext e)
      have := l'.isLt
      rw [if_neg]
      rintro ⟨_, h2⟩
      omega
    · intro hh; exact absurd (Finset.mem_univ _) hh

/-- A tile's table at bin `b`, lane `l`. -/
theorem histTile_apply (Xp Xt : Vec Ideal S96x512x512 .f32) (B : Vec Ideal S32 .f32) (lo wd : EReal) (hlo : loOf B = fun _ => lo) (hwd : wdOf B = fun _ => wd)
    (w : ℕ) (a : S1600.Idx) (b l : ℕ) (hl : l < 16) (ha : (a 0).val = b * 16 + l) :
    histTile Xp Xt B w a = (∑ k : Fin 49152, (hit lo wd (1 : ℝ) (Xp (pos w k.val l)) b + hit lo wd (-1 : ℝ) (Xt (pos w k.val l)) b) : EReal) := by
  unfold histTile
  rw [hlo, hwd]
  have e1 : (ones : Vec Ideal S16 .f32) = fun _ => ((1 : ℝ) : EReal) := funext fun _ => one_word
  have e2 : (negs : Vec Ideal S16 .f32) = fun _ => ((-1 : ℝ) : EReal) := funext fun _ => neg_one_word
  rw [e1, e2]
  refine (countRun_apply lo wd _ Xt w _ 49152 a b l hl ha).trans ?_
  rw [countRun_apply lo wd _ Xp w _ 49152 a b l hl ha]
  have e0 : (zeros : Vec Ideal S1600 .f32) a = (0 : EReal) := Ideal.ofBits_zero_f32
  rw [e0, zero_add, Finset.sum_range, Finset.sum_range, Finset.sum_add_distrib]

/-- Bin `b` over all the tiles and lanes: the elements of the first array in it less those of the second. -/
theorem hist_total (Xp Xt : Vec Ideal S96x512x512 .f32) (B : Vec Ideal S32 .f32) (lo wd : EReal) (hlo : loOf B = fun _ => lo) (hwd : wdOf B = fun _ => wd)
    (b : ℕ) (hb : b < 100) :
    (∑ w : Fin 32, ∑ l : Fin 16, (histOf Xp Xt B (fun | 0 => ⟨w.val, w.isLt⟩ | 1 => ⟨b * 16 + l.val, by have := l.isLt; show _ < 1600; omega⟩ : S32x1600.Idx) : EReal))
      = ∑ i, hit lo wd (1 : ℝ) (Xp i) b + ∑ i, hit lo wd (-1 : ℝ) (Xt i) b := by
  rw [← Finset.sum_add_distrib, ← sum_pos fun i => hit lo wd (1 : ℝ) (Xp i) b + hit lo wd (-1 : ℝ) (Xt i) b]
  refine Finset.sum_congr rfl fun w _ => ?_
  rw [Finset.sum_comm]
  refine Finset.sum_congr rfl fun l _ => ?_
  exact histTile_apply Xp Xt B lo wd hlo hwd w.val _ b l.val l.isLt rfl

/-- How many elements of a family lie at or above the low end in bin `b`. -/
def number {ι : Type} [Fintype ι] (lo wd : EReal) (X : ι → EReal) (b : ℕ) : ℝ := ∑ i, if lo ≤ X i ∧ (kbin lo wd (X i)).toNat = b then 1 else 0

theorem coe_sum' {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

theorem sum_hit {ι : Type} [Fintype ι] (lo wd : EReal) (c : ℝ) (X : ι → EReal) (b : ℕ) :
    ∑ i, hit lo wd c (X i) b = ((c * number lo wd X b : ℝ) : EReal) := by
  unfold number
  rw [Finset.mul_sum, ← coe_sum']
  refine Finset.sum_congr rfl fun i _ => ?_
  unfold hit
  split_ifs <;> simp

end Cert.Proof.Hist

end
-- ==== Proof.RefVal.lean ====
/-
  The reference's counts, over the extended reals: its accumulating scatter ends each bin at the number of elements at
  or above the low end whose bin it is, in the kernel's own reading of the bin.
-/
module

public import proofs.«01_k».proof.Proof.Sums
public import proofs.«01_k».proof.Proof.Gen.ReferenceIdeal.Run

@[expose] public section

noncomputable section

namespace Cert.Proof.Hist

open Cert.ReferenceIdeal Cert.ReferenceIdeal.Gen
open Idealize.ShloMosaic

/-- The bins of the reference, of every element. -/
def binsR (X : FVec Ideal S32x3x512x512 .f32) (lo hi : FVec Ideal S_ .f32) : IVec S32x3x512x512 32 :=
  minsi (broadcastInDim S32x3x512x512 ![] bcast_S_S32x3x512x512 (id (constantI S_ 32 99#32)))
    (maxsi (broadcastInDim S32x3x512x512 ![] bcast_S_S32x3x512x512 (id (constantI S_ 32 0#32)))
      (select (cmpf .oge X (broadcastInDim S32x3x512x512 ![] bcast_S_S32x3x512x512 hi)) (broadcastInDim S32x3x512x512 ![] bcast_S_S32x3x512x512 (id (constantI S_ 32 99#32)))
        (fptosi 32 (Host.floor (mulf (Host.divf (subf X (broadcastInDim S32x3x512x512 ![] bcast_S_S32x3x512x512 lo)) (broadcastInDim S32x3x512x512 ![] bcast_S_S32x3x512x512 (subf hi lo)))
          (broadcastInDim S32x3x512x512 ![] bcast_S_S32x3x512x512 (constant S_ .f32 0x42C80000#32)))))))

/-- The scatter's index words, one for each element. -/
def wordsR (X : FVec Ideal S32x3x512x512 .f32) (lo hi : FVec Ideal S_ .f32) : IVec S25165824 32 :=
  select (cmpi .slt (shapeCast S25165824 (binsR X lo hi) shapeCasts_S32x3x512x512_S25165824) (broadcastInDim S25165824 ![] bcast_S_S25165824 (constantI S_ 32 0#32)))
    (addi (shapeCast S25165824 (binsR X lo hi) shapeCasts_S32x3x512x512_S25165824) (broadcastInDim S25165824 ![] bcast_S_S25165824 (constantI S_ 32 100#32)))
    (shapeCast S25165824 (binsR X lo hi) shapeCasts_S32x3x512x512_S25165824)

/-- What each element adds. -/
def addsR (X : FVec Ideal S32x3x512x512 .f32) (lo hi : FVec Ideal S_ .f32) : FVec Ideal S25165824 .f32 :=
  shapeCast S25165824 (uitofp .f32 (andi (cmpf .oge X (broadcastInDim S32x3x512x512 ![] bcast_S_S32x3x512x512 lo)) (cmpf .ole X (broadcastInDim S32x3x512x512 ![] bcast_S_S32x3x512x512 hi))))
    shapeCasts_S32x3x512x512_S25165824

/-- The reference's histogram of one array. -/
def countsR (X : FVec Ideal S32x3x512x512 .f32) (lo hi : FVec Ideal S_ .f32) : FVec Ideal S100 .f32 :=
  Host.scatterAdd scatter_S100_S25165824x1_S25165824_n_0_0_1 (broadcastInDim S100 ![] bcast_S_S100 (constant S_ .f32 0x00000000#32))
    (broadcastInDim S25165824x1 ![0] bcast_S25165824_S25165824x1_0 (wordsR X lo hi)) (addsR X lo hi)

def loR (A B : FVec Ideal S32x3x512x512 .f32) : FVec Ideal S_ .f32 :=
  addf (minimumf (Host.reduce FloatOps.minimumf A (constant S_ .f32 0x7F800000#32) reducesTo_S32x3x512x512_S_d0_1_2_3 h_S_)
    (Host.reduce FloatOps.minimumf B (constant S_ .f32 0x7F800000#32) reducesTo_S32x3x512x512_S_d0_1_2_3 h_S_)) (constant S_ .f32 0x3DCCCCCD#32)
def hiR (A B : FVec Ideal S32x3x512x512 .f32) : FVec Ideal S_ .f32 :=
  maximumf (Host.reduce FloatOps.maximumf A (constant S_ .f32 0xFF800000#32) reducesTo_S32x3x512x512_S_d0_1_2_3 h_S_)
    (Host.reduce FloatOps.maximumf B (constant S_ .f32 0xFF800000#32) reducesTo_S32x3x512x512_S_d0_1_2_3 h_S_)

theorem res_eq (m : (ℓ : Loc nD τ sig) → Buf (Elt Ideal) ℓ) (c : Dev nD) (A B : FVec Ideal S32x3x512x512 .f32)
    (hA : m ((c.tc : Thread nD τ).loc main_arg0) = A) (hB : m ((c.tc : Thread nD τ).loc main_arg1) = B) :
    Cert.ReferenceIdeal.Value.res_main_v68 m c
      = Host.divf (Host.reduceAdd (Host.absf (subf (countsR A (loR A B) (hiR A B)) (countsR B (loR A B) (hiR A B))))
          (constant S_ .f32 0x00000000#32) reducesTo_S100_S_d0 h_S_) (constant S_ .f32 0x42C80000#32) := by
  unfold Cert.ReferenceIdeal.Value.res_main_v68
  rw [hA, hB]
  rfl

/-- A broadcast read at `j` is the array at the index `k` that drops the added axes. -/
theorem bcast_read {α : Type} {s t : Shape} (d : Fin s.rank → Fin t.rank) (h : s.BroadcastsInDim t d) (x : s.Idx → α) (j : t.Idx) (k : s.Idx)
    (hk : ∀ a : Fin s.rank, (k a).val = if s.size a = 1 then 0 else (j (d a)).val) : broadcastInDim t d h x j = x k := by
  unfold broadcastInDim
  congr 1
  funext a
  apply Fin.ext
  rw [hk a]
  split_ifs <;> rfl

/-- An update lands at the bin its word names. -/
theorem lands (x : IVec S25165824 32) (j : S25165824.Idx) (b : S100.Idx) :
    scatter_S100_S25165824x1_S25165824_n_0_0_1.resultIdx? j (broadcastInDim S25165824x1 ![0] bcast_S25165824_S25165824x1_0 x) = some b
      ↔ (x j).toInt = ((b 0).val : ℤ) := by
  have hst : ∀ a, scatter_S100_S25165824x1_S25165824_n_0_0_1.start j (broadcastInDim S25165824x1 ![0] bcast_S25165824_S25165824x1_0 x) a = (x j).toInt := by
    intro a
    have ha : a ∈ scatter_S100_S25165824x1_S25165824_n_0_0_1.scatterDimsToOperandDims := by
      rw [show a = 0 from Subsingleton.elim _ _]; exact List.mem_singleton.2 rfl
    unfold ScatterDims.start
    rw [dif_pos ha]
    congr 1
    refine bcast_read _ _ _ _ j fun q => ?_
    have hq : q = 0 := Subsingleton.elim _ _
    subst hq
    rw [if_neg (by decide)]
    unfold ScatterDims.siIdx
    rw [dif_neg (by decide)]
    unfold ScatterDims.siCoord
    have e : ∀ r : Fin S25165824.rank, (j 0).val = (j r).val := fun r => by rw [show r = 0 from Subsingleton.elim _ _]
    exact e _
  have hwin : ∀ a, scatter_S100_S25165824x1_S25165824_n_0_0_1.window j a = 0 := by
    intro a
    unfold ScatterDims.window
    rw [dif_neg]
    rw [show a = 0 from Subsingleton.elim _ _]
    unfold ScatterDims.sKept scatter_S100_S25165824x1_S25165824_n_0_0_1
    decide
  have hsz : ∀ a : Fin S100.rank, S100.size a = 100 := fun a => by rw [show a = 0 from Subsingleton.elim _ _]; rfl
  have hb : (b 0).val < 100 := (b 0).isLt
  unfold ScatterDims.resultIdx?
  simp only [hst, hwin, hsz]
  split
  · next h =>
    have h0 := h 0
    rw [Option.some_inj]
    constructor
    · intro e
      have := congrArg (fun f => (f 0).val) e
      simp only at this
      omega
    · intro e
      funext a
      have ha : a = 0 := Subsingleton.elim _ _
      subst ha
      apply Fin.ext
      show ((x j).toInt + ((0 : ℕ) : ℤ)).toNat = (b 0).val
      omega
  · next h =>
    constructor
    · intro e; cases e
    · intro e
      refine absurd (fun a => ?_) h
      have ha : a = 0 := Subsingleton.elim _ _
      subst ha
      show 0 ≤ (x j).toInt + ((0 : ℕ) : ℤ) ∧ (x j).toInt + ((0 : ℕ) : ℤ) < ((100 : ℕ) : ℤ)
      omega

/-- A rank-zero array's one element. -/
def pt (x : FVec Ideal S_ .f32) : EReal := x (fun a => a.elim0)

theorem bcast_scalar {α : Type} {t : Shape} (d : Fin S_.rank → Fin t.rank) (h : S_.BroadcastsInDim t d) (x : S_.Idx → α) (j : t.Idx) :
    broadcastInDim t d h x j = x (fun a => a.elim0) := by
  unfold broadcastInDim
  congr 1
  funext a
  exact a.elim0

theorem bins_read {s : Shape} (X H L W K : FVec Ideal s .f32) (a b c : IVec s 32) (i : s.Idx) (lv hv : EReal) (hH : H i = hv) (hL : L i = lv)
    (hW : W i = hv - lv) (hK : K i = Ideal.ofBits .f32 0x42C80000#32) (ha : a i = 99#32) (hb : b i = 0#32) (hc : c i = 99#32) :
    minsi a (maxsi b (select (cmpf .oge X H) c (fptosi 32 (Host.floor (mulf (Host.divf (subf X L) W) K))))) i = rbin lv hv (X i) := by
  show IntOp.minsi (a i) (IntOp.maxsi (b i) (Scalar.select (Ideal.cmp .oge (X i) (H i)) (c i)
    (Ideal.fptosi 32 (Ideal.liftRound Int.floor (Ideal.div (X i - L i) (W i) * K i))))) = _
  rw [hH, hL, hW, hK, ha, hb, hc]
  rfl

theorem binsR_apply (X : FVec Ideal S32x3x512x512 .f32) (lo hi : FVec Ideal S_ .f32) (i : S32x3x512x512.Idx) :
    binsR X lo hi i = rbin (pt lo) (pt hi) (X i) :=
  bins_read _ _ _ _ _ _ _ _ i _ _ (bcast_scalar _ _ _ _) (bcast_scalar _ _ _ _) (bcast_scalar _ _ (subf hi lo) _) (bcast_scalar _ _ _ _)
    (bcast_scalar _ _ _ _) (bcast_scalar _ _ _ _) (bcast_scalar _ _ _ _)

theorem words_read {t : Shape} (v z h : IVec t 32) (j : t.Idx) (hz : z j = 0#32) (h0 : 0 ≤ (v j).toInt) :
    select (cmpi .slt v z) (addi v h) v j = v j := by
  show Scalar.select (BitVec.ofBool ((v j).slt (z j))) _ (v j) = v j
  rw [hz]
  have : (v j).slt 0#32 = false := by
    rw [← Bool.not_eq_true, slt_iff]
    have : (0#32 : BitVec 32).toInt = 0 := by decide
    omega
  rw [this]
  rfl

theorem cast_read {α : Type} {s t : Shape} (x : s.Idx → α) (h : s.ShapeCasts t) (j : t.Idx) : shapeCast t x h j = x (Shape.reshapeEquiv h j) := rfl

theorem wordsR_apply (X : FVec Ideal S32x3x512x512 .f32) (lo hi : FVec Ideal S_ .f32) (j : S25165824.Idx) :
    wordsR X lo hi j = rbin (pt lo) (pt hi) (X (Shape.reshapeEquiv shapeCasts_S32x3x512x512_S25165824 j)) := by
  have e : shapeCast S25165824 (binsR X lo hi) shapeCasts_S32x3x512x512_S25165824 j = _ := (cast_read _ _ j).trans (binsR_apply X lo hi _)
  refine (words_read _ _ _ j (bcast_scalar _ _ _ _) ?_).trans e
  rw [e]
  exact (rbin_range _ _ _).1

theorem adds_read {s : Shape} (X L H : FVec Ideal s .f32) (i : s.Idx) (lv hv : EReal) (hL : L i = lv) (hH : H i = hv) :
    (uitofp (F := Ideal) .f32 (andi (cmpf .oge X L) (cmpf .ole X H)) i : EReal) = if lv ≤ X i ∧ X i ≤ hv then ((1 : ℝ) : EReal) else 0 := by
  show (((IntOp.andi (Ideal.cmp .oge (X i) (L i)) (Ideal.cmp .ole (X i) (H i))).toNat : ℝ) : EReal) = _
  rw [hL, hH]
  generalize X i = x
  unfold Ideal.cmp IntOp.andi
  by_cases h1 : lv ≤ x <;> by_cases h2 : x ≤ hv <;> simp [h1, h2]

theorem addsR_apply (X : FVec Ideal S32x3x512x512 .f32) (lo hi : FVec Ideal S_ .f32) (j : S25165824.Idx) :
    addsR X lo hi j = (if pt lo ≤ X (Shape.reshapeEquiv shapeCasts_S32x3x512x512_S25165824 j) ∧ X (Shape.reshapeEquiv shapeCasts_S32x3x512x512_S25165824 j) ≤ pt hi
      then ((1 : ℝ) : EReal) else 0) :=
  (cast_read _ _ j).trans (adds_read X _ _ _ _ _ (bcast_scalar _ _ _ _) (bcast_scalar _ _ _ _))

theorem scatter_read {s si u : Shape} (d : ScatterDims s si u) (x : FVec Ideal s .f32) (idx : IVec si 32) (upd : FVec Ideal u .f32) (i : s.Idx) :
    (Host.scatterAdd d x idx upd i : EReal) = x i + ∑ j ∈ Finset.univ.filter (fun j => d.resultIdx? j idx = some i), upd j := rfl

/-- The sum of what lands at a bin is the number of elements there. -/
theorem landed {κ ι : Type} [Fintype κ] [Fintype ι] (e : κ ≃ ι) (land : κ → Prop) [DecidablePred land] (upd : κ → EReal) (X : ι → EReal) (rl rh : ℝ) (b : ℕ) (z : EReal)
    (hz : z = 0) (hl : ∀ j, land j ↔ (rbin rl rh (X (e j))).toInt = (b : ℤ)) (hu : ∀ j, upd j = if (rl : EReal) ≤ X (e j) ∧ X (e j) ≤ rh then ((1 : ℝ) : EReal) else 0)
    (hX : ∀ i, ∃ r : ℝ, X i = (r : EReal)) (hle : ∀ i, X i ≤ rh) :
    z + ∑ j ∈ Finset.univ.filter land, upd j = ((number (rl : EReal) ((rh : EReal) - rl) X b : ℝ) : EReal) := by
  rw [hz, zero_add, Finset.sum_filter]
  unfold number
  rw [← coe_sum', ← e.sum_comp]
  refine Finset.sum_congr rfl fun j _ => ?_
  rw [if_congr (hl j) rfl rfl, hu]
  obtain ⟨x, hx⟩ := hX (e j)
  have h2 := hle (e j)
  rw [hx] at h2 ⊢
  by_cases h1 : (rl : EReal) ≤ x
  · rw [rbin_eq rl rh x (EReal.coe_le_coe_iff.1 h1) (EReal.coe_le_coe_iff.1 h2)]
    simp only [h1, h2, true_and, and_self, if_true, Nat.cast_inj]
    split_ifs <;> simp
  · simp [h1]

/-- The reference's histogram counts, in bin `b`, the elements at or above the low end whose bin is `b`. -/
theorem countsR_apply (X : FVec Ideal S32x3x512x512 .f32) (lo hi : FVec Ideal S_ .f32) (rl rh : ℝ) (hl : pt lo = rl) (hh : pt hi = rh)
    (hX : ∀ i, ∃ r : ℝ, X i = (r : EReal)) (hle : ∀ i, (X i : EReal) ≤ rh) (b : S100.Idx) :
    countsR X lo hi b = ((number (rl : EReal) ((rh : EReal) - rl) X (b 0).val : ℝ) : EReal) :=
  (scatter_read _ _ _ _ b).trans
    (landed (Shape.reshapeEquiv shapeCasts_S32x3x512x512_S25165824) _ (addsR X lo hi) X rl rh (b 0).val _ ((bcast_scalar _ _ _ b).trans Ideal.ofBits_zero_f32)
      (fun j => by rw [← hl, ← hh, ← wordsR_apply]; exact lands _ j b) (fun j => by rw [← hl, ← hh]; exact addsR_apply X lo hi j) hX hle)

theorem pt_low (x y : FVec Ideal S_ .f32) (w : BitVec 32) (v : EReal) (h : min (pt x) (pt y) = v) :
    pt (addf (minimumf x y) (constant S_ .f32 w)) = v + Ideal.ofBits .f32 w := by rw [← h]; rfl
theorem pt_high (x y : FVec Ideal S_ .f32) : pt (maximumf x y) = max (pt x) (pt y) := rfl

theorem pt_loR (A B : FVec Ideal S32x3x512x512 .f32) : pt (loR A B) = least A B + Ideal.ofBits .f32 0x3DCCCCCD#32 := by
  unfold loR
  refine pt_low _ _ _ _ ?_
  refine eq_of_forall_le_iff fun z => ?_
  rw [le_min_iff, le_least, forall_and]
  exact and_congr (le_reduceMin _ _ (fun _ => top_word) _ _ scalar_idx _ _) (le_reduceMin _ _ (fun _ => top_word) _ _ scalar_idx _ _)

theorem pt_hiR (A B : FVec Ideal S32x3x512x512 .f32) : pt (hiR A B) = most A B := by
  unfold hiR
  refine (pt_high _ _).trans ?_
  refine eq_of_forall_ge_iff fun z => ?_
  rw [max_le_iff, most_le, forall_and]
  exact and_congr (reduceMax_le _ _ (fun _ => bot_word) _ _ scalar_idx _ _) (reduceMax_le _ _ (fun _ => bot_word) _ _ scalar_idx _ _)

end Cert.Proof.Hist

end
-- ==== Proof.Value.lean ====
/-
  The two programs' results are the same number, over the extended reals, when every element is finite: the kernel's
  table of signed counts adds up, bin by bin, to the difference of the reference's two histograms.
-/
module

public import proofs.«01_k».proof.Proof.Frames
public import proofs.«01_k».proof.Proof.RefVal
public import Idealize.ShloMosaic.Lib.Pipeline.Value

@[expose] public section

noncomputable section

namespace Cert.Proof.Hist

open Cert.KernelIdeal Cert.KernelIdeal.Gen
open Idealize.ShloMosaic Idealize.SL.Sem

attribute [local irreducible] mmRun countRun mmAcc histTile minsOf maxsOf histOf

/-! ### The bounds the second call reads -/

theorem low_read (A B : Vec Ideal S32x16 .f32) (j : S16.Idx) : loOf (parT A B) j = pt (loT A) := by
  unfold loOf parT
  refine (concatenate_pair_apply_left (t := S32) (s₁ := S16) (s₂ := S16) 0 _ _ _ _ rfl j fun b => ?_).trans (bcast_scalar _ _ _ _)
  have hb : b = 0 := Subsingleton.elim _ _
  subst hb
  refine (?_ : (j 0).val = ((Rect.unit (s := S32) ![0] S16.size inb_S32_S16_0).emb j 0).val)
  rw [Rect.emb_apply]
  show (j 0).val = 0 + 1 * (j 0).val
  omega

theorem width_read (A B : Vec Ideal S32x16 .f32) (j : S16.Idx) : wdOf (parT A B) j = pt (wdT A B) := by
  unfold wdOf parT
  refine (concatenate_pair_apply_right (t := S32) (s₁ := S16) (s₂ := S16) 0 _ _ _ _ rfl rfl j (fun b hb => absurd (Subsingleton.elim _ _) hb) ?_).trans (bcast_scalar _ _ _ _)
  refine (?_ : (j 0).val + 16 = ((Rect.unit (s := S32) ![16] S16.size inb_S32_S16_16).emb j 0).val)
  rw [Rect.emb_apply]
  show (j 0).val + 16 = 16 + 1 * (j 0).val
  omega

theorem pt_sum (x : FVec Ideal S_ .f32) (w : BitVec 32) (v : EReal) (h : pt x = v) : pt (addf x (constant S_ .f32 w)) = v + Ideal.ofBits .f32 w := by
  rw [← h]; rfl
theorem pt_diff (x y : FVec Ideal S_ .f32) : pt (subf x y) = pt x - pt y := rfl

theorem pt_loT (Xp Xt : Vec Ideal S96x512x512 .f32) : pt (loT (minsOf Xp Xt)) = least Xp Xt + Ideal.ofBits .f32 0x3DCCCCCD#32 := by
  unfold loT
  exact pt_sum _ _ _ (reduce_mins Xp Xt _)

theorem pt_wdT (Xp Xt : Vec Ideal S96x512x512 .f32) :
    pt (wdT (minsOf Xp Xt) (maxsOf Xp Xt)) = most Xp Xt - (least Xp Xt + Ideal.ofBits .f32 0x3DCCCCCD#32) := by
  unfold wdT
  rw [← pt_loT]
  refine (pt_diff _ _).trans ?_
  exact congrArg (fun z : EReal => z - pt (loT (minsOf Xp Xt))) (reduce_maxs Xp Xt _)

/-! ### Adding up the table -/

/-- One bin of the kernel's host sum: over the workers and the lanes. -/
theorem table_read (H : Vec Ideal S32x1600 .f32) (b : S100.Idx) :
    (Host.reduceAdd (shapeCast S32x100x16 H shapeCasts_S32x1600_S32x100x16 : FVec Ideal S32x100x16 .f32) (constant S_ .f32 0x00000000#32) reducesTo_S32x100x16_S100_d0_2 h_S_ b : EReal)
      = ∑ w : Fin 32, ∑ l : Fin 16, (H (fun | 0 => ⟨w.val, w.isLt⟩ | 1 => ⟨(b 0).val * 16 + l.val, by have := l.isLt; have : (b 0).val < 100 := (b 0).isLt; show _ < 1600; omega⟩ : S32x1600.Idx) : EReal) := by
  have e0 : (constant (F := Ideal) S_ .f32 0x00000000#32 (Shape.Idx.first h_S_) : EReal) = 0 := Ideal.ofBits_zero_f32
  show (constant (F := Ideal) S_ .f32 0x00000000#32 (Shape.Idx.first h_S_) : EReal)
    + ∑ i ∈ Finset.univ.filter (fun i => reducesTo_S32x100x16_S100_d0_2.drop i = b), (shapeCast S32x100x16 H shapeCasts_S32x1600_S32x100x16 i : EReal) = _
  rw [e0, zero_add, ← Fintype.sum_prod_type' (f := fun (w : Fin 32) (l : Fin 16) => (H (fun | 0 => ⟨w.val, w.isLt⟩ | 1 => ⟨(b 0).val * 16 + l.val, by have := l.isLt; have : (b 0).val < 100 := (b 0).isLt; show _ < 1600; omega⟩ : S32x1600.Idx) : EReal))]
  have hd : ∀ i : S32x100x16.Idx, (reducesTo_S32x100x16_S100_d0_2.drop i 0).val = (i 1).val := fun i =>
    Shape.ReducesTo.drop_apply_val_of_eq _ i 0 1 (by decide)
  refine Finset.sum_nbij' (fun i => ((⟨(i 0).val, (i 0).isLt⟩ : Fin 32), (⟨(i 2).val, (i 2).isLt⟩ : Fin 16)))
    (fun p => fun | 0 => ⟨p.1.val, p.1.isLt⟩ | 1 => ⟨(b 0).val, (b 0).isLt⟩ | 2 => ⟨p.2.val, p.2.isLt⟩) (fun _ _ => Finset.mem_univ _) (fun p _ => ?_)
    (fun i hi => ?_) (fun p _ => rfl) (fun i hi => ?_)
  · refine Finset.mem_filter.2 ⟨Finset.mem_univ _, funext fun q => ?_⟩
    have hq : q = 0 := Subsingleton.elim _ _
    subst hq
    exact Fin.ext (hd _)
  · have h1 : (i 1).val = (b 0).val := by rw [← hd, (Finset.mem_filter.1 hi).2]
    funext q
    match q with
    | 0 => rfl
    | 1 => exact Fin.ext h1.symm
    | 2 => rfl
  · have h1 : (i 1).val = (b 0).val := by rw [← hd, (Finset.mem_filter.1 hi).2]
    refine shapeCast_apply _ _ _ _ ?_
    rw [Shape.rowMajor_val_two, Shape.rowMajor_val_three]
    show (i 0).val * 1600 + ((b 0).val * 16 + (i 2).val) = ((i 0).val * 100 + (i 1).val) * 16 + (i 2).val
    omega

theorem number_comp {ι κ : Type} [Fintype ι] [Fintype κ] (e : κ ≃ ι) (lo wd : EReal) (X : ι → EReal) (b : ℕ) :
    number lo wd (fun k => X (e k)) b = number lo wd X b := by
  unfold number
  exact e.sum_comp fun i => if lo ≤ X i ∧ (kbin lo wd (X i)).toNat = b then (1 : ℝ) else 0

/-- One bin of the table is the difference of the two counts. -/
theorem bin_read (Xp Xt : Vec Ideal S96x512x512 .f32) (B : Vec Ideal S32 .f32) (lo wd : EReal) (hlo : ∀ j, loOf B j = lo) (hwd : ∀ j, wdOf B j = wd)
    (b : S100.Idx) :
    (Host.reduceAdd (shapeCast S32x100x16 (histOf Xp Xt B) shapeCasts_S32x1600_S32x100x16 : FVec Ideal S32x100x16 .f32) (constant S_ .f32 0x00000000#32) reducesTo_S32x100x16_S100_d0_2 h_S_ b : EReal)
      = ((number lo wd Xp (b 0).val - number lo wd Xt (b 0).val : ℝ) : EReal) := by
  refine (table_read _ b).trans ((hist_total Xp Xt B lo wd (funext hlo) (funext hwd) (b 0).val (b 0).isLt).trans ?_)
  rw [sum_hit, sum_hit, ← EReal.coe_add]
  congr 1
  ring

/-! ### The two results -/

theorem diff_read (x y : FVec Ideal S100 .f32) (b : S100.Idx) (p q : ℝ) (hp : x b = ((p : ℝ) : EReal)) (hq : y b = ((q : ℝ) : EReal)) :
    ((p - q : ℝ) : EReal) = subf x y b := by
  show _ = (x b - y b : EReal)
  rw [hp, hq, EReal.coe_sub]

theorem le_most {ι : Type} (A B : ι → EReal) (i : ι) : A i ≤ most A B ∧ B i ≤ most A B := (most_le A B _).1 le_rfl i

theorem value_eq (A B : FVec Ideal S32x3x512x512 .f32) (hA : ∀ i, ∃ r : ℝ, A i = (r : EReal)) (hB : ∀ i, ∃ r : ℝ, B i = (r : EReal))
    (Xp Xt : Vec Ideal S96x512x512 .f32) (hp : Xp = shapeCast S96x512x512 A shapeCasts_S32x3x512x512_S96x512x512)
    (ht : Xt = shapeCast S96x512x512 B shapeCasts_S32x3x512x512_S96x512x512) :
    meanT (histOf Xp Xt (parT (minsOf Xp Xt) (maxsOf Xp Xt)))
      = Host.divf (Host.reduceAdd (Host.absf (subf (countsR A (loR A B) (hiR A B)) (countsR B (loR A B) (hiR A B))))
          (constant S_ .f32 0x00000000#32) reducesTo_S100_S_d0 h_S_) (constant S_ .f32 0x42C80000#32) := by
  have : Nonempty S32x3x512x512.Idx := ⟨fun | 0 => ⟨0, by decide⟩ | 1 => ⟨0, by decide⟩ | 2 => ⟨0, by decide⟩ | 3 => ⟨0, by decide⟩⟩
  obtain ⟨mn, hmn⟩ := least_real A B hA hB
  obtain ⟨mx, hmx⟩ := most_real A B hA hB
  obtain ⟨t, htt⟩ := tenth_word
  have el : least Xp Xt = mn := by
    rw [hp, ht]; exact (least_comp (Shape.reshapeEquiv shapeCasts_S32x3x512x512_S96x512x512) A B).trans hmn
  have em : most Xp Xt = mx := by
    rw [hp, ht]; exact (most_comp (Shape.reshapeEquiv shapeCasts_S32x3x512x512_S96x512x512) A B).trans hmx
  have eplo : ∀ j, loOf (parT (minsOf Xp Xt) (maxsOf Xp Xt)) j = ((mn + t : ℝ) : EReal) := fun j => by
    rw [low_read, pt_loT, el, htt, EReal.coe_add]
  have epwd : ∀ j, wdOf (parT (minsOf Xp Xt) (maxsOf Xp Xt)) j = (mx : EReal) - ((mn + t : ℝ) : EReal) := fun j => by
    rw [width_read, pt_wdT, el, em, htt, EReal.coe_add]
  have erlo : pt (loR A B) = ((mn + t : ℝ) : EReal) := by rw [pt_loR, hmn, htt, EReal.coe_add]
  have erhi : pt (hiR A B) = (mx : EReal) := by rw [pt_hiR, hmx]
  have hX : (Host.reduceAdd (shapeCast S32x100x16 (histOf Xp Xt (parT (minsOf Xp Xt) (maxsOf Xp Xt))) shapeCasts_S32x1600_S32x100x16 : FVec Ideal S32x100x16 .f32) (constant S_ .f32 0x00000000#32) reducesTo_S32x100x16_S100_d0_2 h_S_)
      = subf (countsR A (loR A B) (hiR A B)) (countsR B (loR A B) (hiR A B)) := by
    funext b
    refine (bin_read Xp Xt _ _ _ eplo epwd b).trans ?_
    refine diff_read _ _ b _ _ ((countsR_apply A _ _ _ _ erlo erhi hA (fun i => hmx ▸ (le_most A B i).1) b).trans ?_)
      ((countsR_apply B _ _ _ _ erlo erhi hB (fun i => hmx ▸ (le_most A B i).2) b).trans ?_)
    · rw [hp]; exact congrArg (fun r : ℝ => (r : EReal)) (number_comp (Shape.reshapeEquiv shapeCasts_S32x3x512x512_S96x512x512) _ _ A _).symm
    · rw [ht]; exact congrArg (fun r : ℝ => (r : EReal)) (number_comp (Shape.reshapeEquiv shapeCasts_S32x3x512x512_S96x512x512) _ _ B _).symm
  unfold meanT
  rw [hX]

/-! ### The precondition, read -/

theorem all_true {s : Shape} {axes : List (Fin s.rank)} {t : Shape} (x : IVec s 1) (init : IVec S_ 1) (h : s.ReducesTo axes t) (hu : 0 < S_.numel)
    (ht : Subsingleton t.Idx) (j : t.Idx) (e : Host.reduce IntOp.andi x init h hu j = 1#1) (i : s.Idx) : x i = 1#1 := by
  haveI : Std.Commutative (IntOp.andi : BitVec 1 → BitVec 1 → BitVec 1) := ⟨fun a b => BitVec.and_comm a b⟩
  haveI : Std.Associative (IntOp.andi : BitVec 1 → BitVec 1 → BitVec 1) := ⟨fun a b c => BitVec.and_assoc a b c⟩
  rw [Host.reduce_eq_fold] at e
  have key : ∀ (S : Finset s.Idx) (z : BitVec 1), S.fold IntOp.andi z x = 1#1 → ∀ i ∈ S, x i = 1#1 := by
    classical
    intro S z
    induction S using Finset.induction_on with
    | empty => intro _ i hi; cases hi
    | insert a S ha ih =>
      rw [Finset.fold_insert ha]
      intro h' i hi
      have two : ∀ u v : BitVec 1, IntOp.andi u v = 1#1 → u = 1#1 ∧ v = 1#1 := by unfold IntOp.andi; decide
      obtain ⟨h1, h2⟩ := two _ _ h'
      rcases Finset.mem_insert.1 hi with rfl | hi
      · exact h1
      · exact ih h2 i hi
  exact key _ _ e i (Finset.mem_filter.2 ⟨Finset.mem_univ _, ht.elim _ _⟩)

theorem finite_read {s : Shape} (X T : FVec Ideal s .f32) (i : s.Idx) (hT : T i = (⊤ : EReal)) (h : cmpf .olt (Host.absf X) T i = 1#1) : ∃ r : ℝ, X i = (r : EReal) := by
  have h' : BitVec.ofBool (decide (max (X i : EReal) (-(X i : EReal)) < T i)) = 1#1 := h
  rw [hT] at h'
  have h'' : max (X i : EReal) (-(X i : EReal)) < ⊤ := by
    by_contra hc
    rw [decide_eq_false hc] at h'
    exact absurd h' (by decide)
  have h1 : (X i : EReal) ≠ ⊤ := fun e => by rw [e] at h''; simp at h''
  have h2 : (X i : EReal) ≠ ⊥ := fun e => by rw [e] at h''; simp at h''
  exact ⟨(X i : EReal).toReal, (EReal.coe_toReal h1 h2).symm⟩

theorem facts_finite : Cert.Pre_finite.Facts := ⟨Cert.ReferenceIdeal.Gen.bcast_S_S32x3x512x512, Cert.ReferenceIdeal.Gen.reducesTo_S32x3x512x512_S_d0_1_2_3, Cert.ReferenceIdeal.Gen.h_S_⟩

theorem one_array (X : FVec Ideal S32x3x512x512 .f32) (bc : S_.BroadcastsInDim S32x3x512x512 ![]) (h : S32x3x512x512.ReducesTo [0, 1, 2, 3] S_) (hu : 0 < S_.numel)
    (e : Host.reduce IntOp.andi (cmpf .olt (Host.absf X) (broadcastInDim S32x3x512x512 ![] bc (constant S_ .f32 0x7F800000#32))) (constantI S_ 1 1#1) h hu (fun a => a.elim0) = 1#1)
    (i : S32x3x512x512.Idx) : ∃ r : ℝ, X i = (r : EReal) :=
  finite_read X _ i ((bcast_scalar _ _ _ _).trans top_word) (all_true _ _ _ _ scalar_idx _ e i)

theorem both_true (x y : IVec S_ 1) (e : andi x y = fun _ => 1#1) : x (fun a => a.elim0) = 1#1 ∧ y (fun a => a.elim0) = 1#1 := by
  have two : ∀ u v : BitVec 1, IntOp.andi u v = 1#1 → u = 1#1 ∧ v = 1#1 := by unfold IntOp.andi; decide
  exact two _ _ (congrFun e fun a => a.elim0)

theorem finite_of_pre (A B : FVec Ideal S32x3x512x512 .f32) (e : @Cert.Pre_finite.fn facts_finite Ideal _ A B = fun _ => 1#1) :
    (∀ i, ∃ r : ℝ, A i = (r : EReal)) ∧ ∀ i, ∃ r : ℝ, B i = (r : EReal) :=
  have h := both_true _ _ e
  ⟨one_array A _ _ _ h.1, one_array B _ _ _ h.2⟩

/-! ### The claim -/

theorem hist_read (m : (ℓ : Loc nD τ sig) → Buf (Elt Ideal) ℓ) (d : Dev nD) :
    histAt m d = histOf (W1 m d rv0) (W1 m d rv1) (parT (minsOf (W1 m d rv0) (W1 m d rv1)) (maxsOf (W1 m d rv0) (W1 m d rv1))) := by
  unfold histAt
  rw [W3_v0, W3_v1, W3_v9]
  rfl

theorem algebraic : Cert.algebraic_KernelIdeal_ReferenceIdeal_pre_finite (hPre_finite := facts_finite) := by
  intro m g m' g' pre hin
  refine ⟨fun c => meanT (histAt m c), ?_, ?_⟩
  · exact (θ_run Cert.KernelIdeal.defs _ _).mono
      (fun _ h c => ⟨(h.1 c).2.2.trans (W5_v15 m c), (h.1 c).1.trans (W5_x0 m c), (h.1 c).2.1.trans (W5_x1 m c)⟩) (run_main (F := Ideal) m g)
  · refine (θ_run Cert.ReferenceIdeal.defs _ _).mono (fun _ h c => ⟨(h c).1.trans ?_, (h c).2⟩) (Cert.ReferenceIdeal.Value.run (F := Ideal) m' g')
    obtain ⟨hA, hB⟩ := finite_of_pre _ _ (pre c)
    refine (res_eq m' c _ _ (hin c).1 (hin c).2).trans ?_
    refine (value_eq _ _ hA hB _ _ (W1_v0 m c) (W1_v1 m c)).symm.trans ?_
    exact congrArg meanT (hist_read m c).symm

end Cert.Proof.Hist

end
-- ==== Proof.lean ====
/-
  The certificate: the frames of the three programs (Proof/Frames.lean) and the equality of the two results
  (Proof/Value.lean); nothing was rewritten, so `preserves` is trivial.
-/
module

public import proofs.«01_k».proof.Defs
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Hist.facts_finite,
  Hist.frame_kernel, Hist.frame_kernelIdeal, fun m g _ => Hist.frame_kernelIdeal m g trivial,
  Hist.frame_reference, fun m g _ => Hist.frame_reference m g trivial, trivial, Hist.algebraic⟩

end Cert.Proof

end
